-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_logits [hPre_finite_logits : Cert.Pre_finite_logits.Facts] (m : (ℓ : Loc Cert.KernelIdeal.nD Cert.KernelIdeal.τ Cert.KernelIdeal.sig) → Buf (Elt Ideal) ℓ) : Prop :=
  ∀ c : Dev Cert.KernelIdeal.nD,
    (Cert.Pre_finite_logits.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_logits [hPre_finite_logits : Cert.Pre_finite_logits.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_logits.fn (F := Ideal) (m ((c.tc : Thread Cert.ReferenceIdeal.nD Cert.ReferenceIdeal.τ).loc Cert.ReferenceIdeal.main_arg0))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_sampled [hPre_sampled : Cert.Pre_sampled.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_sampled.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_sampled [hPre_sampled : Cert.Pre_sampled.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_sampled.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite_logits [hKernelIdeal : Cert.KernelIdeal.Facts] [hPre_finite_logits : Cert.Pre_finite_logits.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_logits m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite_logits [hReferenceIdeal : Cert.ReferenceIdeal.Facts] [hPre_finite_logits : Cert.Pre_finite_logits.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_logits m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Kernel3Ideal_pre_sampled [hKernel3Ideal : Cert.Kernel3Ideal.Facts] [hPre_sampled : Cert.Pre_sampled.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_sampled m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Reference3Ideal_pre_sampled [hReference3Ideal : Cert.Reference3Ideal.Facts] [hPre_sampled : Cert.Pre_sampled.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_sampled m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def preserves_Kernel_KernelIdeal : Prop :=
  IdealRules.named_const.Statement Cert.KernelIdeal.κ "neg" .f32 0xF149F2CA#32 ⊥

def algebraic_KernelIdeal_ReferenceIdeal_pre_finite_logits [hKernelIdeal : Cert.KernelIdeal.Facts] [hReferenceIdeal : Cert.ReferenceIdeal.Facts] [hPre_finite_logits : Cert.Pre_finite_logits.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_logits m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)) →
    ∃ (v0 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v4) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0))

def preserves_Kernel3_Kernel3Ideal : Prop :=
  True

def algebraic_Kernel3Ideal_Reference3Ideal_pre_sampled [hKernel3Ideal : Cert.Kernel3Ideal.Facts] [hReference3Ideal : Cert.Reference3Ideal.Facts] [hPre_sampled : Cert.Pre_sampled.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_sampled m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v11)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v11) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v14) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite_logits : Cert.Pre_finite_logits.Facts) (hPre_sampled : Cert.Pre_sampled.Facts),
    quiescent_Kernel (hKernel := hKernel)
    ∧ quiescent_KernelIdeal (hKernelIdeal := hKernelIdeal)
    ∧ quiescent_KernelIdeal_pre_finite_logits (hKernelIdeal := hKernelIdeal) (hPre_finite_logits := hPre_finite_logits)
    ∧ quiescent_ReferenceIdeal (hReferenceIdeal := hReferenceIdeal)
    ∧ quiescent_ReferenceIdeal_pre_finite_logits (hReferenceIdeal := hReferenceIdeal) (hPre_finite_logits := hPre_finite_logits)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_sampled (hKernel3Ideal := hKernel3Ideal) (hPre_sampled := hPre_sampled)
    ∧ quiescent_Reference3Ideal (hReference3Ideal := hReference3Ideal)
    ∧ quiescent_Reference3Ideal_pre_sampled (hReference3Ideal := hReference3Ideal) (hPre_sampled := hPre_sampled)
    ∧ preserves_Kernel_KernelIdeal
    ∧ algebraic_KernelIdeal_ReferenceIdeal_pre_finite_logits (hKernelIdeal := hKernelIdeal) (hReferenceIdeal := hReferenceIdeal) (hPre_finite_logits := hPre_finite_logits)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_sampled (hKernel3Ideal := hKernel3Ideal) (hReference3Ideal := hReference3Ideal) (hPre_sampled := hPre_sampled)
-- ==== Pre_finite_logits.lean ====
abbrev S64x100000 : Shape := ⟨2, ![64, 100000]⟩
abbrev S_ : Shape := ⟨0, ![]⟩

class Facts : Prop where
  bcast_S_S64x100000 : S_.BroadcastsInDim S64x100000 (![] : Fin 0 → Fin S64x100000.rank)
  reducesTo_S64x100000_S_d0_1 : S64x100000.ReducesTo [0, 1] S_
  h_S_ : 0 < S_.numel

variable [Facts]

def fn {F : FTy → Type} [FloatOps F] (main_arg0 : FVec F S64x100000 .f32) : IVec S_ 1 :=
  let main_v0 : FVec F S64x100000 .f32 := Host.absf main_arg0
  let main_cst : FVec F S_ .f32 := constant S_ .f32 0x7F800000#32
  let main_v1 : FVec F S64x100000 .f32 := broadcastInDim S64x100000 ![] bcast_S_S64x100000 main_cst
  let main_v2 : IVec S64x100000 1 := cmpf .olt main_v0 main_v1
  let main_c : IVec S_ 1 := constantI S_ 1 1#1
  let main_v3 : IVec S_ 1 := (fun x v => Host.reduce IntOp.andi x v reducesTo_S64x100000_S_d0_1 h_S_) main_v2 main_c
  main_v3
-- ==== Pre_sampled.lean ====
abbrev S64x100000 : Shape := ⟨2, ![64, 100000]⟩
abbrev S64 : Shape := ⟨1, ![64]⟩
abbrev S_ : Shape := ⟨0, ![]⟩

class Facts : Prop where
  reducesTo_S64x100000_S64_d1 : S64x100000.ReducesTo [1] S64
  h_S_ : 0 < S_.numel
  bcast_S_S64x100000 : S_.BroadcastsInDim S64x100000 (![] : Fin 0 → Fin S64x100000.rank)
  reducesTo_S64x100000_S_d0_1 : S64x100000.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S64x100000 .f32) (main_arg1 : FVec F S64x100000 .f32) (main_arg2 : FVec F S64 .f32) : IVec S_ 1 :=
  let main_cst : FVec F S_ .f32 := constant S_ .f32 0x00000000#32
  let main_v0 : FVec F S64 .f32 := (fun x v => Host.reduceAdd x v reducesTo_S64x100000_S64_d1 h_S_) main_arg1 main_cst
  let main_cst_0 : FVec F S_ .f32 := constant S_ .f32 0x00000000#32
  let main_v1 : FVec F S64x100000 .f32 := broadcastInDim S64x100000 ![] bcast_S_S64x100000 main_cst_0
  let main_v2 : IVec S64x100000 1 := cmpf .oge main_arg0 main_v1
  let main_c : IVec S_ 1 := constantI S_ 1 1#1
  let main_v3 : IVec S_ 1 := (fun x v => Host.reduce IntOp.andi x v reducesTo_S64x100000_S_d0_1 h_S_) main_v2 main_c
  let main_cst_1 : FVec F S_ .f32 := constant S_ .f32 0x00000000#32
  let main_v4 : FVec F S64 .f32 := broadcastInDim S64 ![] bcast_S_S64 main_cst_1
  let main_v5 : IVec S64 1 := cmpf .une main_v0 main_v4
  let main_c_2 : IVec S_ 1 := constantI S_ 1 1#1
  let main_v6 : IVec S_ 1 := (fun x v => Host.reduce IntOp.andi x v reducesTo_S64_S_d0 h_S_) main_v5 main_c_2
  let main_v7 : IVec S_ 1 := andi main_v3 main_v6
  main_v7
-- ==== Kernel.lean ====
abbrev S64x100000 : Shape := ⟨2, ![64, 100000]⟩
abbrev S_ : Shape := ⟨0, ![]⟩
abbrev S64x100352 : Shape := ⟨2, ![64, 100352]⟩
abbrev S64x784x128 : Shape := ⟨3, ![64, 784, 128]⟩
abbrev S8x784x128 : Shape := ⟨3, ![8, 784, 128]⟩
abbrev S8x128 : Shape := ⟨2, ![8, 128]⟩
abbrev S8x1x128 : Shape := ⟨3, ![8, 1, 128]⟩
abbrev S8 : Shape := ⟨1, ![8]⟩
abbrev S8x1 : Shape := ⟨2, ![8, 1]⟩
abbrev S8x8 : Shape := ⟨2, ![8, 8]⟩
abbrev S8x4 : Shape := ⟨2, ![8, 4]⟩
abbrev S8x2 : Shape := ⟨2, ![8, 2]⟩

abbrev nBuf : Space → Nat
  | .hbm => 7
  | .vmem => 5
  | .smem => 0
  | _ => 0

abbrev bufTy : (tb : Table) → Fin (tcTables nBuf tb) → BufTy
  | .hbm, ⟨0, _⟩ => ⟨S64x100000, .f32⟩
  | .hbm, ⟨1, _⟩ => ⟨S_, .f32⟩
  | .hbm, ⟨2, _⟩ => ⟨S64x100352, .f32⟩
  | .hbm, ⟨3, _⟩ => ⟨S64x784x128, .f32⟩
  | .hbm, ⟨4, _⟩ => ⟨S64x784x128, .f32⟩
  | .hbm, ⟨5, _⟩ => ⟨S64x100352, .f32⟩
  | .hbm, ⟨6, _⟩ => ⟨S64x100000, .f32⟩
  | .local _ .vmem, ⟨0, _⟩ => ⟨S8x784x128, .f32⟩
  | .local _ .vmem, ⟨1, _⟩ => ⟨S8x784x128, .f32⟩
  | .local _ .vmem, ⟨2, _⟩ => ⟨S8x784x128, .f32⟩
  | .local _ .vmem, ⟨3, _⟩ => ⟨S8x784x128, .f32⟩
  | .local _ .vmem, ⟨4, _⟩ => ⟨S8x784x128, .f32⟩
  | _, _ => ⟨S64x100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c784_i32 : BitVec 32 := 784#32
  let v1 : BitVec 32 := Scalar.addi c0_i32 c784_i32
  let c1_i32 : BitVec 32 := 1#32
  ⟨c0_i32, v1, c1_i32⟩
def k0_off1 (k0_t1 : Fin k0_t1_loop.trips) : Fin 3 → Nat :=
  let c0 : Index := 0#32
  let c0_i32 : BitVec 32 := 0#32
  let c1_i32 : BitVec 32 := 1#32
  let arg4 : BitVec 32 := Scf.iv c0_i32 c1_i32 k0_t1
  let v62 : Index := Scalar.indexCast arg4
  let c0_24 : Index := 0#32
  ![0, v62.toNat, 0]
@[reducible] def k0_t2_loop : Scf.Loop 32 :=
  let c0_i32_2 : BitVec 32 := 0#32
  let c784_i32_3 : BitVec 32 := 784#32
  let v5 : BitVec 32 := Scalar.addi c0_i32_2 c784_i32_3
  let c1_i32_4 : BitVec 32 := 1#32
  ⟨c0_i32_2, v5, c1_i32_4⟩
def k0_off2 (k0_t2 : Fin k0_t2_loop.trips) : Fin 3 → Nat :=
  let c0 : Index := 0#32
  let c0_i32_2 : BitVec 32 := 0#32
  let c1_i32_4 : BitVec 32 := 1#32
  let arg4 : BitVec 32 := Scf.iv c0_i32_2 c1_i32_4 k0_t2
  let v62 : Index := Scalar.indexCast arg4
  let c0_24 : Index := 0#32
  ![0, v62.toNat, 0]
@[reducible] def k0_t3_loop : Scf.Loop 32 :=
  let c0_i32_7 : BitVec 32 := 0#32
  let c261_i32 : BitVec 32 := 261#32
  let v7 : BitVec 32 := Scalar.addi c0_i32_7 c261_i32
  let c1_i32_8 : BitVec 32 := 1#32
  ⟨c0_i32_7, v7, c1_i32_8⟩
def k0_off3 (k0_t3 : Fin k0_t3_loop.trips) : Fin 3 → Nat :=
  let c0 : Index := 0#32
  let c0_i32_7 : BitVec 32 := 0#32
  let c1_i32_8 : BitVec 32 := 1#32
  let arg4 : BitVec 32 := Scf.iv c0_i32_7 c1_i32_8 k0_t3
  let v62 : Index := Scalar.indexCast arg4
  let c0_24 : Index := 0#32
  ![0, v62.toNat, 0]
@[reducible] def k0_t4_loop : Scf.Loop 32 :=
  let c261_i32_11 : BitVec 32 := 261#32
  let c261_i32_12 : BitVec 32 := 261#32
  let v10 : BitVec 32 := Scalar.addi c261_i32_11 c261_i32_12
  let c1_i32_13 : BitVec 32 := 1#32
  ⟨c261_i32_11, v10, c1_i32_13⟩
def k0_off4 (k0_t4 : Fin k0_t4_loop.trips) : Fin 3 → Nat :=
  let c0 : Index := 0#32
  let c261_i32_11 : BitVec 32 := 261#32
  let c1_i32_13 : BitVec 32 := 1#32
  let arg4 : BitVec 32 := Scf.iv c261_i32_11 c1_i32_13 k0_t4
  let v62 : Index := Scalar.indexCast arg4
  let c0_24 : Index := 0#32
  ![0, v62.toNat, 0]
@[reducible] def k0_t5_loop : Scf.Loop 32 :=
  let c522_i32 : BitVec 32 := 522#32
  let c262_i32 : BitVec 32 := 262#32
  let v14 : BitVec 32 := Scalar.addi c522_i32 c262_i32
  let c1_i32_16 : BitVec 32 := 1#32
  ⟨c522_i32, v14, c1_i32_16⟩
def k0_off5 (k0_t5 : Fin k0_t5_loop.trips) : Fin 3 → Nat :=
  let c0 : Index := 0#32
  let c522_i32 : BitVec 32 := 522#32
  let c1_i32_16 : BitVec 32 := 1#32
  let arg4 : BitVec 32 := Scf.iv c522_i32 c1_i32_16 k0_t5
  let v62 : Index := Scalar.indexCast arg4
  let c0_24 : Index := 0#32
  ![0, v62.toNat, 0]
@[reducible] def k0_t6_loop : Scf.Loop 32 :=
  let c0_i32_20 : BitVec 32 := 0#32
  let c784_i32_21 : BitVec 32 := 784#32
  let v61 : BitVec 32 := Scalar.addi c0_i32_20 c784_i32_21
  let c1_i32_22 : BitVec 32 := 1#32
  ⟨c0_i32_20, v61, c1_i32_22⟩
def k0_off6 (k0_t6 : Fin k0_t6_loop.trips) : Fin 3 → Nat :=
  let c0 : Index := 0#32
  let c0_i32_20 : BitVec 32 := 0#32
  let c1_i32_22 : BitVec 32 := 1#32
  let arg4 : BitVec 32 := Scf.iv c0_i32_20 c1_i32_22 k0_t6
  let v62 : Index := Scalar.indexCast arg4
  let c0_24 : Index := 0#32
  ![0, v62.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x784x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x784x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== KernelIdeal.lean ====
variable {F : FTy → Type} [FloatOps F] [Named F]
def κ : String → Option EReal := fun
  | "neg" => some ⊥
  | _ => none
-- ==== ReferenceIdeal.lean ====
abbrev S64x100000 : Shape := ⟨2, ![64, 100000]⟩
abbrev S_ : Shape := ⟨0, ![]⟩
abbrev S64 : Shape := ⟨1, ![64]⟩
abbrev S64x1 : Shape := ⟨2, ![64, 1]⟩

abbrev nBuf : Space → Nat
  | .hbm => 21
  | .vmem => 0
  | .smem => 0
  | _ => 0

abbrev bufTy : (tb : Table) → Fin (tcTables nBuf tb) → BufTy
  | .hbm, ⟨0, _⟩ => ⟨S64x100000, .f32⟩
  | .hbm, ⟨1, _⟩ => ⟨S_, .f32⟩
  | .hbm, ⟨2, _⟩ => ⟨S64x100000, .f32⟩
  | .hbm, ⟨3, _⟩ => ⟨S64x100000, .f32⟩
  | .hbm, ⟨4, _⟩ => ⟨S_, .f32⟩
  | .hbm, ⟨5, _⟩ => ⟨S64x100000, .f32⟩
  | .hbm, ⟨6, _⟩ => ⟨S64x100000, .f32⟩
  | .hbm, ⟨7, _⟩ => ⟨S_, .f32⟩
  | .hbm, ⟨8, _⟩ => ⟨S64, .f32⟩
  | .hbm, ⟨9, _⟩ => ⟨S_, .f32⟩
  | .hbm, ⟨10, _⟩ => ⟨S64, .f32⟩
  | .hbm, ⟨11, _⟩ => ⟨S64, .f32⟩
  | .hbm, ⟨12, _⟩ => ⟨S64x1, .f32⟩
  | .hbm, ⟨13, _⟩ => ⟨S64x100000, .f32⟩
  | .hbm, ⟨14, _⟩ => ⟨S64x100000, .f32⟩
  | .hbm, ⟨15, _⟩ => ⟨S64x100000, .f32⟩
  | .hbm, ⟨16, _⟩ => ⟨S_, .f32⟩
  | .hbm, ⟨17, _⟩ => ⟨S64, .f32⟩
  | .hbm, ⟨18, _⟩ => ⟨S64x1, .f32⟩
  | .hbm, ⟨19, _⟩ => ⟨S64x100000, .f32⟩
  | .hbm, ⟨20, _⟩ => ⟨S64x100000, .f32⟩
  | _, _ => ⟨S64x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_cst_1 : Ref sig .tc := ⟨.hbm, 7, rfl⟩
abbrev main_v4 : Ref sig .tc := ⟨.hbm, 8, rfl⟩
abbrev main_cst_2 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_3 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Kernel2.lean ====
abbrev S64x100000 : Shape := ⟨2, ![64, 100000]⟩
abbrev S_ : Shape := ⟨0, ![]⟩
abbrev S64x100352 : Shape := ⟨2, ![64, 100352]⟩
abbrev S64x784x128 : Shape := ⟨3, ![64, 784, 128]⟩
abbrev S64x128x784 : Shape := ⟨3, ![64, 128, 784]⟩
abbrev S8x128x784 : Shape := ⟨3, ![8, 128, 784]⟩
abbrev S8x896 : Shape := ⟨2, ![8, 896]⟩
abbrev S8x1x784 : Shape := ⟨3, ![8, 1, 784]⟩
abbrev S8x784 : Shape := ⟨2, ![8, 784]⟩
abbrev S8x112 : Shape := ⟨2, ![8, 112]⟩
abbrev S8x1 : Shape := ⟨2, ![8, 1]⟩
abbrev S8x128 : Shape := ⟨2, ![8, 128]⟩
abbrev S8x783 : Shape := ⟨2, ![8, 783]⟩

abbrev nBuf : Space → Nat
  | .hbm => 10
  | .vmem => 6
  | .smem => 0
  | _ => 0

abbrev bufTy : (tb : Table) → Fin (tcTables nBuf tb) → BufTy
  | .hbm, ⟨0, _⟩ => ⟨S64x100000, .f32⟩
  | .hbm, ⟨1, _⟩ => ⟨S_, .i32⟩
  | .hbm, ⟨2, _⟩ => ⟨S_, .f32⟩
  | .hbm, ⟨3, _⟩ => ⟨S64x100352, .f32⟩
  | .hbm, ⟨4, _⟩ => ⟨S64x784x128, .f32⟩
  | .hbm, ⟨5, _⟩ => ⟨S64x128x784, .f32⟩
  | .hbm, ⟨6, _⟩ => ⟨S64x128x784, .f32⟩
  | .hbm, ⟨7, _⟩ => ⟨S64x784x128, .f32⟩
  | .hbm, ⟨8, _⟩ => ⟨S64x100352, .f32⟩
  | .hbm, ⟨9, _⟩ => ⟨S64x100000, .f32⟩
  | .local _ .vmem, ⟨0, _⟩ => ⟨S8x128x784, .f32⟩
  | .local _ .vmem, ⟨1, _⟩ => ⟨S8x128x784, .f32⟩
  | .local _ .vmem, ⟨2, _⟩ => ⟨S8x128x784, .f32⟩
  | .local _ .vmem, ⟨3, _⟩ => ⟨S8x128x784, .f32⟩
  | .local _ .vmem, ⟨4, _⟩ => ⟨S8x128x784, .f32⟩
  | .local _ .vmem, ⟨5, _⟩ => ⟨S8x896, .f32⟩
  | _, _ => ⟨S64x100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_c : Ref sig .tc := ⟨.hbm, 1, rfl⟩
abbrev main_call0_v0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

@[reducible] def k0_t1_loop : Scf.Loop 32 :=
  let c1_i32 : BitVec 32 := 1#32
  let c127_i32 : BitVec 32 := 127#32
  let v5 : BitVec 32 := Scalar.addi c1_i32 c127_i32
  let c1_i32_5 : BitVec 32 := 1#32
  ⟨c1_i32, v5, c1_i32_5⟩
def k0_off1 (k0_t1 : Fin k0_t1_loop.trips) : Fin 3 → Nat :=
  let c0_945 : Index := 0#32
  let c1_i32 : BitVec 32 := 1#32
  let c1_i32_5 : BitVec 32 := 1#32
  let arg5 : BitVec 32 := Scf.iv c1_i32 c1_i32_5 k0_t1
  let c1_i32_944 : BitVec 32 := 1#32
  let v4536 : BitVec 32 := Scalar.subi arg5 c1_i32_944
  let v4537 : Index := Scalar.indexCast v4536
  let c0_946 : Index := 0#32
  ![0, v4537.toNat, 0]
def k0_off2 (k0_t1 : Fin k0_t1_loop.trips) : Fin 3 → Nat :=
  let c0_947 : Index := 0#32
  let c1_i32 : BitVec 32 := 1#32
  let c1_i32_5 : BitVec 32 := 1#32
  let arg5 : BitVec 32 := Scf.iv c1_i32 c1_i32_5 k0_t1
  let v4540 : Index := Scalar.indexCast arg5
  let c0_948 : Index := 0#32
  ![0, v4540.toNat, 0]
@[reducible] def k0_t2_loop : Scf.Loop 32 :=
  let c0_i32 : BitVec 32 := 0#32
  let c128_i32 : BitVec 32 := 128#32
  let v4535 : BitVec 32 := Scalar.addi c0_i32 c128_i32
  let c1_i32_942 : BitVec 32 := 1#32
  ⟨c0_i32, v4535, c1_i32_942⟩
def k0_off3 (k0_t2 : Fin k0_t2_loop.trips) : Fin 3 → Nat :=
  let c0_944 : Index := 0#32
  let c0_i32 : BitVec 32 := 0#32
  let c1_i32_942 : BitVec 32 := 1#32
  let arg5 : BitVec 32 := Scf.iv c0_i32 c1_i32_942 k0_t2
  let v4536 : Index := Scalar.indexCast arg5
  let c0_945 : Index := 0#32
  ![0, v4536.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x128x784 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128x784 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference2Ideal.lean ====
abbrev S64x100000 : Shape := ⟨2, ![64, 100000]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S64x100000, .f32⟩
  | .hbm, ⟨1, _⟩ => ⟨S_, .f32⟩
  | .hbm, ⟨2, _⟩ => ⟨S_, .f32⟩
  | .hbm, ⟨3, _⟩ => ⟨S64x100000, .f32⟩
  | .hbm, ⟨4, _⟩ => ⟨S64x100000, .f32⟩
  | .hbm, ⟨5, _⟩ => ⟨S_, .f32⟩
  | .hbm, ⟨6, _⟩ => ⟨S64x100000, .f32⟩
  | .hbm, ⟨7, _⟩ => ⟨S64x100000, .i1⟩
  | .hbm, ⟨8, _⟩ => ⟨S_, .f32⟩
  | .hbm, ⟨9, _⟩ => ⟨S_, .f32⟩
  | .hbm, ⟨10, _⟩ => ⟨S64x100000, .f32⟩
  | .hbm, ⟨11, _⟩ => ⟨S64x100000, .f32⟩
  | _, _ => ⟨S64x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_call0_cst : Ref sig .tc := ⟨.hbm, 1, rfl⟩
abbrev main_call0_call0_v0 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_call1_v0 : Ref sig .tc := ⟨.hbm, 9, rfl⟩
abbrev main_call1_v1 : Ref sig .tc := ⟨.hbm, 10, rfl⟩
abbrev main_v4 : Ref sig .tc := ⟨.hbm, 11, rfl⟩

abbrev nD : Nat := 1
abbrev τ : Topo := Topo.v7x

variable {F : FTy → Type} [FloatOps F]
-- ==== Kernel3.lean ====
abbrev S64x100000 : Shape := ⟨2, ![64, 100000]⟩
abbrev S64 : Shape := ⟨1, ![64]⟩
abbrev S_ : Shape := ⟨0, ![]⟩
abbrev S64x100352 : Shape := ⟨2, ![64, 100352]⟩
abbrev S64x784x128 : Shape := ⟨3, ![64, 784, 128]⟩
abbrev S64x128x784 : Shape := ⟨3, ![64, 128, 784]⟩
abbrev S64x1 : Shape := ⟨2, ![64, 1]⟩
abbrev S8x128x784 : Shape := ⟨3, ![8, 128, 784]⟩
abbrev S8x784x128 : Shape := ⟨3, ![8, 784, 128]⟩
abbrev S8x1 : Shape := ⟨2, ![8, 1]⟩
abbrev S8x896 : Shape := ⟨2, ![8, 896]⟩
abbrev S8x128 : Shape := ⟨2, ![8, 128]⟩
abbrev S8x1x128 : Shape := ⟨3, ![8, 1, 128]⟩
abbrev S8x8 : Shape := ⟨2, ![8, 8]⟩
abbrev S8x4 : Shape := ⟨2, ![8, 4]⟩
abbrev S8x2 : Shape := ⟨2, ![8, 2]⟩
abbrev S8x1x784 : Shape := ⟨3, ![8, 1, 784]⟩
abbrev S8x784 : Shape := ⟨2, ![8, 784]⟩
abbrev S8x112 : Shape := ⟨2, ![8, 112]⟩
abbrev S8x783 : Shape := ⟨2, ![8, 783]⟩
abbrev S8 : Shape := ⟨1, ![8]⟩
abbrev S8x127 : Shape := ⟨2, ![8, 127]⟩
abbrev S8x126 : Shape := ⟨2, ![8, 126]⟩
abbrev S8x124 : Shape := ⟨2, ![8, 124]⟩
abbrev S8x120 : Shape := ⟨2, ![8, 120]⟩
abbrev S8x16 : Shape := ⟨2, ![8, 16]⟩
abbrev S8x32 : Shape := ⟨2, ![8, 32]⟩
abbrev S8x96 : Shape := ⟨2, ![8, 96]⟩
abbrev S8x64 : Shape := ⟨2, ![8, 64]⟩

abbrev nBuf : Space → Nat
  | .hbm => 21
  | .vmem => 14
  | .smem => 0
  | _ => 0

abbrev bufTy : (tb : Table) → Fin (tcTables nBuf tb) → BufTy
  | .hbm, ⟨0, _⟩ => ⟨S64x100000, .f32⟩
  | .hbm, ⟨1, _⟩ => ⟨S64x100000, .f32⟩
  | .hbm, ⟨2, _⟩ => ⟨S64, .f32⟩
  | .hbm, ⟨3, _⟩ => ⟨S_, .i32⟩
  | .hbm, ⟨4, _⟩ => ⟨S_, .f32⟩
  | .hbm, ⟨5, _⟩ => ⟨S64x100352, .f32⟩
  | .hbm, ⟨6, _⟩ => ⟨S64x784x128, .f32⟩
  | .hbm, ⟨7, _⟩ => ⟨S64x100000, .f32⟩
  | .hbm, ⟨8, _⟩ => ⟨S64x100000, .f32⟩
  | .hbm, ⟨9, _⟩ => ⟨S_, .i32⟩
  | .hbm, ⟨10, _⟩ => ⟨S_, .f32⟩
  | .hbm, ⟨11, _⟩ => ⟨S64x100352, .f32⟩
  | .hbm, ⟨12, _⟩ => ⟨S64x784x128, .f32⟩
  | .hbm, ⟨13, _⟩ => ⟨S64x128x784, .f32⟩
  | .hbm, ⟨14, _⟩ => ⟨S_, .i32⟩
  | .hbm, ⟨15, _⟩ => ⟨S_, .f32⟩
  | .hbm, ⟨16, _⟩ => ⟨S64x100352, .f32⟩
  | .hbm, ⟨17, _⟩ => ⟨S64x784x128, .f32⟩
  | .hbm, ⟨18, _⟩ => ⟨S64x128x784, .f32⟩
  | .hbm, ⟨19, _⟩ => ⟨S64x1, .f32⟩
  | .hbm, ⟨20, _⟩ => ⟨S64x1, .i32⟩
  | .local _ .vmem, ⟨0, _⟩ => ⟨S8x128x784, .f32⟩
  | .local _ .vmem, ⟨1, _⟩ => ⟨S8x128x784, .f32⟩
  | .local _ .vmem, ⟨2, _⟩ => ⟨S8x784x128, .f32⟩
  | .local _ .vmem, ⟨3, _⟩ => ⟨S8x784x128, .f32⟩
  | .local _ .vmem, ⟨4, _⟩ => ⟨S8x128x784, .f32⟩
  | .local _ .vmem, ⟨5, _⟩ => ⟨S8x128x784, .f32⟩
  | .local _ .vmem, ⟨6, _⟩ => ⟨S8x784x128, .f32⟩
  | .local _ .vmem, ⟨7, _⟩ => ⟨S8x784x128, .f32⟩
  | .local _ .vmem, ⟨8, _⟩ => ⟨S8x1, .f32⟩
  | .local _ .vmem, ⟨9, _⟩ => ⟨S8x1, .f32⟩
  | .local _ .vmem, ⟨10, _⟩ => ⟨S8x1, .i32⟩
  | .local _ .vmem, ⟨11, _⟩ => ⟨S8x1, .i32⟩
  | .local _ .vmem, ⟨12, _⟩ => ⟨S8x128x784, .f32⟩
  | .local _ .vmem, ⟨13, _⟩ => ⟨S8x896, .f32⟩
  | _, _ => ⟨S64x100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_call2_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_call3_v0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c261_i32 : BitVec 32 := 261#32
  let v1 : BitVec 32 := Scalar.addi c0_i32 c261_i32
  let c1_i32 : BitVec 32 := 1#32
  ⟨c0_i32, v1, c1_i32⟩
def k0_off1 (k0_t1 : Fin k0_t1_loop.trips) : Fin 3 → Nat :=
  let c0_977 : Index := 0#32
  let c0_i32 : BitVec 32 := 0#32
  let c1_i32 : BitVec 32 := 1#32
  let arg9 : BitVec 32 := Scf.iv c0_i32 c1_i32 k0_t1
  let v4613 : Index := Scalar.indexCast arg9
  let c0_978 : Index := 0#32
  ![0, v4613.toNat, 0]
@[reducible] def k0_t2_loop : Scf.Loop 32 :=
  let c261_i32_2 : BitVec 32 := 261#32
  let c261_i32_3 : BitVec 32 := 261#32
  let v4 : BitVec 32 := Scalar.addi c261_i32_2 c261_i32_3
  let c1_i32_4 : BitVec 32 := 1#32
  ⟨c261_i32_2, v4, c1_i32_4⟩
def k0_off2 (k0_t2 : Fin k0_t2_loop.trips) : Fin 3 → Nat :=
  let c0_977 : Index := 0#32
  let c261_i32_2 : BitVec 32 := 261#32
  let c1_i32_4 : BitVec 32 := 1#32
  let arg9 : BitVec 32 := Scf.iv c261_i32_2 c1_i32_4 k0_t2
  let v4613 : Index := Scalar.indexCast arg9
  let c0_978 : Index := 0#32
  ![0, v4613.toNat, 0]
@[reducible] def k0_t3_loop : Scf.Loop 32 :=
  let c522_i32 : BitVec 32 := 522#32
  let c262_i32 : BitVec 32 := 262#32
  let v8 : BitVec 32 := Scalar.addi c522_i32 c262_i32
  let c1_i32_7 : BitVec 32 := 1#32
  ⟨c522_i32, v8, c1_i32_7⟩
def k0_off3 (k0_t3 : Fin k0_t3_loop.trips) : Fin 3 → Nat :=
  let c0_977 : Index := 0#32
  let c522_i32 : BitVec 32 := 522#32
  let c1_i32_7 : BitVec 32 := 1#32
  let arg9 : BitVec 32 := Scf.iv c522_i32 c1_i32_7 k0_t3
  let v4613 : Index := Scalar.indexCast arg9
  let c0_978 : Index := 0#32
  ![0, v4613.toNat, 0]
@[reducible] def k0_t4_loop : Scf.Loop 32 :=
  let c1_i32_16 : BitVec 32 := 1#32
  let c127_i32 : BitVec 32 := 127#32
  let v62 : BitVec 32 := Scalar.addi c1_i32_16 c127_i32
  let c1_i32_17 : BitVec 32 := 1#32
  ⟨c1_i32_16, v62, c1_i32_17⟩
def k0_off4 (k0_t4 : Fin k0_t4_loop.trips) : Fin 3 → Nat :=
  let c0_978 : Index := 0#32
  let c1_i32_16 : BitVec 32 := 1#32
  let c1_i32_17 : BitVec 32 := 1#32
  let arg9 : BitVec 32 := Scf.iv c1_i32_16 c1_i32_17 k0_t4
  let c1_i32_977 : BitVec 32 := 1#32
  let v4613 : BitVec 32 := Scalar.subi arg9 c1_i32_977
  let v4614 : Index := Scalar.indexCast v4613
  let c0_979 : Index := 0#32
  ![0, v4614.toNat, 0]
def k0_off5 (k0_t4 : Fin k0_t4_loop.trips) : Fin 3 → Nat :=
  let c0_980 : Index := 0#32
  let c1_i32_16 : BitVec 32 := 1#32
  let c1_i32_17 : BitVec 32 := 1#32
  let arg9 : BitVec 32 := Scf.iv c1_i32_16 c1_i32_17 k0_t4
  let v4617 : Index := Scalar.indexCast arg9
  let c0_981 : Index := 0#32
  ![0, v4617.toNat, 0]
@[reducible] def k0_t5_loop : Scf.Loop 32 :=
  let c0_i32_958 : BitVec 32 := 0#32
  let c128_i32 : BitVec 32 := 128#32
  let v4596 : BitVec 32 := Scalar.addi c0_i32_958 c128_i32
  let c1_i32_959 : BitVec 32 := 1#32
  ⟨c0_i32_958, v4596, c1_i32_959⟩
def k0_off6 (k0_t5 : Fin k0_t5_loop.trips) : Fin 3 → Nat :=
  let c0_977 : Index := 0#32
  let c0_i32_958 : BitVec 32 := 0#32
  let c1_i32_959 : BitVec 32 := 1#32
  let arg9 : BitVec 32 := Scf.iv c0_i32_958 c1_i32_959 k0_t5
  let v4613 : Index := Scalar.indexCast arg9
  let c0_978 : Index := 0#32
  ![0, v4613.toNat, 0]
@[reducible] def k0_t6_loop : Scf.Loop 32 :=
  let c0_i32_962 : BitVec 32 := 0#32
  let c128_i32_963 : BitVec 32 := 128#32
  let v4601 : BitVec 32 := Scalar.addi c0_i32_962 c128_i32_963
  let c1_i32_964 : BitVec 32 := 1#32
  ⟨c0_i32_962, v4601, c1_i32_964⟩
def k0_off7 (k0_t6 : Fin k0_t6_loop.trips) : Fin 3 → Nat :=
  let c0_978 : Index := 0#32
  let c0_i32_962 : BitVec 32 := 0#32
  let c1_i32_964 : BitVec 32 := 1#32
  let arg9 : BitVec 32 := Scf.iv c0_i32_962 c1_i32_964 k0_t6
  let v4617 : Index := Scalar.indexCast arg9
  let c0_979 : Index := 0#32
  ![0, v4617.toNat, 0]
@[reducible] def k0_t7_loop : Scf.Loop 32 :=
  let c0_i32_967 : BitVec 32 := 0#32
  let c128_i32_968 : BitVec 32 := 128#32
  let v4604 : BitVec 32 := Scalar.addi c0_i32_967 c128_i32_968
  let c1_i32_969 : BitVec 32 := 1#32
  ⟨c0_i32_967, v4604, c1_i32_969⟩
def k0_off8 (k0_t7 : Fin k0_t7_loop.trips) : Fin 3 → Nat :=
  let c0_978 : Index := 0#32
  let c0_i32_967 : BitVec 32 := 0#32
  let c1_i32_969 : BitVec 32 := 1#32
  let arg9 : BitVec 32 := Scf.iv c0_i32_967 c1_i32_969 k0_t7
  let v4619 : Index := Scalar.indexCast arg9
  let c0_979 : Index := 0#32
  ![0, v4619.toNat, 0]
@[reducible] def k0_t8_loop : Scf.Loop 32 :=
  let c0_i32_972 : BitVec 32 := 0#32
  let c784_i32 : BitVec 32 := 784#32
  let v4610 : BitVec 32 := Scalar.addi c0_i32_972 c784_i32
  let c1_i32_973 : BitVec 32 := 1#32
  ⟨c0_i32_972, v4610, c1_i32_973⟩
def k0_off9 (k0_t8 : Fin k0_t8_loop.trips) : Fin 3 → Nat :=
  let c0_977 : Index := 0#32
  let c0_i32_972 : BitVec 32 := 0#32
  let c1_i32_973 : BitVec 32 := 1#32
  let arg9 : BitVec 32 := Scf.iv c0_i32_972 c1_i32_973 k0_t8
  let v4613 : Index := Scalar.indexCast arg9
  let c0_978 : Index := 0#32
  ![0, v4613.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x784 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x784x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x128x784 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x784x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x1 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference3Ideal.lean ====
abbrev S64x100000 : Shape := ⟨2, ![64, 100000]⟩
abbrev S64 : Shape := ⟨1, ![64]⟩
abbrev S_ : Shape := ⟨0, ![]⟩
abbrev S64x1 : Shape := ⟨2, ![64, 1]⟩
abbrev S64x1x1 : Shape := ⟨3, ![64, 1, 1]⟩
abbrev S1 : Shape := ⟨1, ![1]⟩
abbrev S1x1x1 : Shape := ⟨3, ![1, 1, 1]⟩

abbrev nBuf : Space → Nat
  | .hbm => 52
  | .vmem => 0
  | .smem => 0
  | _ => 0

abbrev bufTy : (tb : Table) → Fin (tcTables nBuf tb) → BufTy
  | .hbm, ⟨0, _⟩ => ⟨S64x100000, .f32⟩
  | .hbm, ⟨1, _⟩ => ⟨S64x100000, .f32⟩
  | .hbm, ⟨2, _⟩ => ⟨S64, .f32⟩
  | .hbm, ⟨3, _⟩ => ⟨S64x100000, .f32⟩
  | .hbm, ⟨4, _⟩ => ⟨S64x100000, .i32⟩
  | .hbm, ⟨5, _⟩ => ⟨S64x100000, .f32⟩
  | .hbm, ⟨6, _⟩ => ⟨S64x100000, .i32⟩
  | .hbm, ⟨7, _⟩ => ⟨S_, .f32⟩
  | .hbm, ⟨8, _⟩ => ⟨S64, .f32⟩
  | .hbm, ⟨9, _⟩ => ⟨S64x1, .f32⟩
  | .hbm, ⟨10, _⟩ => ⟨S64x100000, .f32⟩
  | .hbm, ⟨11, _⟩ => ⟨S64x100000, .f32⟩
  | .hbm, ⟨12, _⟩ => ⟨S_, .f32⟩
  | .hbm, ⟨13, _⟩ => ⟨S_, .f32⟩
  | .hbm, ⟨14, _⟩ => ⟨S64x100000, .f32⟩
  | .hbm, ⟨15, _⟩ => ⟨S64x1, .f32⟩
  | .hbm, ⟨16, _⟩ => ⟨S64x100000, .f32⟩
  | .hbm, ⟨17, _⟩ => ⟨S64x100000, .i1⟩
  | .hbm, ⟨18, _⟩ => ⟨S64x100000, .i32⟩
  | .hbm, ⟨19, _⟩ => ⟨S_, .i32⟩
  | .hbm, ⟨20, _⟩ => ⟨S64, .i32⟩
  | .hbm, ⟨21, _⟩ => ⟨S64x1, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S64x1, .i32⟩
  | .hbm, ⟨26, _⟩ => ⟨S64x1, .i32⟩
  | .hbm, ⟨27, _⟩ => ⟨S_, .i32⟩
  | .hbm, ⟨28, _⟩ => ⟨S64x1, .i32⟩
  | .hbm, ⟨29, _⟩ => ⟨S64x1, .i32⟩
  | .hbm, ⟨30, _⟩ => ⟨S_, .i32⟩
  | .hbm, ⟨31, _⟩ => ⟨S64x1, .i32⟩
  | .hbm, ⟨32, _⟩ => ⟨S64x1, .i1⟩
  | .hbm, ⟨33, _⟩ => ⟨S_, .i32⟩
  | .hbm, ⟨34, _⟩ => ⟨S64x1, .i32⟩
  | .hbm, ⟨35, _⟩ => ⟨S64x1, .i32⟩
  | .hbm, ⟨36, _⟩ => ⟨S64x1, .i32⟩
  | .hbm, ⟨37, _⟩ => ⟨S64x1x1, .i32⟩
  | .hbm, ⟨38, _⟩ => ⟨S1, .i32⟩
  | .hbm, ⟨39, _⟩ => ⟨S_, .i32⟩
  | .hbm, ⟨40, _⟩ => ⟨S64x1x1, .i32⟩
  | .hbm, ⟨41, _⟩ => ⟨S64x1x1, .i1⟩
  | .hbm, ⟨42, _⟩ => ⟨S1x1x1, .i32⟩
  | .hbm, ⟨43, _⟩ => ⟨S64x1x1, .i32⟩
  | .hbm, ⟨44, _⟩ => ⟨S64x1x1, .i1⟩
  | .hbm, ⟨45, _⟩ => ⟨S64x1x1, .i1⟩
  | .hbm, ⟨46, _⟩ => ⟨S_, .i1⟩
  | .hbm, ⟨47, _⟩ => ⟨S64x1, .i1⟩
  | .hbm, ⟨48, _⟩ => ⟨S64x1, .i32⟩
  | .hbm, ⟨49, _⟩ => ⟨S_, .i32⟩
  | .hbm, ⟨50, _⟩ => ⟨S64x1, .i32⟩
  | .hbm, ⟨51, _⟩ => ⟨S64x1, .i32⟩
  | _, _ => ⟨S64x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_v0 : Ref sig .tc := ⟨.hbm, 4, rfl⟩
abbrev main_call0_v1_0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_call1_call0_cst : Ref sig .tc := ⟨.hbm, 12, rfl⟩
abbrev main_call1_call0_v0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c : Ref sig .tc := ⟨.hbm, 19, rfl⟩
abbrev main_v11 : Ref sig .tc := ⟨.hbm, 20, rfl⟩
abbrev main_v12 : Ref sig .tc := ⟨.hbm, 21, rfl⟩
abbrev main_c_0 : Ref sig .tc := ⟨.hbm, 22, rfl⟩
abbrev main_c_1 : Ref sig .tc := ⟨.hbm, 23, rfl⟩
abbrev main_call2_v0 : Ref sig .tc := ⟨.hbm, 24, rfl⟩
abbrev main_call2_v1 : Ref sig .tc := ⟨.hbm, 25, rfl⟩
abbrev main_call2_v2 : Ref sig .tc := ⟨.hbm, 26, rfl⟩
abbrev main_call2_v3 : Ref sig .tc := ⟨.hbm, 27, rfl⟩
abbrev main_call2_v4 : Ref sig .tc := ⟨.hbm, 28, rfl⟩
abbrev main_v13 : Ref sig .tc := ⟨.hbm, 29, rfl⟩
abbrev main_call3_c : Ref sig .tc := ⟨.hbm, 30, rfl⟩
abbrev main_call3_v0 : Ref sig .tc := ⟨.hbm, 31, rfl⟩
abbrev main_call3_v1 : Ref sig .tc := ⟨.hbm, 32, rfl⟩
abbrev main_call3_c_0 : Ref sig .tc := ⟨.hbm, 33, rfl⟩
abbrev main_call3_v2 : Ref sig .tc := ⟨.hbm, 34, rfl⟩
abbrev main_call3_v3 : Ref sig .tc := ⟨.hbm, 35, rfl⟩
abbrev main_call3_v4 : Ref sig .tc := ⟨.hbm, 36, rfl⟩
abbrev main_call3_v5 : Ref sig .tc := ⟨.hbm, 37, rfl⟩
abbrev main_call3_c_1 : Ref sig .tc := ⟨.hbm, 38, rfl⟩
abbrev main_call3_c_2 : Ref sig .tc := ⟨.hbm, 39, rfl⟩
abbrev main_call3_v6 : Ref sig .tc := ⟨.hbm, 40, rfl⟩
abbrev main_call3_v7 : Ref sig .tc := ⟨.hbm, 41, rfl⟩
abbrev main_call3_v8 : Ref sig .tc := ⟨.hbm, 42, rfl⟩
abbrev main_call3_v9 : Ref sig .tc := ⟨.hbm, 43, rfl⟩
abbrev main_call3_v10 : Ref sig .tc := ⟨.hbm, 44, rfl⟩
abbrev main_call3_v11 : Ref sig .tc := ⟨.hbm, 45, rfl⟩
abbrev main_call3_c_3 : Ref sig .tc := ⟨.hbm, 46, rfl⟩
abbrev main_call3_v12 : Ref sig .tc := ⟨.hbm, 47, rfl⟩
abbrev main_call3_v13 : Ref sig .tc := ⟨.hbm, 48, rfl⟩
abbrev main_call3_c_4 : Ref sig .tc := ⟨.hbm, 49, rfl⟩
abbrev main_call3_v14 : Ref sig .tc := ⟨.hbm, 50, rfl⟩
abbrev main_v14 : Ref sig .tc := ⟨.hbm, 51, rfl⟩

abbrev nD : Nat := 1
abbrev τ : Topo := Topo.v7x

variable {F : FTy → Type} [FloatOps F]
-- ==== Proof.Wp.lean ====
/- A small program logic for the kernel bodies: the buffers a body works on are held as one state of plain vectors,
   and a body is judged by a predicate on its result and the state it leaves. -/
module

public import Idealize.ShloMosaic.Lib.VecWindow
public import Idealize.ShloMosaic.Lib.Scf
public import Idealize.ShloMosaic.Lib.Tactic

@[expose] public section

noncomputable section

namespace Cert.Wp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Ix : Type} [DecidableEq Ix]
variable {Val : EltTy → Type} {Name : Type} [DecidableEq Name]
variable {U : Type} [URA U] {Lvl : Type} {Λ : Labels} [Preorder Lvl]
variable {defs : Defs nD τ sig Val Λ} {𝒱 : Variants} {c : Dev nD} {bd : Option 𝒱.V} {E : Set Name}
variable {S : Type}

local notation "𝕄" => MT nD τ sig Ix Val Name U Lvl

/-- From state `s` the program runs to its end, and its result and the state it leaves satisfy `Q`. -/
def WP (defs : Defs nD τ sig Val Λ) (𝒱 : Variants) (c : Dev nD) (bd : Option 𝒱.V) (E : Set Name) (R : S → sProp 𝕄) {α : Type}
    (p : Prog (TpuEff nD τ sig Val Λ .tc) α) (Q : α → S → Prop) (s : S) : Prop :=
  R s ⊢ wp frame (wpE defs 𝒱 (c : Thread nD τ) bd) E p (fun v => iprop(∃ s', ⌜Q v s'⌝ ∗ R s'))

/-- How a buffer sits in the state: its contents can be read off, and replaced. -/
structure Slot (c : Dev nD) (R : S → sProp 𝕄) {sp : Space} {sh : Shape} {e : EltTy} (m : Memref sig .tc sp sh e) where
  get : S → (sh.Idx → Val e)
  set : S → (sh.Idx → Val e) → S
  same : ∀ s, set s (get s) = s
  law : ∀ s, R s ⊢ iprop(owns (c : Thread nD τ) m fullShare (get s) ∗ (∀ x, owns (c : Thread nD τ) m fullShare x -∗ R (set s x)))

variable {α β : Type}

/-- A weaker predicate is enough. -/
theorem WP.mono {R : S → sProp 𝕄} {p : Prog (TpuEff nD τ sig Val Λ .tc) α} {Q Q' : α → S → Prop} {s : S} (h : WP defs 𝒱 c bd E R p Q s)
    (hQ : ∀ v s', Q v s' → Q' v s') : WP defs 𝒱 c bd E R p Q' s := by
  unfold WP at *
  iintro H
  iapply (wp_wand_r frame (wpE defs 𝒱 (c : Thread nD τ) bd) E)
  isplitl [H]
  · iapply h; iexact H
  · iintro %v ⟨%s', %hq, H⟩
    iexists s'; isplitr
    · ipureintro; exact hQ v s' hq
    · iexact H

/-- A value is returned. -/
theorem WP.ret {R : S → sProp 𝕄} {a : α} {Q : α → S → Prop} {s : S} (h : Q a s) : WP defs 𝒱 c bd E R (Prog.ret a) Q s := by
  unfold WP
  rw [wp_ret]
  iintro H
  imodintro
  iexists s; isplitr
  · ipureintro; exact h
  · iexact H

/-- One program after another. -/
theorem WP.bind {R : S → sProp 𝕄} {p : Prog (TpuEff nD τ sig Val Λ .tc) β} {k : β → Prog (TpuEff nD τ sig Val Λ .tc) α} {Q : α → S → Prop} {s : S}
    (h : WP defs 𝒱 c bd E R p (fun v s' => WP defs 𝒱 c bd E R (k v) Q s') s) : WP defs 𝒱 c bd E R (p >>= k) Q s := by
  unfold WP at *
  rw [wp_bind]
  iintro H
  iapply (wp_wand_r frame (wpE defs 𝒱 (c : Thread nD τ) bd) E)
  isplitl [H]
  · iapply h; iexact H
  · iintro %v ⟨%s', %hq, H⟩
    iapply hq; iexact H

/-- One program after another, with the predicate in between given. -/
theorem WP.seq {R : S → sProp 𝕄} {p : Prog (TpuEff nD τ sig Val Λ .tc) β} {k : β → Prog (TpuEff nD τ sig Val Λ .tc) α} {Q : α → S → Prop} {s : S}
    {I : β → S → Prop} (h : WP defs 𝒱 c bd E R p I s) (hk : ∀ v s', I v s' → WP defs 𝒱 c bd E R (k v) Q s') :
    WP defs 𝒱 c bd E R (p >>= k) Q s :=
  WP.bind (h.mono hk)

/-- A load of a window reads the window of the buffer's vector. -/
theorem WP.load {R : S → sProp 𝕄} {sp : CoreSpace} {sh : Shape} {e : EltTy} {m : Memref sig .tc sp sh e} (sl : Slot c R m) {off size : Fin sh.rank → ℕ}
    {inb : ∀ a, off a + size a ≤ sh.size a} {hl : m.view.LoadsAt (Rect.unit off size inb).toLoadRect} {Q : ((Rect.unit off size inb).shape.Idx → Val e) → S → Prop} {s : S}
    (h : Q (VecWindow.window (sl.get s) off size inb) s) :
    WP defs 𝒱 c bd E R (Prog.lift (.load m (Rect.unit off size inb).toLoadRect hl)) Q s := by
  unfold WP Prog.lift
  refine (sl.law s).trans ?_
  unfold owns
  iintro ⟨⟨%f, %hf, H⟩, K⟩
  iapply (wp_load 𝒱 (c : Thread nD τ) bd E (m := m) (r := (Rect.unit off size inb).toLoadRect) (hl := hl) (q := fullShare) (f := f) (View.setOn_subset_set _ _)) $$ H
  iintro H
  rw [wp_ret]
  imodintro
  iexists s
  isplitr
  · ipureintro
    rw [View.readAt_unit m.view f inb rfl inb, hf]; exact h
  · have e := sl.same s
    iapply (show (R (sl.set s (sl.get s)) ⊢ R s) from by rw [e])
    iapply K
    iexists f
    isplitr
    · ipureintro; exact hf
    · iexact H

/-- An unmasked store of a window puts the payload over that window of the buffer's vector. -/
theorem WP.store {R : S → sProp 𝕄} {sp : CoreSpace} {sh : Shape} {e : EltTy} {m : Memref sig .tc sp sh e} (sl : Slot c R m) {off size : Fin sh.rank → ℕ}
    {inb : ∀ a, off a + size a ≤ sh.size a} {w : (Rect.unit off size inb).shape.Idx → Val e}
    {hx : (m.access (Rect.unit off size inb)).Stores Finset.univ} {hm : Finset.univ = Finset.univ ∨ ∀ a, (Rect.unit off size inb).stride a = 1}
    {Q : PUnit → S → Prop} {s : S} (h : Q ⟨⟩ (sl.set s (VecWindow.put (sl.get s) off size w))) :
    WP defs 𝒱 c bd E R (Prog.lift (.store m (Rect.unit off size inb) w Finset.univ hx hm)) Q s := by
  unfold WP Prog.lift
  refine (sl.law s).trans ?_
  unfold owns
  iintro ⟨⟨%f, %hf, H⟩, K⟩
  iapply (wp_store_writes₀ 𝒱 (c : Thread nD τ) bd E (m := m) (r := Rect.unit off size inb) (w := w) (hx := hx) (hm := hm) (f := f) (View.set_slice_subset _ _)) $$ H
  iintro H
  rw [wp_ret]
  imodintro
  iexists _
  isplitr
  · ipureintro; exact h
  · iapply K
    iexists _
    isplitr
    swap
    · iexact H
    · ipureintro
      rw [View.read_writes_cons_put m.view f inb w [] rfl, View.writes_nil, hf]

/-- A counted loop, by an invariant on the carried value and the state. -/
theorem WP.loop {R : S → sProp 𝕄} {l : Scf.Loop 32} {hok : l.OK} {σ : Type} {init : σ} {body : Fin l.trips → σ → Prog (TpuEff nD τ sig Val Λ .tc) σ}
    {Q : σ → S → Prop} {s : S} (I : ℕ → σ → S → Prop) (h0 : I 0 init s)
    (hb : ∀ (k : Fin l.trips) acc s', I k.val acc s' → WP defs 𝒱 c bd E R (body k acc) (I (k.val + 1)) s')
    (hQ : ∀ acc s', I l.trips acc s' → Q acc s') :
    WP defs 𝒱 c bd E R (Scf.Loop.for l hok init body) Q s := by
  refine WP.mono ?_ hQ
  unfold WP
  iintro H
  iapply (Scf.wp_for frame (wpE defs 𝒱 (c : Thread nD τ) bd) E l.lb l.ub l.st hok init body
    (fun k acc => iprop(∃ s', ⌜I k acc s'⌝ ∗ R s')) (fun k acc => by
      iintro ⟨%s', %hI, H⟩
      have hh := hb k acc s' hI
      unfold WP at hh
      iapply hh; iexact H))
  isplitl [H]
  · iexists s; isplitr
    · ipureintro; exact h0
    · iexact H
  · iintro %acc ⟨%s', %hI, H⟩
    iexists s'; isplitr
    · ipureintro; exact hI
    · iexact H

end Cert.Wp

end
-- ==== Proof.K1Safe.lean ====
/- The first kernel's frame at any float values: its body runs to its end and keeps its input block, and the launch
   leaves the argument as it was. What the body writes is not said here. -/
module

public import proofs.«01_k».proof.Proof.Wp
public import proofs.«01_k».proof.Proof.Gen.Kernel.Frame.Runs
public import Idealize.ShloMosaic.Lib.Claim

@[expose] public section

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen Cert.Wp

variable {F : FTy → Type} [FloatOps F]

local notation "𝕄" => MT nD τ sig Unit (Elt F) ℕ (UR sig nD τ) ℕ

/-- The three buffers of the body, held at three vectors. -/
def R1 (c : Dev nD) (arg1 arg2 arg3 : Memref sig .tc .vmem S8x784x128 .f32) (s : Vec F S8x784x128 .f32 × Vec F S8x784x128 .f32 × Vec F S8x784x128 .f32) : sProp 𝕄 :=
  iprop(owns (c : Thread nD τ) arg1 fullShare s.1 ∗ owns (c : Thread nD τ) arg2 fullShare s.2.1 ∗ owns (c : Thread nD τ) arg3 fullShare s.2.2)

section Body
variable (c : Dev nD) (arg1 arg2 arg3 : Memref sig .tc .vmem S8x784x128 .f32)

/-- The input block's place in the state. -/
def slot1 : Slot c (R1 (F := F) c arg1 arg2 arg3) arg1 where
  get s := s.1
  set s x := (x, s.2)
  same _ := rfl
  law s := by
    unfold R1
    iintro ⟨H1, H⟩
    isplitl [H1]; · iexact H1
    iintro %x H1
    isplitl [H1]; · iexact H1
    iexact H

/-- The output block's. -/
def slot2 : Slot c (R1 (F := F) c arg1 arg2 arg3) arg2 where
  get s := s.2.1
  set s x := (s.1, x, s.2.2)
  same _ := rfl
  law s := by
    unfold R1
    iintro ⟨H1, H2, H3⟩
    isplitl [H2]; · iexact H2
    iintro %x H2
    isplitl [H1]; · iexact H1
    isplitl [H2]; · iexact H2
    iexact H3

/-- The working block's. -/
def slot3 : Slot c (R1 (F := F) c arg1 arg2 arg3) arg3 where
  get s := s.2.2
  set s x := (s.1, s.2.1, x)
  same _ := rfl
  law s := by
    unfold R1
    iintro ⟨H1, H2, H3⟩
    isplitl [H3]; · iexact H3
    iintro %x H3
    isplitl [H1]; · iexact H1
    isplitl [H2]; · iexact H2
    iexact H3

variable {𝒱 : Variants} {bd : Option 𝒱.V} {E : Set ℕ} (i : grid0.Coords) (harg1 : arg1.IsWhole) (harg2 : arg2.IsWhole) (harg3 : arg3.IsWhole)

/-- The input block is still `x`. -/
abbrev Kept (x : Vec F S8x784x128 .f32) {α : Type} (_ : α) (s : Vec F S8x784x128 .f32 × Vec F S8x784x128 .f32 × Vec F S8x784x128 .f32) : Prop := s.1 = x

/-- The body runs to its end and keeps its input block. -/
theorem body1_wp (x : Vec F S8x784x128 .f32) (s : Vec F S8x784x128 .f32 × Vec F S8x784x128 .f32 × Vec F S8x784x128 .f32) (hs : s.1 = x) :
    WP defs₀ 𝒱 c bd E (R1 (F := F) c arg1 arg2 arg3) (cc0__k1_body i arg1 harg1 arg2 harg2 arg3 harg3) (fun _ s' => s'.1 = x) s := by
  rw [cc0__k1_body_eq_skeleton]
  unfold cc0__k1_body_skel
  rw [k0_part1_eq_skeleton]
  unfold k0_part1_skel
  refine WP.seq (Q := Kept x) ?_ fun v s hs => WP.bind (WP.loop (fun _ => Kept x) hs (fun _ _ s h => ?_) fun _ s hs => WP.ret hs)
  · refine WP.bind (WP.loop (fun _ => Kept x) hs (fun _ _ s h => ?_) fun _ s hs =>
      WP.bind (WP.loop (fun _ => Kept x) hs (fun _ _ s h => ?_) fun _ s hs =>
      WP.bind (WP.loop (fun _ => Kept x) hs (fun _ _ s h => ?_) fun _ s hs =>
      WP.bind (WP.loop (fun _ => Kept x) hs (fun _ _ s h => ?_) fun _ s hs =>
      WP.bind (WP.loop (fun _ => Kept x) hs (fun _ _ s h => ?_) fun _ s hs => WP.ret hs)))))
    · exact WP.bind (WP.load (slot1 c arg1 arg2 arg3) (WP.ret h))
    · exact WP.bind (WP.load (slot1 c arg1 arg2 arg3) (WP.bind (WP.load (slot3 c arg1 arg2 arg3) (WP.bind (WP.store (slot3 c arg1 arg2 arg3) (WP.ret h))))))
    all_goals exact WP.bind (WP.load (slot3 c arg1 arg2 arg3) (WP.ret h))
  · exact WP.bind (WP.load (slot3 c arg1 arg2 arg3) (WP.bind (WP.load (slot2 c arg1 arg2 arg3) (WP.bind (WP.store (slot2 c arg1 arg2 arg3) (WP.ret h))))))

end Body

variable (m : (ℓ : Loc nD τ sig) → Buf (Elt F) ℓ) (ρ : Dev nD → PrngReg)

/-- The launch's data: the input blocks stay; nothing is said of the output's. -/
def dat1 (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
  Φ _ := Pipeline.ΦA spec0 c
  q _ := fullShare
  owed _ := 0

theorem dat1_A (c : Dev nD) (w : Fin cfg0.W) : (dat1 m 0 c).A w = V m c (Pipeline.arrRef spec0 w) := by
  dsimp only [dat1]
theorem dat1_after0 (c : Dev nD) (t : Fin cfg0.N) : (dat1 m 0 c).after 0 t = iblk m c 0 t := by dsimp only [dat1]

/-- The window of which nothing is said: the output's. -/
abbrev out1 : Fin cfg0.W → Bool := ![false, true]

/-- The body at a grid point. -/
theorem body_at (c : Dev nD) (t : Fin cfg0.N) :
    iprop((dat1 m 0 c).Φ t.castSucc ∗ (dat1 m 0 c).owesAt () t.castSucc
      ∗ (∃ d, owns (c : Thread nD τ) (ms0_0 t) fullShare ((dat1 m 0 c).before 0 t d))
      ∗ (∃ d, owns (c : Thread nD τ) (ms0_1 t) fullShare d))
    ⊢ wp frame (wpE (defs₀ (F := F)) Variants.none c none) Set.univ (bodyAt0 t) (fun _ =>
      iprop((dat1 m 0 c).Φ t.succ ∗ (dat1 m 0 c).owesAt () t.succ
      ∗ owns (c : Thread nD τ) (ms0_0 t) fullShare ((dat1 m 0 c).after 0 t)
      ∗ (∃ d, owns (c : Thread nD τ) (ms0_1 t) fullShare d))) := by
  unfold bodyAt0
  simp only [before0_0_of m (dat1 m 0 c) (dat1_A m c 0) (dat1_after0 m c)]
  rw [show (dat1 m 0 c).Φ t.succ = (dat1 m 0 c).Φ t.castSucc from rfl,
    show (dat1 m 0 c).owesAt () t.succ = (dat1 m 0 c).owesAt () t.castSucc from rfl, dat1_after0]
  rw [show (dat1 m 0 c).Φ t.castSucc = Pipeline.ΦA spec0 c from rfl, PhiA0_eq]
  iintro ⟨⟨⟨%d3, H3⟩, Hg⟩, Ho, ⟨%d0, H1⟩, ⟨%d1, H2⟩⟩
  have hb := body1_wp (F := F) (𝒱 := Variants.none) (bd := none) (E := Set.univ) c (ms0_0 t) (ms0_1 t) scM0_0 (grid0.coords t) (hs0_0 t) (hs0_1 t) (Memref.isWhole_whole _)
    (iblk m c 0 t) (iblk m c 0 t, d1, d3) rfl
  unfold WP at hb
  iapply (wp_wand_r frame (wpE (defs₀ (F := F)) Variants.none (c : Thread nD τ) none) Set.univ)
  isplitl [H1 H2 H3]
  · iapply hb
    unfold R1
    isplitl [H1]; · iexact H1
    isplitl [H2]; · iexact H2
    iexact H3
  · unfold R1
    iintro %v ⟨%s', %hs, H1, H2, H3⟩
    rw [hs]
    isplitl [H3 Hg]
    · isplitl [H3]
      · iexists _; iexact H3
      · iexact Hg
    isplitl [Ho]; · iexact Ho
    isplitl [H1]; · iexact H1
    iexists _; iexact H2

/-- The body table's row at a point is the body. -/
theorem row_at (t : Fin cfg0.N) : defs₀ (F := F) .tc cfg0.body (cfg0.bodyArgs t (cfg0.slots t)) = bodyAt0 t := by
  unfold defs₀; rw [Defs.onTc_tc]

/-- The pipeline's obligation on the body. -/
theorem obligation (c : Dev nD) : BodyObligation (dat1 (F := F) m 0 c) (defs₀ (F := F)) Variants.none () Set.univ out1 := fun t => by
  rw [bigSep_W0, bigSep_W0, row_at]
  exact triple_restated (body_at m c t) rfl .rfl fun _ => .rfl

/-- The buffers the host writes after the launch. -/
abbrev late : Finset (Ref sig .tc) := {main_v3, main_v4}

/-- The later host operations write only those. -/
theorem late_writes : ∀ ops ∈ ([hostOps1] : List (List (HloOp τ sig (Elt F)))), ∀ op ∈ ops, ∀ b : Ref sig .tc, Proc.devRef .tc b ∈ op.writes → b ∈ late := by
  intro ops hops op hop b hb
  simp only [List.mem_cons, List.mem_nil_iff, or_false] at hops
  subst hops
  simp only [hostOps1, List.mem_cons, List.mem_nil_iff, or_false] at hop
  rcases hop with rfl | rfl
  all_goals
    simp only [StableHlo.unary_writes, StableHlo.reshape_writes, Finset.mem_singleton] at hb
    simp only [late, Finset.mem_insert, Finset.mem_singleton]
    first
      | exact .inl (by by_contra h; exact StableHlo.devRef_ne_of_ne h hb)
      | exact .inr (by by_contra h; exact StableHlo.devRef_ne_of_ne h hb)

set_option backward.isDefEq.respectTransparency.types false in
set_option maxHeartbeats 800000 in
/-- The frame: every run ends with the argument unchanged and the counters at zero. -/
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  Pipeline.θ_run_frame_around_T_forget (Q' := _) cfgs (dat1 m) (0 : Fin 1) launch0 defs₀ Variants.none out1 late m ρ main
    (hbody := fun c => (obligation m c).loose) (hshare := fun c => (dat1 m 0 c).share_full fun _ => rfl)
    (howed := fun _ _ => rfl) (V₀ := V0 m) (opss := [hostOps1]) (hsub := sfx_sub) (hfresh := sfx_fresh) (hkeep := sfx_keeps) (hT := late_writes)
    (hmain := hmain m Variants.none) (hA := dat1_A m) (hΦ := fun _ _ => rfl)
    (hQ' := fun r h => ⟨fun c => ((h.1 c).2 main_arg0 (Finset.mem_sdiff.mpr ⟨Pipeline.mem_restRefs_of main_arg0 (by decide) (by decide), by decide⟩)).trans
      (V_main_arg0 m c), h.2⟩)

end Cert.Kernel.Hand

end
-- ==== Proof.K1Body.lean ====
/- The first kernel's body: what it leaves in its output block, as a function of the input block. -/
module

public import proofs.«01_k».proof.Proof.Wp
public import proofs.«01_k».proof.Proof.Gen.KernelIdeal.Skeleton
public import Idealize.ShloMosaic.Lib.Pointwise.Index

@[expose] public section

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal.Gen Cert.Wp

variable {F : FTy → Type} [FloatOps F] [Named F]

/-- Strip `k` of a block of 784 strips. -/
def strip (x : Vec F S8x784x128 .f32) (k : ℕ) : Vec F S8x1x128 .f32 :=
  fun y => x (ix3 (y 0) ⟨k % 784, Nat.mod_lt _ (by decide)⟩ (y 2))

/-- A load of one strip reads it. -/
theorem window_strip (x : Vec F S8x784x128 .f32) {off : Fin 3 → ℕ} (inb : ∀ a, off a + S8x1x128.size a ≤ S8x784x128.size a) (k : ℕ) (hk : k < 784)
    (h : off = ![0, k, 0]) : VecWindow.window x off S8x1x128.size inb = strip x k := by
  subst h
  funext y
  unfold VecWindow.window strip
  refine congrArg x (funext fun a => Fin.ext ?_)
  match a with
  | ⟨0, _⟩ => show 0 + 1 * (y 0).val = (y 0).val; omega
  | ⟨1, _⟩ =>
    show k + 1 * (y 1).val = k % 784
    have : (y 1).val < 1 := (y 1).isLt
    rw [Nat.mod_eq_of_lt hk]; omega
  | ⟨2, _⟩ => show 0 + 1 * (y 2).val = (y 2).val; omega

/-- A store of one strip changes that strip only. -/
theorem put_strip (z : Vec F S8x784x128 .f32) {off : Fin 3 → ℕ} (k : ℕ) (h : off = ![0, k, 0]) (w : Vec F S8x1x128 .f32) (y : S8x784x128.Idx) :
    VecWindow.put z off S8x1x128.size w y = if (y 1).val = k then w (ix3 (y 0) 0 (y 2)) else z y := by
  subst h
  unfold VecWindow.put
  by_cases hy : (y 1).val = k
  · have hm : ∀ a : Fin 3, (![0, k, 0] : Fin 3 → ℕ) a ≤ (y a).val ∧ (y a).val < (![0, k, 0] : Fin 3 → ℕ) a + S8x1x128.size a := fun a => by
      match a with
      | ⟨0, _⟩ => exact ⟨Nat.zero_le _, by show (y 0).val < 0 + 8; have : (y 0).val < 8 := (y 0).isLt; omega⟩
      | ⟨1, _⟩ => exact ⟨by show k ≤ (y 1).val; omega, by show (y 1).val < k + 1; omega⟩
      | ⟨2, _⟩ => exact ⟨Nat.zero_le _, by show (y 2).val < 0 + 128; have : (y 2).val < 128 := (y 2).isLt; omega⟩
    rw [if_pos hy, dif_pos hm]
    refine congrArg w (funext fun a => Fin.ext ?_)
    match a with
    | ⟨0, _⟩ => show (y 0).val - 0 = (y 0).val; omega
    | ⟨1, _⟩ => show (y 1).val - k = 0; omega
    | ⟨2, _⟩ => show (y 2).val - 0 = (y 2).val; omega
  · rw [if_neg hy, dif_neg]
    intro hm
    have h1 := hm ⟨1, by decide⟩
    have h2 : k ≤ (y 1).val ∧ (y 1).val < k + 1 := h1
    omega

/-- The running maximum of the scaled strips before strip `k`. -/
def blockMax (x : Vec F S8x784x128 .f32) : ℕ → FVec F S8x128 .f32
  | 0 => k0_pay2
  | k + 1 => k0_pay3 (blockMax x k) (strip x k)

/-- The exponentials of the block. -/
def expBlock (x : Vec F S8x784x128 .f32) : Vec F S8x784x128 .f32 :=
  fun y => k0_pay4 (blockMax x 784) (strip x (y 1).val) (ix3 (y 0) 0 (y 2))

/-- The sum of the first `k` strips from strip `a` on. -/
def stripSum (e : Vec F S8x784x128 .f32) (a : ℕ) : ℕ → FVec F S8x128 .f32
  | 0 => k0_pay5
  | k + 1 => k0_pay6 (stripSum e a k) (strip e (a + k))

/-- The three partial sums of the exponentials put together, lane by lane. -/
def laneSums (e : Vec F S8x784x128 .f32) : FVec F S8x128 .f32 :=
  k0_pay11 (stripSum e 0 261) (stripSum e 261 261) (stripSum e 522 262)

/-- What the first body leaves in its output block. -/
def probBlock (x : Vec F S8x784x128 .f32) : Vec F S8x784x128 .f32 :=
  fun y => k0_pay1 (laneSums (expBlock x)) (k0_pay12 (stripSum (expBlock x) 0 261) (stripSum (expBlock x) 261 261) (stripSum (expBlock x) 522 262))
    (strip (expBlock x) (y 1).val) (ix3 (y 0) 0 (y 2))

local notation "𝕄" => MT nD τ sig Unit (Elt F) ℕ (UR sig nD τ) ℕ

/-- The three buffers of the first body, held at three vectors. -/
def R1 (c : Dev nD) (arg1 arg2 arg3 : Memref sig .tc .vmem S8x784x128 .f32) (s : Vec F S8x784x128 .f32 × Vec F S8x784x128 .f32 × Vec F S8x784x128 .f32) : sProp 𝕄 :=
  iprop(owns (c : Thread nD τ) arg1 fullShare s.1 ∗ owns (c : Thread nD τ) arg2 fullShare s.2.1 ∗ owns (c : Thread nD τ) arg3 fullShare s.2.2)

variable (c : Dev nD) (arg1 arg2 arg3 : Memref sig .tc .vmem S8x784x128 .f32)

/-- The first buffer's place in the state. -/
def slot1 : Slot c (R1 (F := F) c arg1 arg2 arg3) arg1 where
  get s := s.1
  set s x := (x, s.2)
  same _ := rfl
  law s := by
    unfold R1
    iintro ⟨H1, H2, H3⟩
    isplitl [H1]; · iexact H1
    iintro %x H1
    isplitl [H1]; · iexact H1
    isplitl [H2]; · iexact H2
    iexact H3

/-- The second buffer's. -/
def slot2 : Slot c (R1 (F := F) c arg1 arg2 arg3) arg2 where
  get s := s.2.1
  set s x := (s.1, x, s.2.2)
  same _ := rfl
  law s := by
    unfold R1
    iintro ⟨H1, H2, H3⟩
    isplitl [H2]; · iexact H2
    iintro %x H2
    isplitl [H1]; · iexact H1
    isplitl [H2]; · iexact H2
    iexact H3

/-- The third buffer's. -/
def slot3 : Slot c (R1 (F := F) c arg1 arg2 arg3) arg3 where
  get s := s.2.2
  set s x := (s.1, s.2.1, x)
  same _ := rfl
  law s := by
    unfold R1
    iintro ⟨H1, H2, H3⟩
    isplitl [H3]; · iexact H3
    iintro %x H3
    isplitl [H1]; · iexact H1
    isplitl [H2]; · iexact H2
    iexact H3

theorem trips1 : k0_t1_loop.trips = 784 := by decide
theorem trips2 : k0_t2_loop.trips = 784 := by decide
theorem trips3 : k0_t3_loop.trips = 261 := by decide
theorem trips4 : k0_t4_loop.trips = 261 := by decide
theorem trips5 : k0_t5_loop.trips = 262 := by decide
theorem trips6 : k0_t6_loop.trips = 784 := by decide

variable {𝒱 : Variants} {bd : Option 𝒱.V} {E : Set ℕ} (i : grid0.Coords) (harg1 : arg1.IsWhole) (harg2 : arg2.IsWhole) (harg3 : arg3.IsWhole)

/-- The body's first part: it leaves the exponentials in the third buffer and returns the lane sums. -/
theorem part1_wp (x : Vec F S8x784x128 .f32) (s : Vec F S8x784x128 .f32 × Vec F S8x784x128 .f32 × Vec F S8x784x128 .f32) (hs : s.1 = x) :
    WP defs₀ 𝒱 c bd E (R1 (F := F) c arg1 arg2 arg3) (k0_part1 i arg1 harg1 arg2 harg2 arg3 harg3)
      (fun v s' => v = ⟨laneSums (expBlock x), k0_pay12 (stripSum (expBlock x) 0 261) (stripSum (expBlock x) 261 261) (stripSum (expBlock x) 522 262)⟩
        ∧ s'.1 = x ∧ s'.2.2 = expBlock x) s := by
  rw [k0_part1_eq_skeleton]
  unfold k0_part1_skel
  refine WP.bind (WP.loop (fun k acc s' => s'.1 = x ∧ acc = blockMax x k) ⟨hs, rfl⟩ (fun k acc s' h => ?_) (fun acc s' h => ?_))
  · have hk : k.val < 784 := trips1 ▸ k.isLt
    unfold k0_t1_body
    refine WP.bind (WP.load (slot1 c arg1 arg2 arg3) (WP.ret ⟨h.1, ?_⟩))
    rw [window_strip _ _ k.val hk (k0_off1_eq k), h.2, show (slot1 c arg1 arg2 arg3).get s' = x from h.1]; rfl
  obtain ⟨hx, rfl⟩ := h
  rw [trips1]
  refine WP.bind (WP.loop (fun k _ s' => s'.1 = x ∧ ∀ y : S8x784x128.Idx, (y 1).val < k → s'.2.2 y = expBlock x y) ⟨hx, fun y hy => absurd hy (Nat.not_lt_zero _)⟩ (fun k acc s' h => ?_) (fun acc s' h => ?_))
  · have hk : k.val < 784 := trips2 ▸ k.isLt
    unfold k0_t2_body
    refine WP.bind (WP.load (slot1 c arg1 arg2 arg3) (WP.bind (WP.load (slot3 c arg1 arg2 arg3) (WP.bind (WP.store (slot3 c arg1 arg2 arg3) (WP.ret ⟨h.1, fun y hy => ?_⟩))))))
    show VecWindow.put s'.2.2 (k0_off2 k) S8x1x128.size _ y = _
    rw [put_strip _ k.val (k0_off2_eq k)]
    split
    · rename_i hyk
      rw [window_strip _ _ k.val hk (k0_off2_eq k), show (slot1 c arg1 arg2 arg3).get s' = x from h.1]
      unfold expBlock; rw [hyk]
    · exact h.2 y (by omega)
  obtain ⟨hx, he⟩ := h
  rw [trips2] at he
  have he' : s'.2.2 = expBlock x := funext fun y => he y (y 1).isLt
  clear he
  refine WP.bind (WP.loop (fun k acc s' => (s'.1 = x ∧ s'.2.2 = expBlock x) ∧ acc = stripSum (expBlock x) 0 k) ⟨⟨hx, he'⟩, rfl⟩ (fun k acc s' h => ?_) (fun acc s' h => ?_))
  · have hk : k.val < 261 := trips3 ▸ k.isLt
    unfold k0_t3_body
    refine WP.bind (WP.load (slot3 c arg1 arg2 arg3) (WP.ret ⟨h.1, ?_⟩))
    rw [window_strip _ _ k.val (by omega) (k0_off3_eq k), h.2, show (slot3 c arg1 arg2 arg3).get s' = expBlock x from h.1.2]
    show _ = k0_pay6 _ (strip _ (0 + k.val)); rw [Nat.zero_add]
  obtain ⟨hx, rfl⟩ := h
  rw [trips3]
  refine WP.bind (WP.loop (fun k acc s' => (s'.1 = x ∧ s'.2.2 = expBlock x) ∧ acc = stripSum (expBlock x) 261 k) ⟨hx, rfl⟩ (fun k acc s' h => ?_) (fun acc s' h => ?_))
  · have hk : k.val < 261 := trips4 ▸ k.isLt
    unfold k0_t4_body
    refine WP.bind (WP.load (slot3 c arg1 arg2 arg3) (WP.ret ⟨h.1, ?_⟩))
    rw [window_strip _ _ (k.val + 261) (by omega) (k0_off4_eq k), h.2, show (slot3 c arg1 arg2 arg3).get s' = expBlock x from h.1.2, Nat.add_comm]
    rfl
  obtain ⟨hx, rfl⟩ := h
  rw [trips4]
  refine WP.bind (WP.loop (fun k acc s' => (s'.1 = x ∧ s'.2.2 = expBlock x) ∧ acc = stripSum (expBlock x) 522 k) ⟨hx, rfl⟩ (fun k acc s' h => ?_) (fun acc s' h => ?_))
  · have hk : k.val < 262 := trips5 ▸ k.isLt
    unfold k0_t5_body
    refine WP.bind (WP.load (slot3 c arg1 arg2 arg3) (WP.ret ⟨h.1, ?_⟩))
    rw [window_strip _ _ (k.val + 522) (by omega) (k0_off5_eq k), h.2, show (slot3 c arg1 arg2 arg3).get s' = expBlock x from h.1.2, Nat.add_comm]
    rfl
  obtain ⟨hx, rfl⟩ := h
  rw [trips5]
  exact WP.ret ⟨rfl, hx⟩

/-- The whole first body: the input block is kept, the output block is `probBlock` of it. -/
theorem body1_wp (x : Vec F S8x784x128 .f32) (s : Vec F S8x784x128 .f32 × Vec F S8x784x128 .f32 × Vec F S8x784x128 .f32) (hs : s.1 = x) :
    WP defs₀ 𝒱 c bd E (R1 (F := F) c arg1 arg2 arg3) (cc0__k1_body i arg1 harg1 arg2 harg2 arg3 harg3)
      (fun _ s' => s'.1 = x ∧ s'.2.1 = probBlock x) s := by
  rw [cc0__k1_body_eq_skeleton]
  unfold cc0__k1_body_skel
  refine WP.seq (part1_wp c arg1 arg2 arg3 i harg1 harg2 harg3 x s hs) ?_
  rintro v s' ⟨rfl, hx, he⟩
  refine WP.bind (WP.loop (fun k _ s' => (s'.1 = x ∧ s'.2.2 = expBlock x) ∧ ∀ y : S8x784x128.Idx, (y 1).val < k → s'.2.1 y = probBlock x y) ⟨⟨hx, he⟩, fun y hy => absurd hy (Nat.not_lt_zero _)⟩ (fun k acc s' h => ?_) (fun acc s' h => ?_))
  · have hk : k.val < 784 := trips6 ▸ k.isLt
    unfold k0_t6_body
    refine WP.bind (WP.load (slot3 c arg1 arg2 arg3) (WP.bind (WP.load (slot2 c arg1 arg2 arg3) (WP.bind (WP.store (slot2 c arg1 arg2 arg3) (WP.ret ⟨h.1, fun y hy => ?_⟩))))))
    show VecWindow.put s'.2.1 (k0_off6 k) S8x1x128.size _ y = _
    rw [put_strip _ k.val (k0_off6_eq k)]
    split
    · rename_i hyk
      rw [window_strip _ _ k.val hk (k0_off6_eq k), show (slot3 c arg1 arg2 arg3).get s' = expBlock x from h.1.2]
      unfold probBlock; rw [hyk]
    · exact h.2 y (by omega)
  obtain ⟨hx, he⟩ := h
  rw [trips6] at he
  exact WP.ret ⟨hx.1, funext fun y => he y (y 1).isLt⟩

end Cert.KernelIdeal.Hand

end
-- ==== Proof.K1Run.lean ====
/- The first kernel's launch: every run ends, and the arrays end at what the blocks' function says. -/
module

public import proofs.«01_k».proof.Proof.K1Body
public import proofs.«01_k».proof.Proof.Gen.KernelIdeal.Frame.Runs
public import Idealize.ShloMosaic.Lib.Claim

@[expose] public section

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen Cert.Wp

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The launch's data: the input blocks stay, each output block ends at `probBlock` of its input block. -/
def dat1 (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => probBlock (iblk m c 0 t)
  Φ _ := Pipeline.ΦA spec0 c
  q _ := fullShare
  owed _ := 0

theorem dat1_A (c : Dev nD) (w : Fin cfg0.W) : (dat1 m 0 c).A w = V m c (Pipeline.arrRef spec0 w) := by
  dsimp only [dat1]
theorem dat1_after0 (c : Dev nD) (t : Fin cfg0.N) : (dat1 m 0 c).after 0 t = iblk m c 0 t := by dsimp only [dat1]
theorem dat1_after1 (c : Dev nD) (t : Fin cfg0.N) : (dat1 m 0 c).after 1 t = probBlock (iblk m c 0 t) := by dsimp only [dat1]
theorem dat1_before0 (c : Dev nD) (t : Fin cfg0.N) (d) : (dat1 m 0 c).before 0 t d = iblk m c 0 t :=
  before0_0_of m (dat1 m 0 c) (dat1_A m c 0) (dat1_after0 m c) t d

/-- The body at a grid point. -/
theorem body_at (c : Dev nD) (t : Fin cfg0.N) :
    iprop((dat1 m 0 c).Φ t.castSucc ∗ (dat1 m 0 c).owesAt () t.castSucc
      ∗ (∃ d, owns (c : Thread nD τ) (ms0_0 t) fullShare ((dat1 m 0 c).before 0 t d))
      ∗ (∃ d, owns (c : Thread nD τ) (ms0_1 t) fullShare ((dat1 m 0 c).before 1 t d)))
    ⊢ wp frame (wpE (defs₀ (F := F)) Variants.none c none) Set.univ (bodyAt0 t) (fun _ =>
      iprop((dat1 m 0 c).Φ t.succ ∗ (dat1 m 0 c).owesAt () t.succ
      ∗ owns (c : Thread nD τ) (ms0_0 t) fullShare ((dat1 m 0 c).after 0 t)
      ∗ owns (c : Thread nD τ) (ms0_1 t) fullShare ((dat1 m 0 c).after 1 t))) := by
  unfold bodyAt0
  simp only [dat1_before0]
  rw [show (dat1 m 0 c).Φ t.succ = (dat1 m 0 c).Φ t.castSucc from rfl,
    show (dat1 m 0 c).owesAt () t.succ = (dat1 m 0 c).owesAt () t.castSucc from rfl, dat1_after0, dat1_after1]
  rw [show (dat1 m 0 c).Φ t.castSucc = Pipeline.ΦA spec0 c from rfl, PhiA0_eq]
  iintro ⟨⟨⟨%d3, H3⟩, Hg⟩, Ho, ⟨%d0, H1⟩, ⟨%d1, H2⟩⟩
  have hb := body1_wp (F := F) (𝒱 := Variants.none) (bd := none) (E := Set.univ) c (ms0_0 t) (ms0_1 t) scM0_0 (grid0.coords t) (hs0_0 t) (hs0_1 t) (Memref.isWhole_whole _)
    (iblk m c 0 t) (iblk m c 0 t, (dat1 m 0 c).before 1 t d1, d3) rfl
  unfold WP at hb
  iapply (wp_wand_r frame (wpE (defs₀ (F := F)) Variants.none (c : Thread nD τ) none) Set.univ)
  isplitl [H1 H2 H3]
  · iapply hb
    unfold R1
    isplitl [H1]; · iexact H1
    isplitl [H2]; · iexact H2
    iexact H3
  · unfold R1
    iintro %v ⟨%s', %hs, H1, H2, H3⟩
    rw [hs.1, hs.2]
    isplitl [H3 Hg]
    · isplitl [H3]
      · iexists _; iexact H3
      · iexact Hg
    isplitl [Ho]; · iexact Ho
    isplitl [H1]; · iexact H1
    iexact H2

/-- The body table's row at a point is the body. -/
theorem row_at (t : Fin cfg0.N) : defs₀ (F := F) .tc cfg0.body (cfg0.bodyArgs t (cfg0.slots t)) = bodyAt0 t := by
  unfold defs₀; rw [Defs.onTc_tc]

/-- The pipeline's obligation on the body. -/
theorem obligation (c : Dev nD) : BodyObligation (dat1 (F := F) m 0 c) (defs₀ (F := F)) Variants.none () Set.univ := fun t => by
  rw [bigSep_W0, bigSep_W0, row_at]
  exact triple_restated (body_at m c t) rfl .rfl fun _ => .rfl

set_option backward.isDefEq.respectTransparency.types false in
set_option maxHeartbeats 800000 in
/-- Every run of the program ends, with the arrays at what the launch's data says and the counters at zero. -/
theorem run_all : θ_run defs (onTc (τ := τ) (main (F := F))) (s₀ m ρ) (fun r => (Pipeline.FramePost cfgs (dat1 m) 0 (Pipeline.afterTail₀ cfgs (dat1 m) 0 (V0 m) [hostOps1])) r ∧ r.2.sem = fun _ => 0) :=
  Pipeline.θ_run_frame_around (Q' := _) cfgs (dat1 m) (0 : Fin 1) launch0 defs₀ Variants.none m ρ main
    (hbody := fun c => (obligation m c).loose) (hshare := fun c => (dat1 m 0 c).share_full fun _ => rfl)
    (howed := fun _ _ => rfl) (V₀ := V0 m) (opss := [hostOps1]) (hsub := sfx_sub) (hfresh := sfx_fresh) (hkeep := sfx_keeps)
    (hmain := hmain m Variants.none) (hA := dat1_A m) (hΦ := fun _ _ => rfl)

/-- The frame: every run ends with the argument unchanged and the counters at zero. -/
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  θ_run_and (frame_of m ρ (dat1 m) (dat1_A m) ((θ_run defs _ _).mono (fun _ h => h.1) (run_all m ρ)))
    ((θ_run defs _ _).mono (fun _ h => h.2) (run_all m ρ))

end Cert.KernelIdeal.Hand

end
-- ==== Proof.K1Value.lean ====
/- The first kernel's block function over the extended reals: the softmax of each row, its elements laid out in 784
   strips of 128 lanes. -/
module

public import proofs.«01_k».proof.Proof.K1Body
public import Idealize.ShloMosaic.Lib.Pointwise
public import Idealize.ShloMosaic.PureOps.Ideal.Laws
public import Idealize.ShloMosaic.PureOps.IdealRules

@[expose] public section

noncomputable section

namespace Cert.KernelIdeal.Hand

open Idealize.ShloMosaic
open Cert.KernelIdeal.Gen

/-- The word of 1.25. -/
theorem lit125 : Ideal.ofBits .f32 0x3FA00000#32 = ((5 / 4 : ℝ) : EReal) := by
  simp [Ideal.ofBits, Ideal.ieee, -EReal.coe_mul]; norm_num

/-- The word of negative infinity. -/
theorem litNegInf : Ideal.ofBits .f32 0xFF800000#32 = (⊥ : EReal) := by
  simp [Ideal.ofBits, Ideal.ieee]

/-- The named constant. -/
theorem neg_bot : Named.named (F := Ideal) (φ := .f32) Cert.KernelIdeal.κ "neg" 0xF149F2CA#32 = (⊥ : EReal) :=
  IdealRules.named_const.ideal_named_scalar _ _ _ _ rfl

set_option maxRecDepth 16384 in
theorem pay2_at (j : S8x128.Idx) : (k0_pay2 (F := Ideal)) j = (⊥ : EReal) := neg_bot

set_option maxRecDepth 16384 in
theorem pay3_at (acc : FVec Ideal S8x128 .f32) (v : Vec Ideal S8x1x128 .f32) (r : Fin 8) (l : Fin 128) :
    k0_pay3 acc v (ix2 r l) = max (acc (ix2 r l)) (v (ix3 r 0 l) * ((5 / 4 : ℝ) : EReal)) := by
  rw [← lit125]
  pointwise [k0_pay3]

set_option maxRecDepth 16384 in
theorem pay4_at (M : FVec Ideal S8x128 .f32) (v : Vec Ideal S8x1x128 .f32) (r : Fin 8) (l : Fin 128) :
    k0_pay4 M v (ix3 r 0 l) = Ideal.exp (v (ix3 r 0 l) * ((5 / 4 : ℝ) : EReal) - Finset.univ.sup fun l' : Fin 128 => M (ix2 r l')) := by
  rw [← lit125]
  pointwise [k0_pay4]
  rw [litNegInf]; rfl

set_option maxRecDepth 16384 in
theorem pay6_at (acc : FVec Ideal S8x128 .f32) (v : Vec Ideal S8x1x128 .f32) (r : Fin 8) (l : Fin 128) :
    k0_pay6 acc v (ix2 r l) = acc (ix2 r l) + v (ix3 r 0 l) := by
  pointwise [k0_pay6]

/-- A sum over 128 lanes by eights: each residue's sixteen terms first. -/
theorem sum_by_eights (a : Fin 128 → EReal) :
    ∑ l, a l = ∑ j : Fin 8, ∑ k : Fin 16, a ⟨j.val + 8 * k.val, by omega⟩ := by
  rw [← (finProdFinEquiv (m := 16) (n := 8)).sum_comp, Fintype.sum_prod_type_right]
  rfl

/-- Sixteen terms one after another. -/
theorem sum_sixteen (b : Fin 16 → EReal) :
    ∑ k, b k = b 0 + b 1 + b 2 + b 3 + b 4 + b 5 + b 6 + b 7 + b 8 + b 9 + b 10 + b 11 + b 12 + b 13 + b 14 + b 15 := by
  simp only [Fin.sum_univ_castSucc, Finset.univ_eq_empty, Finset.sum_empty, zero_add]
  rfl

/-- Eight terms by halves. -/
theorem sum_by_halves (b : Fin 8 → EReal) :
    ∑ k, b k = b 0 + b 4 + (b 2 + b 6) + (b 1 + b 5 + (b 3 + b 7)) := by
  rw [Fin.sum_univ_eight]; ac_rfl

set_option maxRecDepth 16384 in
theorem pay1_at (p q s : FVec Ideal S8x128 .f32) (v : Vec Ideal S8x1x128 .f32) (r : Fin 8) (l : Fin 128) :
    k0_pay1 (k0_pay11 p q s) (k0_pay12 p q s) v (ix3 r 0 l) = v (ix3 r 0 l) * Ideal.div 1 (∑ l' : Fin 128, k0_pay11 p q s (ix2 r l')) := by
  rw [sum_by_eights, sum_by_halves]
  simp only [sum_sixteen]
  pointwise [k0_pay1, k0_pay12]

/-! ## One row -/

/-- The greatest scaled element of a row laid out in strips and lanes. -/
def rmax (a : Fin 784 → Fin 128 → EReal) : EReal := Finset.univ.sup fun l => Finset.univ.sup fun k => a k l * ((5 / 4 : ℝ) : EReal)
/-- Its exponentials. -/
def rexp (a : Fin 784 → Fin 128 → EReal) (k : Fin 784) (l : Fin 128) : EReal := Ideal.exp (a k l * ((5 / 4 : ℝ) : EReal) - rmax a)
/-- Its probabilities. -/
def rprob (a : Fin 784 → Fin 128 → EReal) (k : Fin 784) (l : Fin 128) : EReal := rexp a k l * Ideal.div 1 (∑ l, ∑ k, rexp a k l)

variable (x : Vec Ideal S8x784x128 .f32)

/-- Row `r` of a block. -/
def rowOf (r : Fin 8) (k : Fin 784) (l : Fin 128) : EReal := x (ix3 r k l)

theorem strip_at (k : ℕ) (hk : k < 784) (r : Fin 8) (l : Fin 128) : strip x k (ix3 r 0 l) = rowOf x r ⟨k, hk⟩ l := by
  unfold strip rowOf
  refine congrArg x ?_
  have : (⟨k % 784, Nat.mod_lt _ (by decide)⟩ : Fin 784) = ⟨k, hk⟩ := Fin.ext (Nat.mod_eq_of_lt hk)
  rw [← this]; rfl

theorem blockMax_at (r : Fin 8) (l : Fin 128) (k : ℕ) :
    blockMax x k (ix2 r l) = (Finset.range k).sup fun j => strip x j (ix3 r 0 l) * ((5 / 4 : ℝ) : EReal) := by
  induction k with
  | zero => exact pay2_at _
  | succ k ih => rw [blockMax, pay3_at, ih, Finset.range_add_one, Finset.sup_insert, max_comm]

theorem blockMax_all (r : Fin 8) (l : Fin 128) :
    blockMax x 784 (ix2 r l) = Finset.univ.sup fun k => rowOf x r k l * ((5 / 4 : ℝ) : EReal) := by
  rw [blockMax_at]
  refine le_antisymm (Finset.sup_le fun j hj => ?_) (Finset.sup_le fun k _ => ?_)
  · rw [strip_at x j (Finset.mem_range.mp hj)]
    exact Finset.le_sup (f := fun k => rowOf x r k l * ((5 / 4 : ℝ) : EReal)) (Finset.mem_univ _)
  · have := Finset.le_sup (f := fun j => strip x j (ix3 r 0 l) * ((5 / 4 : ℝ) : EReal)) (Finset.mem_range.mpr k.isLt)
    rwa [strip_at x k.val k.isLt] at this

theorem expBlock_at (r : Fin 8) (k : Fin 784) (l : Fin 128) : expBlock x (ix3 r k l) = rexp (rowOf x r) k l := by
  show k0_pay4 (blockMax x 784) (strip x k.val) (ix3 r 0 l) = _
  rw [pay4_at, strip_at x k.val k.isLt]
  simp only [blockMax_all]
  rfl

theorem stripSum_at (a : ℕ) (r : Fin 8) (l : Fin 128) (n : ℕ) :
    stripSum x a n (ix2 r l) = ∑ j ∈ Finset.range n, strip x (a + j) (ix3 r 0 l) := by
  induction n with
  | zero => exact Ideal.ofBits_zero_f32
  | succ n ih => rw [stripSum, pay6_at, ih, Finset.sum_range_succ]

theorem laneSums_at (r : Fin 8) (l : Fin 128) : laneSums x (ix2 r l) = ∑ k : Fin 784, rowOf x r k l := by
  have h : laneSums x (ix2 r l) = stripSum x 0 261 (ix2 r l) + stripSum x 261 261 (ix2 r l) + stripSum x 522 262 (ix2 r l) := rfl
  rw [h, stripSum_at, stripSum_at, stripSum_at]
  have e : ∑ k : Fin 784, rowOf x r k l = ∑ j ∈ Finset.range 784, strip x j (ix3 r 0 l) := by
    rw [← Fin.sum_univ_eq_sum_range (fun j => strip x j (ix3 r 0 l)) 784]
    exact Finset.sum_congr rfl fun k _ => (strip_at x k.val k.isLt r l).symm
  rw [e, show 784 = 261 + 261 + 262 from rfl, Finset.sum_range_add, Finset.sum_range_add]
  simp only [Nat.zero_add, Nat.reduceAdd]

/-- The block function, row by row. -/
theorem probBlock_at (r : Fin 8) (k : Fin 784) (l : Fin 128) : probBlock x (ix3 r k l) = rprob (rowOf x r) k l := by
  show k0_pay1 (laneSums (expBlock x)) (k0_pay12 (stripSum (expBlock x) 0 261) (stripSum (expBlock x) 261 261) (stripSum (expBlock x) 522 262))
    (strip (expBlock x) k.val) (ix3 r 0 l) = _
  unfold laneSums
  rw [pay1_at, strip_at _ k.val k.isLt]
  have hs : ∀ l' : Fin 128, k0_pay11 (stripSum (expBlock x) 0 261) (stripSum (expBlock x) 261 261) (stripSum (expBlock x) 522 262) (ix2 r l')
      = ∑ k, rexp (rowOf x r) k l' := fun l' => by
    refine (laneSums_at (expBlock x) r l').trans (Finset.sum_congr rfl fun k _ => expBlock_at x r k l')
  simp only [hs]
  exact congrArg (· * _) (expBlock_at x r k l)

/-! ## A padded row is the softmax of its elements -/

/-- A row of 100000 laid out in strips of 128, padded by negative infinity. -/
def padRow (g : Fin 100000 → EReal) (k : Fin 784) (l : Fin 128) : EReal := if h : l.val + 128 * k.val < 100000 then g ⟨l.val + 128 * k.val, h⟩ else ⊥

/-- A row's scaled elements. -/
def scaled (g : Fin 100000 → EReal) (j : Fin 100000) : EReal := g j * ((5 / 4 : ℝ) : EReal)
/-- The greatest of them. -/
def smax (g : Fin 100000 → EReal) : EReal := Finset.univ.sup (scaled g)
/-- The exponential of each element less the greatest. -/
def sexp (g : Fin 100000 → EReal) (j : Fin 100000) : EReal := Ideal.exp (scaled g j - smax g)

theorem rmax_pad (g : Fin 100000 → EReal) : rmax (padRow g) = smax g := by
  refine le_antisymm (Finset.sup_le fun l _ => Finset.sup_le fun k _ => ?_) (Finset.sup_le fun j _ => ?_)
  · unfold padRow
    split
    · exact Finset.le_sup (f := scaled g) (Finset.mem_univ _)
    · rw [EReal.bot_mul_coe_of_pos (by norm_num)]; exact bot_le
  · have hj := j.isLt
    let l : Fin 128 := ⟨j.val % 128, Nat.mod_lt _ (by decide)⟩
    let k : Fin 784 := ⟨j.val / 128, by omega⟩
    have e : l.val + 128 * k.val = j.val := Nat.mod_add_div _ _
    have hp : padRow g k l = g j := by
      unfold padRow
      rw [dif_pos (by rw [e]; exact hj)]
      exact congrArg g (Fin.ext e)
    refine le_trans ?_ (Finset.le_sup (f := fun l => Finset.univ.sup fun k => padRow g k l * ((5 / 4 : ℝ) : EReal)) (Finset.mem_univ l))
    refine le_trans ?_ (Finset.le_sup (f := fun k => padRow g k l * ((5 / 4 : ℝ) : EReal)) (Finset.mem_univ k))
    rw [hp]; exact le_rfl

theorem rexp_pad (g : Fin 100000 → EReal) (k : Fin 784) (l : Fin 128) :
    rexp (padRow g) k l = if h : l.val + 128 * k.val < 100000 then sexp g ⟨l.val + 128 * k.val, h⟩ else 0 := by
  unfold rexp sexp scaled
  rw [rmax_pad]
  unfold padRow
  split
  · rfl
  · rw [EReal.bot_mul_coe_of_pos (by norm_num), EReal.bot_sub, Ideal.exp_bot]

theorem rsum_pad (g : Fin 100000 → EReal) : (∑ l, ∑ k, rexp (padRow g) k l) = ∑ j, sexp g j := by
  let H (n : ℕ) : EReal := if h : n < 100000 then sexp g ⟨n, h⟩ else 0
  have h1 : (∑ l : Fin 128, ∑ k : Fin 784, rexp (padRow g) k l) = ∑ n : Fin (784 * 128), H n.val := by
    rw [← (finProdFinEquiv (m := 784) (n := 128)).sum_comp, Fintype.sum_prod_type_right]
    exact Finset.sum_congr rfl fun l _ => Finset.sum_congr rfl fun k _ => rexp_pad g k l
  have h2 : ∑ j, sexp g j = ∑ n : Fin 100000, H n.val := Finset.sum_congr rfl fun n _ => (show H n.val = sexp g n from dif_pos n.isLt).symm
  rw [h1, h2, Fin.sum_univ_eq_sum_range, Fin.sum_univ_eq_sum_range]
  refine (Finset.sum_subset (Finset.range_subset_range.mpr (by norm_num)) fun n _ hn => ?_).symm
  exact dif_neg fun h => hn (Finset.mem_range.mpr h)

theorem exp_nonneg (y : EReal) : 0 ≤ Ideal.exp y := by
  induction y with
  | bot => exact le_of_eq Ideal.exp_bot.symm
  | top => rw [Ideal.exp_top]; exact le_top
  | coe r => rw [Ideal.exp_coe]; exact_mod_cast (Real.exp_pos r).le

theorem exp_ne_zero (y : EReal) (h : y ≠ ⊥) : Ideal.exp y ≠ 0 := by
  induction y with
  | bot => exact absurd rfl h
  | top => rw [Ideal.exp_top]; exact EReal.top_ne_zero
  | coe r => rw [Ideal.exp_coe]; exact_mod_cast (Real.exp_pos r).ne'

/-- The sum of the exponentials of a row of finite elements is not zero. -/
theorem ssum_ne_zero (g : Fin 100000 → EReal) (hg : ∀ j, g j ≠ ⊥ ∧ g j ≠ ⊤) : (∑ j, sexp g j) ≠ 0 := by
  have hs : ∀ j, ∃ r : ℝ, scaled g j = r := fun j => by
    lift g j to ℝ using ⟨(hg j).2, (hg j).1⟩ with r hr
    exact ⟨r * (5 / 4), by unfold scaled; rw [← hr]; norm_cast⟩
  have hM : smax g ≠ ⊤ := by
    refine ne_of_lt ((Finset.sup_lt_iff bot_lt_top).mpr fun j _ => ?_)
    obtain ⟨r, hr⟩ := hs j
    rw [hr]; exact EReal.coe_lt_top r
  intro h0
  have hz := (Finset.sum_eq_zero_iff_of_nonneg fun j _ => exp_nonneg _).mp h0 ⟨0, by norm_num⟩ (Finset.mem_univ _)
  refine exp_ne_zero _ ?_ hz
  obtain ⟨r, hr⟩ := hs ⟨0, by norm_num⟩
  rw [hr]
  generalize smax g = M at hM
  induction M with
  | bot => simp
  | top => exact absurd rfl hM
  | coe q => rw [← EReal.coe_sub]; exact EReal.coe_ne_bot _

/-- Multiplying by the reciprocal of a number other than zero divides. -/
theorem mul_recip (e z : EReal) (hz : z ≠ 0) : e * Ideal.div 1 z = Ideal.div e z := by
  unfold Ideal.div
  rw [if_neg hz, if_neg hz, one_mul]

/-- The probabilities of a padded row of finite elements are the softmax of them. -/
theorem rprob_pad (g : Fin 100000 → EReal) (hg : ∀ j, g j ≠ ⊥ ∧ g j ≠ ⊤) (k : Fin 784) (l : Fin 128) (h : l.val + 128 * k.val < 100000) :
    rprob (padRow g) k l = Ideal.div (sexp g ⟨l.val + 128 * k.val, h⟩) (∑ j, sexp g j) := by
  unfold rprob
  rw [rsum_pad, rexp_pad, dif_pos h, mul_recip _ _ (ssum_ne_zero g hg)]

end Cert.KernelIdeal.Hand

end
-- ==== Proof.K1Array.lean ====
/- The first kernel's result array: the launch's blocks put together, and the host operations around it. -/
module

public import proofs.«01_k».proof.Proof.K1Run
public import proofs.«01_k».proof.Proof.K1Value
public import Idealize.ShloMosaic.Lib.Pipeline.Value
public import Idealize.ShloMosaic.Lib.StableHlo.ReadAt

@[expose] public section

set_option maxRecDepth 16384

noncomputable section

namespace Cert.KernelIdeal.Hand

open Idealize.ShloMosaic Idealize.ShloMosaic.TcCoe Idealize.SL.Sem
open Idealize.ShloMosaic.Pipeline (Dat Cfg Window)
open Cert.KernelIdeal.Gen

variable (m : (ℓ : Loc nD τ sig) → Buf (Elt Ideal) ℓ) (ρ : Dev nD → PrngReg)

/-- A row of the logits. -/
def row (x : FVec Ideal S64x100000 .f32) (r : Fin 64) (j : Fin 100000) : EReal := x (ix2 r j)

/-- The padded logits in strips, as a whole array. -/
def padded (x : FVec Ideal S64x100000 .f32) : FVec Ideal S64x784x128 .f32 := fun y => padRow (row x (y 0)) (y 1) (y 2)
/-- The probabilities in strips, as a whole array. -/
def probs (x : FVec Ideal S64x100000 .f32) : FVec Ideal S64x784x128 .f32 := fun y => rprob (padRow (row x (y 0))) (y 1) (y 2)

set_option maxHeartbeats 1000000 in
/-- The launch finds the padded logits. -/
theorem entry (c : Dev nD) (r : Fin 64) (k : Fin 784) (l : Fin 128) :
    V m c main_v1 (ix3 r k l) = padRow (row (m ((c : Thread nD τ).loc main_arg0)) r) k l := by
  have hk : ∀ (h : k.val * 128 + l.val < 100000) (h' : l.val + 128 * k.val < 100000),
      (⟨k.val * 128 + l.val, h⟩ : Fin 100000) = ⟨l.val + 128 * k.val, h'⟩ := fun _ _ => Fin.ext (by show k.val * 128 + l.val = l.val + 128 * k.val; omega)
  unfold padRow row V
  after_reads_at
  rw [litNegInf]
  by_cases h : l.val + 128 * k.val < 100000
  · have h' : k.val * 128 + l.val < 100000 := by omega
    rw [dif_pos h, dif_pos h', hk h' h]
  · rw [dif_neg h, dif_neg (by omega)]

/-- The slice of the flattened probabilities. -/
def outArr (y : FVec Ideal S64x784x128 .f32) : FVec Ideal S64x100000 .f32 :=
  extractStridedSlice S64x100000 ![0, 0] (shapeCast S64x100352 y shapeCasts_S64x784x128_S64x100352) slices_S64x100352_S64x100000_0_0

theorem outArr_at (y : FVec Ideal S64x784x128 .f32) (r : Fin 64) (j : Fin 100000) :
    outArr y (ix2 r j) = y (ix3 r ⟨j.val / 128, by omega⟩ ⟨j.val % 128, by omega⟩) := by
  pointwise [outArr]

theorem idx_facts : ∀ t : Fin cfg0.N, win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0 :=
  (by decide +kernel : ∀ t : Fin grid0.N, _)

theorem mem_blk (t : Fin cfg0.N) (i : S64x784x128.Idx) :
    i ∈ ((cfg0.win 1).blk t).view.set ↔ 8 * t.val ≤ (i 0 : Nat) ∧ (i 0 : Nat) < 8 * t.val + 8 := by
  show i ∈ ((View.whole main_v2).slice (win0_1.rect t)).set ↔ _
  rw [View.set_slice_whole, Rect.mem_set_unit]
  have h1 : (i 1 : Nat) < 784 := (i 1).isLt
  have h2 : (i 2 : Nat) < 128 := (i 2).isLt
  obtain ⟨-, -, -, e0, e1, e2⟩ := idx_facts t
  have f0 : win0_1.index t (0 : Fin 3) * win0_1.size 0 = 8 * t.val := by rw [e0]; show t.val * 8 = _; omega
  have f1 : win0_1.index t (1 : Fin 3) * win0_1.size 1 = 0 := by rw [e1]; exact Nat.zero_mul _
  have f2 : win0_1.index t (2 : Fin 3) * win0_1.size 2 = 0 := by rw [e2]; exact Nat.zero_mul _
  refine ⟨fun h => ?_, fun h a => ?_⟩
  · have : win0_1.index t (0 : Fin 3) * win0_1.size 0 ≤ (i 0 : Nat) ∧ (i 0 : Nat) < win0_1.index t (0 : Fin 3) * win0_1.size 0 + 8 := h 0
    rwa [f0] at this
  · match a with
    | ⟨0, _⟩ => show win0_1.index t (0 : Fin 3) * win0_1.size 0 ≤ (i 0 : Nat) ∧ (i 0 : Nat) < win0_1.index t (0 : Fin 3) * win0_1.size 0 + 8
                rw [f0]; exact h
    | ⟨1, _⟩ => show win0_1.index t (1 : Fin 3) * win0_1.size 1 ≤ (i 1 : Nat) ∧ (i 1 : Nat) < win0_1.index t (1 : Fin 3) * win0_1.size 1 + 784
                rw [f1]; omega
    | ⟨2, _⟩ => show win0_1.index t (2 : Fin 3) * win0_1.size 2 ≤ (i 2 : Nat) ∧ (i 2 : Nat) < win0_1.index t (2 : Fin 3) * win0_1.size 2 + 128
                rw [f2]; omega

theorem cover (i : S64x784x128.Idx) : ∃ t : Fin cfg0.N, (cfg0.win 1).flush t = true ∧ i ∈ ((cfg0.win 1).blk t).view.set := by
  have h0 : (i 0 : Nat) < 64 := (i 0).isLt
  have hN : cfg0.N = 8 := rfl
  refine ⟨⟨(i 0 : Nat) / 8, by rw [hN]; omega⟩, (by decide +kernel : ∀ t : Fin grid0.N, win0_1.flush t = true) _, ?_⟩
  rw [mem_blk]
  show 8 * ((i 0 : Nat) / 8) ≤ (i 0 : Nat) ∧ (i 0 : Nat) < 8 * ((i 0 : Nat) / 8) + 8
  omega

/-- Row `r` of the block at point `t` is row `8 t + r` of the array. -/
theorem emb_at (w : Fin 2) (t : Fin cfg0.N) (r : Fin 8) (k : Fin 784) (l : Fin 128) :
    (match w with
      | 0 => (win0_0.rect t).emb (ix3 r k l)
      | 1 => (win0_1.rect t).emb (ix3 r k l) : S64x784x128.Idx) = ix3 ⟨8 * t.val + r.val, by have : t.val < 8 := t.isLt; omega⟩ k l := by
  obtain ⟨d0, d1, d2, e0, e1, e2⟩ := idx_facts t
  match w with
  | 0 =>
    funext a
    apply Fin.ext
    match a with
    | ⟨0, _⟩ => exact (Window.rect_emb_val win0_0 t (ix3 r k l) 0).trans (by rw [d0]; show t.val * 8 + r.val = 8 * t.val + r.val; omega)
    | ⟨1, _⟩ => exact (Window.rect_emb_val win0_0 t (ix3 r k l) 1).trans (by rw [d1]; show 0 * 784 + k.val = k.val; omega)
    | ⟨2, _⟩ => exact (Window.rect_emb_val win0_0 t (ix3 r k l) 2).trans (by rw [d2]; show 0 * 128 + l.val = l.val; omega)
  | 1 =>
    funext a
    apply Fin.ext
    match a with
    | ⟨0, _⟩ => exact (Window.rect_emb_val win0_1 t (ix3 r k l) 0).trans (by rw [e0]; show t.val * 8 + r.val = 8 * t.val + r.val; omega)
    | ⟨1, _⟩ => exact (Window.rect_emb_val win0_1 t (ix3 r k l) 1).trans (by rw [e1]; show 0 * 784 + k.val = k.val; omega)
    | ⟨2, _⟩ => exact (Window.rect_emb_val win0_1 t (ix3 r k l) 2).trans (by rw [e2]; show 0 * 128 + l.val = l.val; omega)

/-- The block an input window holds, read at an index. -/
theorem iblk_at (c : Dev nD) (t : Fin cfg0.N) (r : Fin 8) (k : Fin 784) (l : Fin 128) :
    iblk m c 0 t (ix3 r k l) = V m c main_v1 (ix3 ⟨8 * t.val + r.val, by have : t.val < 8 := t.isLt; omega⟩ k l) := by
  show V m c main_v1 ((win0_0.rect t).emb (ix3 r k l)) = _
  exact congrArg (V m c main_v1) (emb_at 0 t r k l)

theorem flushed_eq (c : Dev nD) (t : Fin cfg0.N) :
    (dat1 m 0 c).flushed 1 t = ((cfg0.win 1).blk t).view.read (Elt Ideal) (probs (m ((c : Thread nD τ).loc main_arg0))) := by
  unfold Dat.flushed
  rw [dat1_after1]
  suffices h : ∀ y : S8x784x128.Idx, probBlock (iblk m c 0 t) y = probs (m ((c : Thread nD τ).loc main_arg0)) ((win0_1.rect t).emb y) from funext h
  intro y
  obtain ⟨r, k, l, rfl⟩ : ∃ (r : Fin 8) (k : Fin 784) (l : Fin 128), y = ix3 r k l :=
    ⟨y 0, y 1, y 2, by funext a; match a with | ⟨0, _⟩ => rfl | ⟨1, _⟩ => rfl | ⟨2, _⟩ => rfl⟩
  have he : (win0_1.rect t).emb (ix3 r k l) = ix3 ⟨8 * t.val + r.val, by have : t.val < 8 := t.isLt; omega⟩ k l := emb_at 1 t r k l
  refine (probBlock_at _ r k l).trans (Eq.trans ?_ (congrArg (probs (m ((c : Thread nD τ).loc main_arg0))) he).symm)
  show rprob _ k l = rprob _ k l
  congr 1
  funext k' l'
  exact (iblk_at m c t r k' l').trans (entry m c _ k' l')

/-- The launch's result array. -/
theorem arr_eq (c : Dev nD) : (dat1 m 0 c).arrAt 1 cfg0.N = probs (m ((c : Thread nD τ).loc main_arg0)) :=
  (dat1 m 0 c).arrAt_eq_of_cover 1 _ (fun t _ => flushed_eq m c t) cover

/-- What the last host operations leave in the result. -/
theorem tail_eq (c : Dev nD) :
    Pipeline.afterTail₀ cfgs (dat1 m) 0 (V0 m) [hostOps1] c main_v4 = outArr (probs (m ((c : Thread nD τ).loc main_arg0))) := by
  have h := Pipeline.withArrays_arr (τ := τ) spec0 (by decide) c (V0 m c) (fun w => (dat1 m 0 c).arrAt w cfg0.N) 1
  rw [arr_eq] at h
  unfold Pipeline.afterTail₀ hostOps1
  simp only [List.flatten_cons, List.flatten_nil, List.append_nil]
  after_results
  exact congrArg outArr h

end Cert.KernelIdeal.Hand

end
-- ==== Proof.K1Ref.lean ====
/- The softmax reference read at an index, and what the precondition says of the logits. -/
module

public import proofs.«01_k».proof.Proof.K1Value
public import proofs.«01_k».proof.Proof.Gen.ReferenceIdeal.Run
public import proofs.«01_k».proof.Pre_finite_logits
public import Idealize.ShloMosaic.Lib.ReduceAll
public import Idealize.ShloMosaic.Lib.Quiescent

@[expose] public section

noncomputable section

namespace Cert.Pre_finite_logits

open Idealize.ShloMosaic

/-- The predicate's shape facts. -/
theorem facts : Facts where
  bcast_S_S64x100000 := by decide
  reducesTo_S64x100000_S_d0_1 := by decide
  h_S_ := by decide

instance : Facts := facts

theorem litInf : Ideal.ofBits .f32 0x7F800000#32 = (⊤ : EReal) := by
  simp [Ideal.ofBits, Ideal.ieee]

/-- Where the predicate holds, every logit is finite. -/
theorem finite_of_fn (x : FVec Ideal S64x100000 .f32) (h : fn (F := Ideal) x = fun _ => 1#1) (i : S64x100000.Idx) :
    x i ≠ ⊥ ∧ x i ≠ ⊤ := by
  have hj := congrFun h (fun a => a.elim0)
  dsimp only [fn] at hj
  haveI : Subsingleton S_.Idx := ⟨fun a b => funext fun k => k.elim0⟩
  have hi := Host.reduce_andi_all _ _ _ _ _ hj i
  have hlt : max (x i) (-x i) < (⊤ : EReal) := by
    rw [← litInf]
    by_contra hc
    have h0 : BitVec.ofBool (decide (max (x i) (-x i) < Ideal.ofBits .f32 0x7F800000#32)) = 1#1 := hi
    rw [decide_eq_false hc] at h0
    exact absurd h0 (by decide)
  rw [max_lt_iff] at hlt
  exact ⟨fun hb => by rw [hb, EReal.neg_bot] at hlt; exact absurd hlt.2 (lt_irrefl _), fun ht => absurd hlt.1 (by rw [ht]; exact lt_irrefl _)⟩

end Cert.Pre_finite_logits

namespace Cert.ReferenceIdeal.Hand

open Idealize.ShloMosaic Idealize.ShloMosaic.TcCoe Idealize.SL.Sem
open Cert.ReferenceIdeal.Gen
open Cert.KernelIdeal.Hand (scaled smax sexp litNegInf)

theorem lit5 : Ideal.ofBits .f32 0x40A00000#32 = ((5 : ℝ) : EReal) := by
  simp [Ideal.ofBits, Ideal.ieee, -EReal.coe_mul]; norm_num
theorem lit4 : Ideal.ofBits .f32 0x40800000#32 = ((4 : ℝ) : EReal) := by
  simp [Ideal.ofBits, Ideal.ieee, -EReal.coe_mul]; norm_num
theorem lit0 : Ideal.ofBits .f32 0x00000000#32 = (0 : EReal) := by
  simp [Ideal.ofBits, Ideal.ieee]

/-- Times five over four is times five quarters. -/
theorem scale_eq (x : EReal) : Ideal.div (x * Ideal.ofBits .f32 0x40A00000#32) (Ideal.ofBits .f32 0x40800000#32) = x * ((5 / 4 : ℝ) : EReal) := by
  rw [lit5, lit4, Ideal.div_coe (by norm_num : (4 : ℝ) ≠ 0), mul_assoc, ← EReal.coe_mul]
  norm_num

/-- The scaled logits. -/
def scaledArr (x : FVec Ideal S64x100000 .f32) : FVec Ideal S64x100000 .f32 :=
  Host.divf (mulf x (broadcastInDim S64x100000 ![] bcast_S_S64x100000 (constant S_ .f32 0x40A00000#32))) (broadcastInDim S64x100000 ![] bcast_S_S64x100000 (constant S_ .f32 0x40800000#32))

/-- Each row's greatest element. -/
def maxArr (y : FVec Ideal S64x100000 .f32) : FVec Ideal S64 .f32 :=
  Host.reduce FloatOps.maximumf y (constant S_ .f32 0xFF800000#32) reducesTo_S64x100000_S64_d1 h_S_

/-- The same, not less than negative infinity. -/
def floorArr (y : FVec Ideal S64 .f32) : FVec Ideal S64 .f32 :=
  maximumf (broadcastInDim S64 ![] bcast_S_S64 (constant S_ .f32 0xFF800000#32)) y

/-- A column along every row. -/
def colArr (y : FVec Ideal S64 .f32) : FVec Ideal S64x100000 .f32 :=
  broadcastInDim S64x100000 ![0, 1] bcast_S64x1_S64x100000_0_1 (broadcastInDim S64x1 ![0] bcast_S64_S64x1_0 y)

/-- Each row's sum. -/
def sumArr (y : FVec Ideal S64x100000 .f32) : FVec Ideal S64 .f32 :=
  Host.reduceAdd y (constant S_ .f32 0x00000000#32) reducesTo_S64x100000_S64_d1 h_S_

/-- The exponentials of the elements less a column. -/
def expArr (y z : FVec Ideal S64x100000 .f32) : FVec Ideal S64x100000 .f32 := Host.exp (subf y z)

/-- The reference's result. -/
def softmaxArr (x : FVec Ideal S64x100000 .f32) : FVec Ideal S64x100000 .f32 :=
  Host.divf (expArr (scaledArr x) (colArr (floorArr (maxArr (scaledArr x)))))
    (colArr (sumArr (expArr (scaledArr x) (colArr (floorArr (maxArr (scaledArr x)))))))

/-- A row of the logits. -/
def row (x : FVec Ideal S64x100000 .f32) (r : Fin 64) (j : Fin 100000) : EReal := x (ix2 r j)

theorem scaledArr_at (x : FVec Ideal S64x100000 .f32) (r : Fin 64) (j : Fin 100000) : scaledArr x (ix2 r j) = scaled (row x r) j := by
  unfold scaled row
  rw [← scale_eq]
  pointwise [scaledArr]

theorem maxArr_at (y : FVec Ideal S64x100000 .f32) (r : Fin 64) :
    maxArr y (ix1 r) = Finset.univ.fold max (Ideal.ofBits .f32 0xFF800000#32) (fun j : Fin 100000 => y (ix2 r j)) := by
  pointwise [maxArr]

theorem floorArr_at (y : FVec Ideal S64 .f32) (r : Fin 64) : floorArr y (ix1 r) = max (Ideal.ofBits .f32 0xFF800000#32) (y (ix1 r)) := by
  pointwise [floorArr]

theorem colArr_at (y : FVec Ideal S64 .f32) (r : Fin 64) (j : Fin 100000) : colArr y (ix2 r j) = y (ix1 r) := by
  pointwise [colArr]

theorem sumArr_at (y : FVec Ideal S64x100000 .f32) (r : Fin 64) :
    sumArr y (ix1 r) = Ideal.ofBits .f32 0x00000000#32 + ∑ j : Fin 100000, y (ix2 r j) := by
  pointwise [sumArr]

theorem expArr_at (y z : FVec Ideal S64x100000 .f32) (i : S64x100000.Idx) : expArr y z i = Ideal.exp (y i - z i) := rfl

/-- The exponentials at an index. -/
theorem exps_at (x : FVec Ideal S64x100000 .f32) (r : Fin 64) (j : Fin 100000) :
    expArr (scaledArr x) (colArr (floorArr (maxArr (scaledArr x)))) (ix2 r j) = sexp (row x r) j := by
  have hf : Finset.univ.fold max (⊥ : EReal) (fun j : Fin 100000 => scaled (row x r) j) = smax (row x r) := rfl
  rw [expArr_at, colArr_at, floorArr_at, maxArr_at, litNegInf, max_eq_right bot_le, scaledArr_at]
  simp only [scaledArr_at]
  rw [hf]
  rfl

theorem softmaxArr_at (x : FVec Ideal S64x100000 .f32) (r : Fin 64) (j : Fin 100000) :
    softmaxArr x (ix2 r j) = Ideal.div (sexp (row x r) j) (∑ j, sexp (row x r) j) := by
  have hd : ∀ (y z : FVec Ideal S64x100000 .f32) (i : S64x100000.Idx), Host.divf y z i = Ideal.div (y i) (z i) := fun _ _ _ => rfl
  unfold softmaxArr
  rw [hd, colArr_at, sumArr_at, lit0, zero_add, exps_at]
  simp only [exps_at]

/-- The reference's run: its result, its argument unchanged and the counters at zero. -/
theorem run_all (m : (ℓ : Loc nD τ sig) → Buf (Elt Ideal) ℓ) (ρ : Dev nD → PrngReg) :
    θ_run defs (onTc (τ := τ) (main (F := Ideal))) ⟨m, fun _ => 0, ρ⟩ (fun r => (∀ c : Dev nD,
      r.2.mem ((c.tc : Thread nD τ).loc main_v14) = softmaxArr (m ((c.tc : Thread nD τ).loc main_arg0))
      ∧ r.2.mem ((c.tc : Thread nD τ).loc main_arg0) = m ((c.tc : Thread nD τ).loc main_arg0))
      ∧ r.2.sem = fun _ => 0) :=
  (θ_run defs _ _).mono (fun r h => ⟨h, sem_eq_zero_of_no_sems (by decide) r.2⟩) (Value.run m ρ)

end Cert.ReferenceIdeal.Hand

end
-- ==== Proof.Scan.lean ====
/- Running sums over columns: the scan both later bodies carry out column by column into a buffer of 896 columns,
   restarted every 128 columns, and the rules by which a body's loads and stores of columns follow it. -/
module

public import proofs.«01_k».proof.Proof.Wp
public import Idealize.ShloMosaic.Lib.Pointwise.Index
public import Idealize.ShloMosaic.Lib.Pipeline.Value

@[expose] public section

noncomputable section

namespace Cert.Wp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

section Buffers
variable {nD : Nat} {τ : Topo} {sig : RefSig} {Ix : Type} [DecidableEq Ix]
variable {Val : EltTy → Type} {Name : Type} [DecidableEq Name]
variable {U : Type} [URA U] {Lvl : Type}
variable {S : Type}

local notation "𝕄" => MT nD τ sig Ix Val Name U Lvl

/-- One more buffer in front of a state. -/
def Cons (c : Dev nD) {sp : Space} {sh : Shape} {e : EltTy} (m : Memref sig .tc sp sh e) (R : S → sProp 𝕄) (s : (sh.Idx → Val e) × S) : sProp 𝕄 :=
  iprop(owns (c : Thread nD τ) m fullShare s.1 ∗ R s.2)

/-- A state of one buffer. -/
def One (c : Dev nD) {sp : Space} {sh : Shape} {e : EltTy} (m : Memref sig .tc sp sh e) (s : sh.Idx → Val e) : sProp 𝕄 :=
  owns (c : Thread nD τ) m fullShare s

/-- The front buffer's place. -/
def Slot.head (c : Dev nD) {sp : Space} {sh : Shape} {e : EltTy} (m : Memref sig .tc sp sh e) (R : S → sProp 𝕄) : Slot c (Cons c m R) m where
  get s := s.1
  set s x := (x, s.2)
  same _ := rfl
  law s := by
    unfold Cons
    iintro ⟨H, K⟩
    isplitl [H]; · iexact H
    iintro %x H
    isplitl [H]; · iexact H
    iexact K

/-- The only buffer's place. -/
def Slot.one (c : Dev nD) {sp : Space} {sh : Shape} {e : EltTy} (m : Memref sig .tc sp sh e) : Slot (Ix := Ix) (Val := Val) (Name := Name) (U := U) (Lvl := Lvl) (τ := τ) c (One c m) m where
  get s := s
  set _ x := x
  same _ := rfl
  law s := by
    unfold One
    iintro H
    isplitl [H]; · iexact H
    iintro %x H
    iexact H

/-- A place further back. -/
def Slot.tail {c : Dev nD} {sp sp' : Space} {sh sh' : Shape} {e e' : EltTy} (m : Memref sig .tc sp sh e) {R : S → sProp 𝕄} {m' : Memref sig .tc sp' sh' e'}
    (sl : Slot c R m') : Slot c (Cons c m R) m' where
  get s := sl.get s.2
  set s x := (s.1, sl.set s.2 x)
  same s := by rw [sl.same]
  law s := by
    unfold Cons
    have h := sl.law s.2
    iintro ⟨H, K⟩
    ihave K2 := h $$ K
    icases K2 with ⟨K1, K3⟩
    isplitl [K1]; · iexact K1
    iintro %x L
    isplitl [H]; · iexact H
    iapply K3; iexact L

end Buffers

abbrev Cols : Shape := ⟨2, ![8, 896]⟩
abbrev Col : Shape := ⟨2, ![8, 1]⟩

variable {F : FTy → Type} [FloatOps F]

/-- Column `n`. -/
def col (b : FVec F Cols .f32) (n : ℕ) : FVec F Col .f32 := fun y => b (ix2 (y 0) ⟨n % 896, Nat.mod_lt _ (by decide)⟩)

/-- A column of zeros. -/
def zcol : FVec F Col .f32 := broadcast Col (Scalar.ofBits .f32 0x00000000#32)

/-- The running sum at column `n`, from the last multiple of 128 on. -/
def seg (b : FVec F Cols .f32) : ℕ → FVec F Col .f32
  | 0 => addf zcol (col b 0)
  | n + 1 => if (n + 1) % 128 = 0 then addf zcol (col b (n + 1)) else addf (seg b n) (col b (n + 1))

theorem slice_col (b : FVec F Cols .f32) (m : ℕ) (h : Cols.Slices ![0, m] Col) : extractStridedSlice Col ![0, m] b h = col b m := by
  funext y
  unfold extractStridedSlice col
  refine congrArg b (funext fun a => Fin.ext ?_)
  match a with
  | ⟨0, _⟩ => show 0 + (y 0).val = (y 0).val; omega
  | ⟨1, _⟩ =>
    have h1 : m + 1 ≤ 896 := h.2 (1 : Fin 2)
    have h2 : (y 1).val < 1 := (y 1).isLt
    show m + (y 1).val = m % 896
    rw [Nat.mod_eq_of_lt (by omega)]; omega

/-- A restart's sum. -/
theorem seg_first (b : FVec F Cols .f32) (m : ℕ) (h : Cols.Slices ![0, m] Col) (hm : m % 128 = 0) :
    addf (broadcast Col (Scalar.ofBits .f32 0x00000000#32)) (extractStridedSlice Col ![0, m] b h) = seg b m := by
  rw [slice_col]
  match m with
  | 0 => rfl
  | n + 1 => unfold seg; rw [if_pos hm]; rfl

/-- The next column's sum. -/
theorem seg_step (b : FVec F Cols .f32) (n m : ℕ) (h : Cols.Slices ![0, m] Col) (hn : n + 1 = m) (hm : m % 128 ≠ 0) :
    addf (seg b n) (extractStridedSlice Col ![0, m] b h) = seg b m := by
  subst hn
  rw [slice_col]
  conv => rhs; unfold seg
  rw [if_neg hm]

theorem shapeCast_col (x : FVec F Col .f32) (h : Col.ShapeCasts Col) : shapeCast Col x h = x := shapeCast_self ..

/-- The columns before `n` hold their running sums. -/
def Filled (b : FVec F Cols .f32) (n : ℕ) (l : FVec F Cols .f32) : Prop := ∀ y : Cols.Idx, (y 1).val < n → l y = seg b (y 1).val (ix2 (y 0) 0)

/-- All the running sums. -/
def segs (b : FVec F Cols .f32) : FVec F Cols .f32 := fun y => seg b (y 1).val (ix2 (y 0) 0)

theorem Filled.all {b l : FVec F Cols .f32} (h : Filled b 896 l) : l = segs b := funext fun y => h y (y 1).isLt

theorem Filled.put {b l : FVec F Cols .f32} {n : ℕ} (h : Filled b n l) (w : FVec F Col .f32) (hw : w = seg b n) :
    Filled b (n + 1) (VecWindow.put l ![0, n] Col.size w) := by
  intro y hy
  unfold VecWindow.put
  by_cases hn : (y 1).val = n
  · have hm : ∀ a : Fin 2, (![0, n] : Fin 2 → ℕ) a ≤ (y a).val ∧ (y a).val < (![0, n] : Fin 2 → ℕ) a + Col.size a := fun a => by
      match a with
      | ⟨0, _⟩ => exact ⟨Nat.zero_le _, by show (y 0).val < 0 + 8; have : (y 0).val < 8 := (y 0).isLt; omega⟩
      | ⟨1, _⟩ => exact ⟨by show n ≤ (y 1).val; omega, by show (y 1).val < n + 1; omega⟩
    rw [dif_pos hm, hw, hn]
    refine congrArg (seg b n) (funext fun a => Fin.ext ?_)
    match a with
    | ⟨0, _⟩ => show (y 0).val - 0 = (y 0).val; omega
    | ⟨1, _⟩ => show (y 1).val - n = 0; omega
  · rw [dif_neg]
    · exact h y (by omega)
    · intro hm
      have h2 : n ≤ (y 1).val ∧ (y 1).val < n + 1 := hm (1 : Fin 2)
      omega

/-- `k` columns of running sums from column `n` on. -/
def lanes (b : FVec F Cols .f32) (n k : ℕ) : FVec F ⟨2, ![8, k]⟩ .f32 := fun y => seg b (n + (y 1).val) (ix2 (y 0) 0)

/-- A window of the running sums. -/
theorem window_segs (b : FVec F Cols .f32) (n k : ℕ) (inb : ∀ a, (![0, n] : Fin 2 → ℕ) a + (⟨2, ![8, k]⟩ : Shape).size a ≤ Cols.size a) :
    VecWindow.window (segs b) ![0, n] (⟨2, ![8, k]⟩ : Shape).size inb = lanes b n k := by
  funext y
  unfold VecWindow.window segs lanes
  have h : n + 1 * (y 1).val = n + (y 1).val := by omega
  show seg b (n + 1 * (y 1).val) _ = _
  rw [h]
  refine congrArg (seg b _) (funext fun a => Fin.ext ?_)
  match a with
  | ⟨0, _⟩ => show 0 + 1 * (y 0).val = (y 0).val; omega
  | ⟨1, _⟩ => rfl

theorem lanes_one (b : FVec F Cols .f32) (n : ℕ) : lanes b n 1 = seg b n := by
  funext y
  unfold lanes
  have h : (y 1).val < 1 := (y 1).isLt
  have h0 : n + (y 1).val = n := by omega
  rw [h0]
  refine congrArg (seg b _) (funext fun a => Fin.ext ?_)
  match a with
  | ⟨0, _⟩ => rfl
  | ⟨1, _⟩ => show 0 = (y 1).val; omega

section Rules
variable {nD : Nat} {τ : Topo} {sig : RefSig} {Ix : Type} [DecidableEq Ix]
variable {Name : Type} [DecidableEq Name]
variable {U : Type} [URA U] {Lvl : Type} {Λ : Labels} [Preorder Lvl]
variable {defs : Defs nD τ sig (Elt F) Λ} {𝒱 : Variants} {c : Dev nD} {bd : Option 𝒱.V} {E : Set Name}
variable {S : Type}

local notation "𝕄" => MT nD τ sig Ix (Elt F) Name U Lvl

variable {sp : CoreSpace} {m : Memref sig .tc sp Cols .f32} {b : FVec F Cols .f32} {s : S} {α β : Type}

/-- The program is run from a state that is `s` with the columns before `n` of the scanned buffer filled. -/
def Scan (defs : Defs nD τ sig (Elt F) Λ) (𝒱 : Variants) (c : Dev nD) (bd : Option 𝒱.V) (E : Set Name) {R : S → sProp 𝕄} (sl : Slot c R m) (b : FVec F Cols .f32) (s : S) (n : ℕ)
    (p : Prog (TpuEff nD τ sig (Elt F) Λ .tc) α) (Q : α → S → Prop) : Prop :=
  ∀ l, Filled b n l → WP defs 𝒱 c bd E R p Q (sl.set s l)

/-- A place that forgets what it held. -/
def Slot.Over {R : S → sProp 𝕄} (sl : Slot c R m) : Prop := (∀ s x y, sl.set (sl.set s x) y = sl.set s y) ∧ ∀ s x, sl.get (sl.set s x) = x

theorem Scan.bind {R : S → sProp 𝕄} {sl : Slot c R m} {n : ℕ} {p : Prog (TpuEff nD τ sig (Elt F) Λ .tc) β} {k : β → Prog (TpuEff nD τ sig (Elt F) Λ .tc) α} {Q : α → S → Prop}
    (h : Scan defs 𝒱 c bd E sl b s n p (fun v s' => WP defs 𝒱 c bd E R (k v) Q s')) : Scan defs 𝒱 c bd E sl b s n (p >>= k) Q :=
  fun l hl => WP.bind (h l hl)

theorem Scan.ret {R : S → sProp 𝕄} {sl : Slot c R m} {n : ℕ} {a : β} {k : β → Prog (TpuEff nD τ sig (Elt F) Λ .tc) α} {Q : α → S → Prop} (h : Scan defs 𝒱 c bd E sl b s n (k a) Q) :
    Scan defs 𝒱 c bd E sl b s n (Pure.pure a) (fun v s' => WP defs 𝒱 c bd E R (k v) Q s') :=
  fun l hl => WP.ret (h l hl)

/-- What a load of the buffer reads is of no use to the scan. -/
theorem Scan.load {R : S → sProp 𝕄} {sl : Slot c R m} {n : ℕ} {off size : Fin Cols.rank → ℕ} {inb : ∀ a, off a + size a ≤ Cols.size a} {hl : m.view.LoadsAt (Rect.unit off size inb).toLoadRect}
    {k : ((Rect.unit off size inb).shape.Idx → Elt F .f32) → Prog (TpuEff nD τ sig (Elt F) Λ .tc) α} {Q : α → S → Prop}
    (h : ∀ v, Scan defs 𝒱 c bd E sl b s n (k v) Q) : Scan defs 𝒱 c bd E sl b s n (Prog.lift (.load m (Rect.unit off size inb).toLoadRect hl) >>= k) Q :=
  fun l hl => WP.bind (WP.load sl (h _ l hl))

/-- A column's running sum is stored. -/
theorem Scan.store {R : S → sProp 𝕄} {sl : Slot c R m} (ho : sl.Over) {n j : ℕ} {inb : ∀ a, (![0, j] : Fin 2 → ℕ) a + (![8, 1] : Fin 2 → ℕ) a ≤ Cols.size a}
    {hx : (m.access (Rect.unit (s := Cols) ![0, j] ![8, 1] inb)).Stores Finset.univ}
    {hm : Finset.univ = Finset.univ ∨ ∀ a, (Rect.unit (s := Cols) ![0, j] ![8, 1] inb).stride a = 1}
    {k : PUnit → Prog (TpuEff nD τ sig (Elt F) Λ .tc) α} {Q : α → S → Prop} (hj : n = j)
    (h : Scan defs 𝒱 c bd E sl b s (j + 1) (k ⟨⟩) Q) :
    Scan defs 𝒱 c bd E sl b s n (Prog.lift (.store m (Rect.unit (s := Cols) ![0, j] ![8, 1] inb) (seg b j) Finset.univ hx hm) >>= k) Q := by
  subst hj
  refine fun l hl => WP.bind (WP.store sl ?_)
  rw [ho.1, ho.2]
  exact h _ (hl.put _ rfl)

/-- The scan is over. -/
theorem Scan.done {R : S → sProp 𝕄} {sl : Slot c R m} {p : Prog (TpuEff nD τ sig (Elt F) Λ .tc) α} {Q : α → S → Prop} (h : WP defs 𝒱 c bd E R p Q (sl.set s (segs b))) :
    Scan defs 𝒱 c bd E sl b s 896 p Q := fun l hl => by rw [hl.all]; exact h

/-- The scan goes on from a state with the first columns filled. -/
theorem Scan.enter {R : S → sProp 𝕄} {sl : Slot c R m} {n : ℕ} {p : Prog (TpuEff nD τ sig (Elt F) Λ .tc) α} {Q : α → S → Prop} (h : Scan defs 𝒱 c bd E sl b s n p Q)
    (hl : Filled b n (sl.get s)) : WP defs 𝒱 c bd E R p Q s := by
  have := h _ hl
  rwa [sl.same] at this

/-- The scan is interrupted. -/
theorem Scan.stop {R : S → sProp 𝕄} {sl : Slot c R m} {n : ℕ} {a : α} {Q : α → S → Prop} (h : ∀ l, Filled b n l → Q a (sl.set s l)) :
    Scan defs 𝒱 c bd E sl b s n (Pure.pure a) Q := fun l hl => WP.ret (h l hl)

/-- The scan starts from any state. -/
theorem Scan.start {R : S → sProp 𝕄} {sl : Slot c R m} {p : Prog (TpuEff nD τ sig (Elt F) Λ .tc) α} {Q : α → S → Prop} (h : Scan defs 𝒱 c bd E sl b s 0 p Q) :
    WP defs 𝒱 c bd E R p Q s := by
  have := h (sl.get s) (fun y hy => absurd hy (Nat.not_lt_zero _))
  rwa [sl.same] at this

end Rules

section Strips
variable {e : EltTy} {Val : EltTy → Type} {p q r : ℕ}

/-- Strip `k` of a block along its middle axis. -/
def strip (hq : 0 < q) (x : (⟨3, ![p, q, r]⟩ : Shape).Idx → Val e) (k : ℕ) : (⟨3, ![p, 1, r]⟩ : Shape).Idx → Val e :=
  fun y => x (ix3 (y 0) ⟨k % q, Nat.mod_lt _ hq⟩ (y 2))

/-- A load of one strip reads it. -/
theorem window_strip (hq : 0 < q) (x : (⟨3, ![p, q, r]⟩ : Shape).Idx → Val e) {off : Fin 3 → ℕ}
    (inb : ∀ a, off a + (⟨3, ![p, 1, r]⟩ : Shape).size a ≤ (⟨3, ![p, q, r]⟩ : Shape).size a) (k : ℕ) (hk : k < q)
    (h : off = ![0, k, 0]) : VecWindow.window x off (⟨3, ![p, 1, r]⟩ : Shape).size inb = strip hq x k := by
  subst h
  funext y
  unfold VecWindow.window strip
  refine congrArg x (funext fun a => Fin.ext ?_)
  match a with
  | ⟨0, _⟩ => show 0 + 1 * (y 0).val = (y 0).val; omega
  | ⟨1, _⟩ =>
    show k + 1 * (y 1).val = k % q
    have : (y 1).val < 1 := (y 1).isLt
    rw [Nat.mod_eq_of_lt hk]; omega
  | ⟨2, _⟩ => show 0 + 1 * (y 2).val = (y 2).val; omega

/-- A store of one strip changes that strip only. -/
theorem put_strip (z : (⟨3, ![p, q, r]⟩ : Shape).Idx → Val e) {off : Fin 3 → ℕ} (k : ℕ) (h : off = ![0, k, 0])
    (w : (⟨3, ![p, 1, r]⟩ : Shape).Idx → Val e) (y : (⟨3, ![p, q, r]⟩ : Shape).Idx) :
    VecWindow.put z off (⟨3, ![p, 1, r]⟩ : Shape).size w y = if (y 1).val = k then w (ix3 (y 0) 0 (y 2)) else z y := by
  subst h
  unfold VecWindow.put
  by_cases hy : (y 1).val = k
  · have hm : ∀ a : Fin 3, (![0, k, 0] : Fin 3 → ℕ) a ≤ (y a).val ∧ (y a).val < (![0, k, 0] : Fin 3 → ℕ) a + (⟨3, ![p, 1, r]⟩ : Shape).size a := fun a => by
      match a with
      | ⟨0, _⟩ => exact ⟨Nat.zero_le _, by show (y 0).val < 0 + p; have : (y 0).val < p := (y 0).isLt; omega⟩
      | ⟨1, _⟩ => exact ⟨by show k ≤ (y 1).val; omega, by show (y 1).val < k + 1; omega⟩
      | ⟨2, _⟩ => exact ⟨Nat.zero_le _, by show (y 2).val < 0 + r; have : (y 2).val < r := (y 2).isLt; omega⟩
    rw [if_pos hy, dif_pos hm]
    refine congrArg w (funext fun a => Fin.ext ?_)
    match a with
    | ⟨0, _⟩ => show (y 0).val - 0 = (y 0).val; omega
    | ⟨1, _⟩ => show (y 1).val - k = 0; omega
    | ⟨2, _⟩ => show (y 2).val - 0 = (y 2).val; omega
  · rw [if_neg hy, dif_neg]
    intro hm
    have h2 : k ≤ (y 1).val ∧ (y 1).val < k + 1 := hm (1 : Fin 3)
    omega

end Strips

end Cert.Wp

end
-- ==== Proof.K2Body.lean ====
/- The second kernel's first body: what it leaves in its output block, as a function of the input block. -/
module

public import proofs.«01_k».proof.Proof.Scan
public import proofs.«01_k».proof.Proof.Gen.Kernel2Ideal.Skeleton

@[expose] public section

noncomputable section

namespace Cert.Kernel2Ideal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.Kernel2Ideal.Gen Cert.Wp

variable {F : FTy → Type} [FloatOps F]

local notation "𝕄" => MT nD τ sig Unit (Elt F) ℕ (UR sig nD τ) ℕ

/-- The running sums of the strips. -/
def pre (x : Vec F S8x128x784 .f32) : ℕ → Vec F S8x1x784 .f32
  | 0 => k0_pay2 (strip (by decide) x 0)
  | k + 1 => k0_pay3 (pre x k) (strip (by decide) x (k + 1))

/-- The running sums of the strips, as a block. -/
def preBlock (x : Vec F S8x128x784 .f32) : Vec F S8x128x784 .f32 := fun y => pre x (y 1).val (ix3 (y 0) 0 (y 2))

theorem strip_preBlock (x : Vec F S8x128x784 .f32) (k : ℕ) (hk : k < 128) : strip (by decide) (preBlock x) k = pre x k := by
  funext y
  unfold strip preBlock
  have h : ∀ (n : ℕ) (z : S8x1x784.Idx), n = k → z = y → pre x n z = pre x k y := fun n z hn hz => by rw [hn, hz]
  refine h _ _ (Nat.mod_eq_of_lt hk) (funext fun a => Fin.ext ?_)
  match a with
  | ⟨0, _⟩ => rfl
  | ⟨1, _⟩ => show 0 = (y 1).val; have : (y 1).val < 1 := (y 1).isLt; omega
  | ⟨2, _⟩ => rfl

/-- The strips' totals, with zeros behind. -/
def tot (x : Vec F S8x128x784 .f32) : FVec F S8x896 .f32 := k0_pay4 (pre x 127)

/-- The kept entries of one strip, from the strip and its running sums. -/
def keep (b : FVec F S8x896 .f32) (ps cs : Vec F S8x1x784 .f32) : Vec F S8x1x784 .f32 :=
  k0_pay1 (k0_pay1823 (seg b 127) (seg b 255) (seg b 383) (seg b 511) (seg b 639)) (k0_pay1824 (seg b 127) (seg b 255) (seg b 383) (seg b 511) (seg b 639) (seg b 767))
    (k0_pay1825 (lanes b 0 128)) (k0_pay1826 (seg b 127) (lanes b 128 128)) (k0_pay1827 (seg b 127) (seg b 255) (lanes b 256 128))
    (k0_pay1828 (seg b 127) (seg b 255) (seg b 383) (lanes b 384 128)) (k0_pay1829 (seg b 127) (seg b 255) (seg b 383) (seg b 511) (lanes b 512 128))
    (lanes b 640 128) (lanes b 768 128) ps cs

/-- What the body leaves in its output block. -/
def keepBlock (x : Vec F S8x128x784 .f32) : Vec F S8x128x784 .f32 :=
  fun y => keep (tot x) (strip (by decide) x (y 1).val) (pre x (y 1).val) (ix3 (y 0) 0 (y 2))

/-- The state of the four buffers. -/
abbrev St (F : FTy → Type) : Type := Vec F S8x128x784 .f32 × Vec F S8x128x784 .f32 × Vec F S8x128x784 .f32 × Vec F S8x896 .f32

section Body
variable (c : Dev nD) (arg1 arg2 arg3 : Memref sig .tc .vmem S8x128x784 .f32) (arg4 : Memref sig .tc .vmem S8x896 .f32)

/-- The four buffers of the body. -/
def R2 : St F → sProp 𝕄 := Cons c arg1 (Cons c arg2 (Cons c arg3 (One c arg4)))

def slot1 : Slot c (R2 (F := F) c arg1 arg2 arg3 arg4) arg1 := .head c arg1 _
def slot2 : Slot c (R2 (F := F) c arg1 arg2 arg3 arg4) arg2 := .tail arg1 (.head c arg2 _)
def slot3 : Slot c (R2 (F := F) c arg1 arg2 arg3 arg4) arg3 := .tail arg1 (.tail arg2 (.head c arg3 _))
def slot4 : Slot c (R2 (F := F) c arg1 arg2 arg3 arg4) arg4 := .tail arg1 (.tail arg2 (.tail arg3 (.one c arg4)))

theorem over4 : (slot4 (F := F) c arg1 arg2 arg3 arg4).Over := ⟨fun _ _ _ => rfl, fun _ _ => rfl⟩

variable {𝒱 : Variants} {bd : Option 𝒱.V} {E : Set ℕ} (i : grid0.Coords) (harg1 : arg1.IsWhole) (harg2 : arg2.IsWhole) (harg3 : arg3.IsWhole) (harg4 : arg4.IsWhole)

theorem trips1 : k0_t1_loop.trips = 127 := by decide
theorem trips2 : k0_t2_loop.trips = 128 := by decide

/-- The body's first part: the running sums of the strips, and the first columns of the scan. -/
theorem part1_wp (x : Vec F S8x128x784 .f32) (s : St F) (hs : s.1 = x) :
    WP defs₀ 𝒱 c bd E (R2 (F := F) c arg1 arg2 arg3 arg4) (k0_part1 i arg1 harg1 arg2 harg2 arg3 harg3 arg4 harg4)
      (fun v s' => v = ⟨tot x, seg (tot x) 3, seg (tot x) 3⟩ ∧ (s'.1 = x ∧ s'.2.2.1 = preBlock x) ∧ Filled (tot x) 3 s'.2.2.2) s := by
  rw [k0_part1_eq_skeleton]
  unfold k0_part1_skel
  refine WP.bind (WP.load (slot1 c arg1 arg2 arg3 arg4) (WP.bind (WP.load (slot3 c arg1 arg2 arg3 arg4) (WP.bind (WP.store (slot3 c arg1 arg2 arg3 arg4) ?_)))))
  rw [window_strip (by decide) _ _ 0 (by decide) rfl, show (slot1 c arg1 arg2 arg3 arg4).get s = x from hs]
  refine WP.bind (WP.loop (fun k _ s' => s'.1 = x ∧ ∀ y : S8x128x784.Idx, (y 1).val < k + 1 → s'.2.2.1 y = preBlock x y) ⟨hs, fun y hy => ?_⟩ (fun k acc s' h => ?_) (fun acc s' h => ?_))
  · show VecWindow.put s.2.2.1 ![0, 0, 0] S8x1x784.size _ y = _
    have h0 : (y 1).val = 0 := by omega
    rw [put_strip _ 0 rfl, if_pos h0]
    unfold preBlock; rw [h0]; rfl
  · have hk : k.val < 127 := trips1 ▸ k.isLt
    unfold k0_t1_body
    refine WP.bind (WP.load (slot3 c arg1 arg2 arg3 arg4) (WP.bind (WP.load (slot1 c arg1 arg2 arg3 arg4) (WP.bind (WP.load (slot3 c arg1 arg2 arg3 arg4)
      (WP.bind (WP.store (slot3 c arg1 arg2 arg3 arg4) (WP.ret ⟨h.1, fun y hy => ?_⟩))))))))
    show VecWindow.put s'.2.2.1 (k0_off2 k) S8x1x784.size _ y = _
    rw [put_strip _ (k.val + 1) (k0_off2_eq k)]
    split
    · rename_i hyk
      rw [window_strip (by decide) _ _ k.val (by omega) (k0_off1_eq k), window_strip (by decide) _ _ (k.val + 1) (by omega) (k0_off2_eq k),
        show (slot1 c arg1 arg2 arg3 arg4).get s' = x from h.1]
      have e : strip (by decide) ((slot3 c arg1 arg2 arg3 arg4).get s') k.val = pre x k.val := by
        rw [← strip_preBlock x k.val (by omega)]
        funext z
        unfold strip
        refine h.2 _ ?_
        show k.val % 128 < k.val + 1
        rw [Nat.mod_eq_of_lt (by omega)]; omega
      rw [e]
      unfold preBlock; rw [hyk]; rfl
    · exact h.2 y (by omega)
  obtain ⟨hx, he⟩ := h
  rw [trips1] at he
  have he' : s'.2.2.1 = preBlock x := funext fun y => he y (y 1).isLt
  clear he
  refine WP.bind (WP.load (slot3 c arg1 arg2 arg3 arg4) ?_)
  rw [window_strip (by decide) _ _ 127 (by decide) rfl, show (slot3 c arg1 arg2 arg3 arg4).get s' = preBlock x from he', strip_preBlock x 127 (by decide)]
  have e1 : k0_pay6 (pre x 127) = seg (tot x) 0 := by
    simp (disch := decide) only [k0_pay6, k0_pay5, shapeCast_col, seg_first]; rfl
  have e2 : k0_pay8 (pre x 127) = seg (tot x) 1 := by
    simp (disch := decide) only [k0_pay8, k0_pay7, k0_pay5, shapeCast_col, seg_first, seg_step]; rfl
  have e3 : k0_pay10 (pre x 127) = seg (tot x) 2 := by
    simp (disch := decide) only [k0_pay10, k0_pay9, k0_pay7, k0_pay5, shapeCast_col, seg_first, seg_step]; rfl
  have e4 : k0_pay11 (pre x 127) = seg (tot x) 3 := by
    simp (disch := decide) only [k0_pay11, k0_pay9, k0_pay7, k0_pay5, shapeCast_col, seg_first, seg_step]; rfl
  have e5 : k0_pay12 (pre x 127) = seg (tot x) 3 := by
    rw [← e4]; simp only [k0_pay12, shapeCast_col]
  rw [e1, e2, e3, e4, e5]
  have ho := over4 (F := F) c arg1 arg2 arg3 arg4
  refine Scan.start (sl := slot4 c arg1 arg2 arg3 arg4) (b := tot x) ?_
  refine Scan.load fun _ => Scan.store ho rfl (Scan.load fun _ => Scan.store ho rfl (Scan.load fun _ => Scan.store ho rfl (Scan.load fun _ => Scan.stop fun l hl => ?_)))
  exact ⟨rfl, ⟨hx, he'⟩, hl⟩

set_option maxHeartbeats 4000000 in
/-- The first half of the scan. -/
theorem part122_wp (x : Vec F S8x128x784 .f32) (s : St F) (hs : s.1 = x) :
    WP defs₀ 𝒱 c bd E (R2 (F := F) c arg1 arg2 arg3 arg4) (k0_part122 i arg1 harg1 arg2 harg2 arg3 harg3 arg4 harg4)
      (fun v s' => (∃ w, v = ⟨tot x, seg (tot x) 445, w⟩) ∧ (s'.1 = x ∧ s'.2.2.1 = preBlock x) ∧ Filled (tot x) 445 s'.2.2.2) s := by
  unfold k0_part122
  refine WP.seq (part1_wp c arg1 arg2 arg3 arg4 i harg1 harg2 harg3 harg4 x s hs) ?_
  rintro v s' ⟨rfl, hx, hl⟩
  refine Scan.enter (sl := slot4 c arg1 arg2 arg3 arg4) (b := tot x) ?_ hl
  have ho := over4 (F := F) c arg1 arg2 arg3 arg4
  repeat first
    | with_reducible refine Scan.store ho rfl ?_
    | with_reducible refine Scan.load fun _ => ?_
    | with_reducible refine Scan.ret ?_
    | (with_reducible refine Scan.bind ?_
       conv => arg 10; simp (disch := decide) only [
      k0_part2, k0_part3, k0_part4, k0_part5, k0_part6, k0_part7, k0_part8, k0_part9, k0_part10, k0_part11, k0_part12, k0_part13, k0_part14,
        k0_part15, k0_part16, k0_part17, k0_part18, k0_part19, k0_part20, k0_part21, k0_part22, k0_part23, k0_part24, k0_part25, k0_part26,
        k0_part27, k0_part28, k0_part29, k0_part30, k0_part31, k0_part32, k0_part33, k0_part34, k0_part35, k0_part36, k0_part37, k0_part38,
        k0_part39, k0_part40, k0_part41, k0_part42, k0_part43, k0_part44, k0_part45, k0_part46, k0_part47, k0_part48, k0_part49, k0_part50,
        k0_part51, k0_part52, k0_part53, k0_part54, k0_part55, k0_part56, k0_part57, k0_part58, k0_part59, k0_part60,
        shapeCast_col, seg_step, seg_first])
  refine Scan.stop fun l hl => ⟨⟨_, rfl⟩, hx, hl⟩

set_option maxHeartbeats 4000000 in
/-- The second half of the scan. -/
theorem part123_wp (x : Vec F S8x128x784 .f32) (w : Vec F S8x1 .f32) (s : St F) (hs : s.1 = x ∧ s.2.2.1 = preBlock x) (hl : Filled (tot x) 445 s.2.2.2) :
    WP defs₀ 𝒱 c bd E (R2 (F := F) c arg1 arg2 arg3 arg4) (k0_part123 i arg1 harg1 arg2 harg2 arg3 harg3 arg4 harg4 (tot x) (seg (tot x) 445) w)
      (fun v s' => v = ⟨seg (tot x) 894, seg (tot x) 894⟩ ∧ (s'.1 = x ∧ s'.2.2.1 = preBlock x) ∧ Filled (tot x) 894 s'.2.2.2) s := by
  unfold k0_part123
  refine Scan.enter (sl := slot4 c arg1 arg2 arg3 arg4) (b := tot x) ?_ hl
  have ho := over4 (F := F) c arg1 arg2 arg3 arg4
  repeat first
    | with_reducible refine Scan.store ho rfl ?_
    | with_reducible refine Scan.load fun _ => ?_
    | with_reducible refine Scan.ret ?_
    | (with_reducible refine Scan.bind ?_
       conv => arg 10; simp (disch := decide) only [
      k0_part61, k0_part62, k0_part63, k0_part64, k0_part65, k0_part66, k0_part67, k0_part68, k0_part69, k0_part70, k0_part71, k0_part72, k0_part73,
        k0_part74, k0_part75, k0_part76, k0_part77, k0_part78, k0_part79, k0_part80, k0_part81, k0_part82, k0_part83, k0_part84, k0_part85,
        k0_part86, k0_part87, k0_part88, k0_part89, k0_part90, k0_part91, k0_part92, k0_part93, k0_part94, k0_part95, k0_part96, k0_part97,
        k0_part98, k0_part99, k0_part100, k0_part101, k0_part102, k0_part103, k0_part104, k0_part105, k0_part106, k0_part107, k0_part108, k0_part109,
        k0_part110, k0_part111, k0_part112, k0_part113, k0_part114, k0_part115, k0_part116, k0_part117, k0_part118, k0_part119, k0_part120,
        shapeCast_col, seg_step, seg_first])
  refine Scan.stop fun l hl => ⟨rfl, hs, hl⟩

/-- The whole body: the input block is kept, the output block is `keepBlock` of it. -/
theorem body2_wp (x : Vec F S8x128x784 .f32) (s : St F) (hs : s.1 = x) :
    WP defs₀ 𝒱 c bd E (R2 (F := F) c arg1 arg2 arg3 arg4) (cc0__k2a_body i arg1 harg1 arg2 harg2 arg3 harg3 arg4 harg4)
      (fun _ s' => s'.1 = x ∧ s'.2.1 = keepBlock x) s := by
  rw [cc0__k2a_body_eq_skeleton]
  unfold cc0__k2a_body_skel
  refine WP.seq (part122_wp c arg1 arg2 arg3 arg4 i harg1 harg2 harg3 harg4 x s hs) ?_
  rintro v s1 ⟨⟨w, rfl⟩, hs1, hl1⟩
  refine WP.seq (part123_wp c arg1 arg2 arg3 arg4 i harg1 harg2 harg3 harg4 x w s1 hs1 hl1) ?_
  rintro v s2 ⟨rfl, hs2, hl2⟩
  have ho := over4 (F := F) c arg1 arg2 arg3 arg4
  have e : k0_pay1817 (tot x) (seg (tot x) 894) = seg (tot x) 895 := by
    simp (disch := decide) only [k0_pay1817, shapeCast_col, seg_step]
  refine Scan.enter (sl := slot4 c arg1 arg2 arg3 arg4) (b := tot x) ?_ hl2
  rw [k0_part121_eq_skeleton]
  unfold k0_part121_skel
  refine Scan.bind ?_
  rw [e]
  refine Scan.store ho rfl (Scan.load fun _ => Scan.store ho rfl (Scan.done ?_))
  have hg : ∀ s : St F, (slot4 (F := F) c arg1 arg2 arg3 arg4).get ((slot4 c arg1 arg2 arg3 arg4).set s (segs (tot x))) = segs (tot x) := fun s => rfl
  iterate 11
    refine WP.bind (WP.load (slot4 c arg1 arg2 arg3 arg4) ?_)
    rw [hg, window_segs]
  simp only [lanes_one]
  refine WP.ret ?_
  iterate 2
    refine WP.bind (WP.load (slot4 c arg1 arg2 arg3 arg4) ?_)
    rw [hg, window_segs]
  refine WP.bind (WP.loop (fun k _ s' => (s'.1 = x ∧ s'.2.2.1 = preBlock x) ∧ ∀ y : S8x128x784.Idx, (y 1).val < k → s'.2.1 y = keepBlock x y) ⟨hs2, fun y hy => absurd hy (Nat.not_lt_zero _)⟩ (fun k acc s' h => ?_) (fun acc s' h => ?_))
  · have hk : k.val < 128 := trips2 ▸ k.isLt
    unfold k0_t2_body
    refine WP.bind (WP.load (slot1 c arg1 arg2 arg3 arg4) (WP.bind (WP.load (slot3 c arg1 arg2 arg3 arg4) (WP.bind (WP.load (slot2 c arg1 arg2 arg3 arg4)
      (WP.bind (WP.store (slot2 c arg1 arg2 arg3 arg4) (WP.ret ⟨h.1, fun y hy => ?_⟩))))))))
    show VecWindow.put s'.2.1 (k0_off3 k) S8x1x784.size _ y = _
    rw [put_strip _ k.val (k0_off3_eq k)]
    split
    · rename_i hyk
      rw [window_strip (by decide) _ _ k.val (by omega) (k0_off3_eq k), window_strip (by decide) _ _ k.val (by omega) (k0_off3_eq k),
        show (slot1 c arg1 arg2 arg3 arg4).get s' = x from h.1.1, show (slot3 c arg1 arg2 arg3 arg4).get s' = preBlock x from h.1.2, strip_preBlock x k.val hk]
      unfold keepBlock; rw [hyk]; rfl
    · exact h.2 y (by omega)
  obtain ⟨hx, he⟩ := h
  rw [trips2] at he
  exact WP.ret ⟨hx.1, funext fun y => he y (y 1).isLt⟩

end Body

end Cert.Kernel2Ideal.Hand

end
-- ==== Proof.K2Run.lean ====
/- The second kernel's launch: every run ends, and the arrays end at what the blocks' function says. -/
module

public import proofs.«01_k».proof.Proof.K2Body
public import proofs.«01_k».proof.Proof.Gen.Kernel2Ideal.Frame
public import Idealize.ShloMosaic.Lib.Claim

@[expose] public section

noncomputable section

namespace Cert.Kernel2Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal.Gen Cert.Wp

variable {F : FTy → Type} [FloatOps F]

local notation "𝕄" => MT nD τ sig Unit (Elt F) ℕ (UR sig nD τ) ℕ

abbrev ms0_0 (t : Fin cfg0.N) : Memref sig .tc .vmem S8x128x784 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8x128x784 .f32 := win0_1.stage (cfg0.slots t 1)
abbrev hs0_1 (t : Fin cfg0.N) : (ms0_1 t).IsWhole := hstage0_1 ((cfg0.slots t 1).cast nbuf0_1)
abbrev scr0 : Memref sig .tc .vmem S8x128x784 .f32 := Memref.whole cc0_scratch0
abbrev scr1 : Memref sig .tc .vmem S8x896 .f32 := Memref.whole cc0_scratch1

/-- What is kept between grid points: the two scratch buffers at some contents, and the register. -/
theorem between_eq (c : Dev nD) :
    (Pipeline.ΦA spec0 c : sProp 𝕄)
      = iprop(((∃ d, owns (c : Thread nD τ) scr0 fullShare d) ∗ (∃ d, owns (c : Thread nD τ) scr1 fullShare d)) ∗ (∃ r, prngReg c r)) := by
  unfold Pipeline.ΦA; rw [scopedRest0_eq]; simp only [scr0, scr1, owns_whole]; try rfl

variable (m : (ℓ : Loc nD τ sig) → Buf (Elt F) ℓ) (ρ : Dev nD → PrngReg)

/-- The launch's data: the input blocks stay, each output block ends at `keepBlock` of its input block. -/
def dat2 (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => keepBlock (iblk m c 0 t)
  Φ _ := Pipeline.ΦA spec0 c
  q _ := fullShare
  owed _ := 0

theorem dat2_A (c : Dev nD) (w : Fin cfg0.W) : (dat2 m 0 c).A w = V m c (Pipeline.arrRef spec0 w) := by
  dsimp only [dat2]
theorem dat2_after0 (c : Dev nD) (t : Fin cfg0.N) : (dat2 m 0 c).after 0 t = iblk m c 0 t := by dsimp only [dat2]
theorem dat2_after1 (c : Dev nD) (t : Fin cfg0.N) : (dat2 m 0 c).after 1 t = keepBlock (iblk m c 0 t) := by dsimp only [dat2]
theorem dat2_before0 (c : Dev nD) (t : Fin cfg0.N) (d) : (dat2 m 0 c).before 0 t d = iblk m c 0 t :=
  before0_0_of m (dat2 m 0 c) (dat2_A m c 0) (dat2_after0 m c) t d

/-- The body at a grid point. -/
theorem body_at (c : Dev nD) (t : Fin cfg0.N) :
    iprop((dat2 m 0 c).Φ t.castSucc ∗ (dat2 m 0 c).owesAt () t.castSucc
      ∗ (∃ d, owns (c : Thread nD τ) (ms0_0 t) fullShare ((dat2 m 0 c).before 0 t d))
      ∗ (∃ d, owns (c : Thread nD τ) (ms0_1 t) fullShare ((dat2 m 0 c).before 1 t d)))
    ⊢ wp frame (wpE (defs₀ (F := F)) Variants.none c none) Set.univ (bodyAt0 t) (fun _ =>
      iprop((dat2 m 0 c).Φ t.succ ∗ (dat2 m 0 c).owesAt () t.succ
      ∗ owns (c : Thread nD τ) (ms0_0 t) fullShare ((dat2 m 0 c).after 0 t)
      ∗ owns (c : Thread nD τ) (ms0_1 t) fullShare ((dat2 m 0 c).after 1 t))) := by
  unfold bodyAt0
  simp only [dat2_before0]
  rw [show (dat2 m 0 c).Φ t.succ = (dat2 m 0 c).Φ t.castSucc from rfl,
    show (dat2 m 0 c).owesAt () t.succ = (dat2 m 0 c).owesAt () t.castSucc from rfl, dat2_after0, dat2_after1]
  rw [show (dat2 m 0 c).Φ t.castSucc = Pipeline.ΦA spec0 c from rfl, between_eq]
  iintro ⟨⟨⟨⟨%d3, H3⟩, ⟨%d4, H4⟩⟩, Hg⟩, Ho, ⟨%d0, H1⟩, ⟨%d1, H2⟩⟩
  have hb := body2_wp (F := F) (𝒱 := Variants.none) (bd := none) (E := Set.univ) c (ms0_0 t) (ms0_1 t) scr0 scr1 (grid0.coords t) (hs0_0 t) (hs0_1 t)
    (Memref.isWhole_whole _) (Memref.isWhole_whole _) (iblk m c 0 t) (iblk m c 0 t, (dat2 m 0 c).before 1 t d1, d3, d4) rfl
  unfold WP at hb
  iapply (wp_wand_r frame (wpE (defs₀ (F := F)) Variants.none (c : Thread nD τ) none) Set.univ)
  isplitl [H1 H2 H3 H4]
  · iapply hb
    unfold R2; simp only [Wp.Cons, Wp.One]
    isplitl [H1]; · iexact H1
    isplitl [H2]; · iexact H2
    isplitl [H3]; · iexact H3
    iexact H4
  · unfold R2; simp only [Wp.Cons, Wp.One]
    iintro %v ⟨%s', %hs, H1, H2, H3, H4⟩
    rw [hs.1, hs.2]
    isplitl [H3 H4 Hg]
    · isplitl [H3 H4]
      · isplitl [H3]
        · iexists _; iexact H3
        · iexists _; iexact H4
      · iexact Hg
    isplitl [Ho]; · iexact Ho
    isplitl [H1]; · iexact H1
    iexact H2

/-- The body table's row at a point is the body. -/
theorem row_at (t : Fin cfg0.N) : defs₀ (F := F) .tc cfg0.body (cfg0.bodyArgs t (cfg0.slots t)) = bodyAt0 t := by
  unfold defs₀; rw [Defs.onTc_tc]

/-- The pipeline's obligation on the body. -/
theorem obligation (c : Dev nD) : BodyObligation (dat2 (F := F) m 0 c) (defs₀ (F := F)) Variants.none () Set.univ := fun t => by
  rw [bigSep_W0, bigSep_W0, row_at]
  exact triple_restated (body_at m c t) rfl .rfl fun _ => .rfl

set_option backward.isDefEq.respectTransparency.types false in
set_option maxHeartbeats 800000 in
/-- Every run of the program ends, with the arrays at what the launch's data says and the counters at zero. -/
theorem run_all : θ_run defs (onTc (τ := τ) (main (F := F))) (s₀ m ρ) (fun r => (Pipeline.FramePost cfgs (dat2 m) 0 (Pipeline.afterTail₀ cfgs (dat2 m) 0 (V0 m) [hostOps1])) r ∧ r.2.sem = fun _ => 0) :=
  Pipeline.θ_run_frame_around (Q' := _) cfgs (dat2 m) (0 : Fin 1) launch0 defs₀ Variants.none m ρ main
    (hbody := fun c => (obligation m c).loose) (hshare := fun c => (dat2 m 0 c).share_full fun _ => rfl)
    (howed := fun _ _ => rfl) (V₀ := V0 m) (opss := [hostOps1]) (hsub := sfx_sub) (hfresh := sfx_fresh) (hkeep := sfx_keeps)
    (hmain := hmain m Variants.none) (hA := dat2_A m) (hΦ := fun _ _ => rfl)

/-- The frame: every run ends with the argument unchanged and the counters at zero. -/
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  θ_run_and (frame_of m ρ (dat2 m) (dat2_A m) ((θ_run defs _ _).mono (fun _ h => h.1) (run_all m ρ)))
    ((θ_run defs _ _).mono (fun _ h => h.2) (run_all m ρ))

end Cert.Kernel2Ideal.Hand

end
-- ==== Proof.K2Safe.lean ====
/- The second kernel's frame as it stands: no operation of it is idealized, so its program is the idealized one's, and
   the frame is that one's read at machine floats. -/
module

public import proofs.«01_k».proof.Proof.K2Run
public import proofs.«01_k».proof.Proof.Gen.Kernel2

@[expose] public section

noncomputable section

namespace Cert.Kernel2.Hand

open Idealize.ShloMosaic Idealize.ShloMosaic.TcCoe Idealize.SL.Sem
open Cert.Kernel2.Gen

variable {F : FTy → Type} [FloatOps F]
variable (m : (ℓ : Loc nD τ sig) → Buf (Elt F) ℓ) (ρ : Dev nD → PrngReg)

/-- The same body table. -/
theorem body_table : (defs₀ (F := F)) = Cert.Kernel2Ideal.defs₀ := by
  unfold defs₀ Cert.Kernel2Ideal.defs₀
  refine congrArg Defs.onTc (funext fun l => funext fun a => ?_)
  match l, a with
  | ⟨0, _⟩, _ => rfl

/-- The same tables. -/
theorem tables : (defs (F := F)) = Cert.Kernel2Ideal.defs := congrArg (Pipeline.defs pcfgs) body_table

/-- The frame: every run ends with the argument unchanged and the counters at zero. -/
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  tables (F := F) ▸ Cert.Kernel2Ideal.Hand.frame_all m ρ

end Cert.Kernel2.Hand

end
-- ==== Proof.K2Value.lean ====
/- The second kernel's first block function over the extended reals: a row's elements whose prefix sums, themselves left out, are at
   most nine tenths are kept, and the others are zero. -/
module

public import proofs.«01_k».proof.Proof.K2Body
public import Idealize.ShloMosaic.Lib.Pointwise
public import Idealize.ShloMosaic.PureOps.Ideal.Laws

@[expose] public section

noncomputable section

namespace Cert.Kernel2Ideal.Hand

open Idealize.ShloMosaic
open Cert.Kernel2Ideal.Gen Cert.Wp

set_option maxRecDepth 16384 in
theorem pay2_at (v : Vec Ideal S8x1x784 .f32) (r : Fin 8) (c : Fin 784) : k0_pay2 v (ix3 r 0 c) = v (ix3 r 0 c) := by
  pointwise [k0_pay2]

set_option maxRecDepth 16384 in
theorem pay3_at (v w : Vec Ideal S8x1x784 .f32) (r : Fin 8) (c : Fin 784) : k0_pay3 v w (ix3 r 0 c) = v (ix3 r 0 c) + w (ix3 r 0 c) := by
  pointwise [k0_pay3]

set_option maxRecDepth 16384 in
theorem pay4_at (v : Vec Ideal S8x1x784 .f32) (r : Fin 8) (n : Fin 896) : k0_pay4 v (ix2 r n) = if h : n.val < 784 then v (ix3 r 0 ⟨n.val, h⟩) else 0 := by
  pointwise [k0_pay4]

/-- The kept entries of a strip, where the seven pieces of the columns' prefix sums are `C` put in a row. -/
theorem pay1_at (w1 w2 : FVec Ideal S8x1 .f32) (u1 u2 u3 u4 u5 : FVec Ideal S8x128 .f32) (u6 u7 : Vec Ideal S8x128 .f32) (ps cs : Vec Ideal S8x1x784 .f32) (r : Fin 8) (c : Fin 784) (C : ℕ → EReal)
    (h0 : C 0 = 0) (h1 : ∀ l : Fin 128, u1 (ix2 r l) = C (l.val + 1)) (h2 : ∀ l : Fin 128, u2 (ix2 r l) = C (128 + l.val + 1))
    (h3 : ∀ l : Fin 128, u3 (ix2 r l) = C (256 + l.val + 1)) (h4 : ∀ l : Fin 128, u4 (ix2 r l) = C (384 + l.val + 1)) (h5 : ∀ l : Fin 128, u5 (ix2 r l) = C (512 + l.val + 1))
    (h6 : ∀ l : Fin 128, u6 (ix2 r l) + w1 (ix2 r 0) = C (640 + l.val + 1)) (h7 : ∀ l : Fin 128, u7 (ix2 r l) + w2 (ix2 r 0) = C (768 + l.val + 1)) :
    k0_pay1 w1 w2 u1 u2 u3 u4 u5 u6 u7 ps cs (ix3 r 0 c)
      = if cs (ix3 r 0 c) + C c.val - ps (ix3 r 0 c) ≤ Ideal.ofBits .f32 0x3F666666#32 then ps (ix3 r 0 c) else 0 := by
  have hc := c.isLt
  pointwise [k0_pay1]
  have e : ∀ {a b : EReal}, a = b → (if cs (ix3 r 0 c) + a - ps (ix3 r 0 c) ≤ Ideal.ofBits .f32 0x3F666666#32 then ps (ix3 r 0 c) else 0)
      = if cs (ix3 r 0 c) + b - ps (ix3 r 0 c) ≤ Ideal.ofBits .f32 0x3F666666#32 then ps (ix3 r 0 c) else 0 := fun h => by rw [h]
  refine e ?_
  simp only [h1, h2, h3, h4, h5, h6, h7]
  split_ifs
  · rw [show c.val = 0 by omega, h0]
  all_goals exact congrArg C (by omega)

set_option maxRecDepth 16384 in
theorem lane0_at (u : Vec Ideal S8x128 .f32) (r : Fin 8) (l : Fin 128) : k0_pay1825 u (ix2 r l) = u (ix2 r l) := by
  pointwise [k0_pay1825, k0_pay1818]

set_option maxRecDepth 16384 in
theorem lane1_at (w1 : Vec Ideal S8x1 .f32) (u : Vec Ideal S8x128 .f32) (r : Fin 8) (l : Fin 128) : k0_pay1826 w1 u (ix2 r l) = u (ix2 r l) + w1 (ix2 r 0) := by
  pointwise [k0_pay1826, k0_pay1819, k0_pay1818]

set_option maxRecDepth 16384 in
theorem lane2_at (w1 w2 : Vec Ideal S8x1 .f32) (u : Vec Ideal S8x128 .f32) (r : Fin 8) (l : Fin 128) :
    k0_pay1827 w1 w2 u (ix2 r l) = u (ix2 r l) + (w1 (ix2 r 0) + w2 (ix2 r 0)) := by
  pointwise [k0_pay1827, k0_pay1820, k0_pay1819, k0_pay1818]

set_option maxRecDepth 16384 in
theorem lane3_at (w1 w2 w3 : Vec Ideal S8x1 .f32) (u : Vec Ideal S8x128 .f32) (r : Fin 8) (l : Fin 128) :
    k0_pay1828 w1 w2 w3 u (ix2 r l) = u (ix2 r l) + (w1 (ix2 r 0) + w2 (ix2 r 0) + w3 (ix2 r 0)) := by
  pointwise [k0_pay1828, k0_pay1821, k0_pay1820, k0_pay1819, k0_pay1818]

set_option maxRecDepth 16384 in
theorem lane4_at (w1 w2 w3 w4 : Vec Ideal S8x1 .f32) (u : Vec Ideal S8x128 .f32) (r : Fin 8) (l : Fin 128) :
    k0_pay1829 w1 w2 w3 w4 u (ix2 r l) = u (ix2 r l) + (w1 (ix2 r 0) + w2 (ix2 r 0) + w3 (ix2 r 0) + w4 (ix2 r 0)) := by
  pointwise [k0_pay1829, k0_pay1822, k0_pay1821, k0_pay1820, k0_pay1819, k0_pay1818]

set_option maxRecDepth 16384 in
theorem carry5_at (w1 w2 w3 w4 w5 : Vec Ideal S8x1 .f32) (r : Fin 8) :
    k0_pay1823 w1 w2 w3 w4 w5 (ix2 r 0) = w1 (ix2 r 0) + w2 (ix2 r 0) + w3 (ix2 r 0) + w4 (ix2 r 0) + w5 (ix2 r 0) := by
  pointwise [k0_pay1823, k0_pay1822, k0_pay1821, k0_pay1820, k0_pay1819, k0_pay1818]

set_option maxRecDepth 16384 in
theorem carry6_at (w1 w2 w3 w4 w5 w6 : Vec Ideal S8x1 .f32) (r : Fin 8) :
    k0_pay1824 w1 w2 w3 w4 w5 w6 (ix2 r 0) = w1 (ix2 r 0) + w2 (ix2 r 0) + w3 (ix2 r 0) + w4 (ix2 r 0) + w5 (ix2 r 0) + w6 (ix2 r 0) := by
  pointwise [k0_pay1824, k0_pay1823, k0_pay1822, k0_pay1821, k0_pay1820, k0_pay1819, k0_pay1818]

/-! ## The scan -/

/-- Column `n` of row `r`. -/
def colAt (b : FVec Ideal Cols .f32) (r : Fin 8) (n : ℕ) : EReal := b (ix2 r ⟨n % 896, Nat.mod_lt _ (by decide)⟩)

/-- The running sum within a stretch of 128 columns. -/
theorem seg_at (b : FVec Ideal Cols .f32) (r : Fin 8) (q l : ℕ) (hl : l < 128) :
    seg b (128 * q + l) (ix2 r 0) = ∑ i ∈ Finset.range (l + 1), colAt b r (128 * q + i) := by
  have hz : ∀ n, (addf zcol (col b n)) (ix2 r 0) = colAt b r n := fun n => by
    show Ideal.ofBits .f32 0x00000000#32 + colAt b r n = _
    rw [Ideal.ofBits_zero_f32, zero_add]
  induction l with
  | zero =>
    rw [Finset.sum_range_one, Nat.add_zero]
    cases q with
    | zero => exact hz 0
    | succ q =>
      have e : 128 * (q + 1) = (128 * q + 127) + 1 := by omega
      rw [e]
      unfold seg
      rw [if_pos (by omega)]
      exact hz _
  | succ l ih =>
    rw [Finset.sum_range_succ, ← ih (by omega), ← Nat.add_assoc]
    conv => lhs; unfold seg
    rw [if_neg (by omega)]
    rfl

/-- The sum of the columns before column `n`. -/
def before (b : FVec Ideal Cols .f32) (r : Fin 8) (n : ℕ) : EReal := ∑ i ∈ Finset.range n, colAt b r i

theorem before_add (b : FVec Ideal Cols .f32) (r : Fin 8) (q l : ℕ) (hl : l < 128) :
    before b r (128 * q + l + 1) = before b r (128 * q) + seg b (128 * q + l) (ix2 r 0) := by
  unfold before
  rw [seg_at b r q l hl, Nat.add_assoc, Finset.sum_range_add]

theorem before_next (b : FVec Ideal Cols .f32) (r : Fin 8) (q : ℕ) :
    before b r (128 * (q + 1)) = before b r (128 * q) + seg b (128 * q + 127) (ix2 r 0) := before_add b r q 127 (by decide)

theorem lanes_at (b : FVec Ideal Cols .f32) (r : Fin 8) (n : ℕ) (l : Fin 128) : lanes b n 128 (ix2 r l) = seg b (n + l.val) (ix2 r 0) := rfl

/-- The kept entries of a strip, by the columns' prefix sums. -/
theorem keep_at (b : FVec Ideal S8x896 .f32) (ps cs : Vec Ideal S8x1x784 .f32) (r : Fin 8) (c : Fin 784) :
    keep b ps cs (ix3 r 0 c) = if cs (ix3 r 0 c) + before b r c.val - ps (ix3 r 0 c) ≤ Ideal.ofBits .f32 0x3F666666#32 then ps (ix3 r 0 c) else 0 := by
  have b0 : before b r 0 = 0 := Finset.sum_range_zero _
  have b1 : before b r 128 = seg b 127 (ix2 r 0) := (before_next b r 0).trans (by rw [show 128 * 0 = 0 from rfl, b0, zero_add])
  have b2 : before b r 256 = seg b 127 (ix2 r 0) + seg b 255 (ix2 r 0) := (before_next b r 1).trans (by rw [show 128 * 1 = 128 from rfl, b1])
  have b3 : before b r 384 = seg b 127 (ix2 r 0) + seg b 255 (ix2 r 0) + seg b 383 (ix2 r 0) := (before_next b r 2).trans (by rw [show 128 * 2 = 256 from rfl, b2])
  have b4 : before b r 512 = seg b 127 (ix2 r 0) + seg b 255 (ix2 r 0) + seg b 383 (ix2 r 0) + seg b 511 (ix2 r 0) :=
    (before_next b r 3).trans (by rw [show 128 * 3 = 384 from rfl, b3])
  have b5 : before b r 640 = seg b 127 (ix2 r 0) + seg b 255 (ix2 r 0) + seg b 383 (ix2 r 0) + seg b 511 (ix2 r 0) + seg b 639 (ix2 r 0) :=
    (before_next b r 4).trans (by rw [show 128 * 4 = 512 from rfl, b4])
  have b6 : before b r 768 = seg b 127 (ix2 r 0) + seg b 255 (ix2 r 0) + seg b 383 (ix2 r 0) + seg b 511 (ix2 r 0) + seg b 639 (ix2 r 0) + seg b 767 (ix2 r 0) :=
    (before_next b r 5).trans (by rw [show 128 * 5 = 640 from rfl, b5])
  refine pay1_at _ _ _ _ _ _ _ _ _ ps cs r c (before b r) b0 (fun l => ?_) (fun l => ?_) (fun l => ?_) (fun l => ?_) (fun l => ?_) (fun l => ?_) (fun l => ?_)
  · rw [lane0_at, lanes_at]
    have := before_add b r 0 l.val l.isLt
    rw [show 128 * 0 = 0 from rfl, b0, zero_add] at this
    rw [Nat.zero_add]
    exact (this.trans (zero_add (M := EReal) _)).symm
  · rw [lane1_at, lanes_at, add_comm, ← b1]; exact (before_add b r 1 l.val l.isLt).symm
  · rw [lane2_at, lanes_at, add_comm, ← b2]; exact (before_add b r 2 l.val l.isLt).symm
  · rw [lane3_at, lanes_at, add_comm, ← b3]; exact (before_add b r 3 l.val l.isLt).symm
  · rw [lane4_at, lanes_at, add_comm, ← b4]; exact (before_add b r 4 l.val l.isLt).symm
  · rw [carry5_at, lanes_at, add_comm, ← b5]; exact (before_add b r 5 l.val l.isLt).symm
  · rw [carry6_at, lanes_at, add_comm, ← b6]; exact (before_add b r 6 l.val l.isLt).symm

/-! ## One row -/

/-- A row's elements in the order of the columns, each column downwards; zeros behind. -/
def flat (a : Fin 128 → Fin 784 → EReal) (n : ℕ) : EReal :=
  if h : n < 100352 then a ⟨n % 128, Nat.mod_lt _ (by decide)⟩ ⟨n / 128, by omega⟩ else 0

theorem flat_at (a : Fin 128 → Fin 784 → EReal) (s : Fin 128) (c : Fin 784) : flat a (128 * c.val + s.val) = a s c := by
  have hs := s.isLt
  have hc := c.isLt
  unfold flat
  rw [dif_pos (by omega)]
  congr 1
  · exact Fin.ext (by show (128 * c.val + s.val) % 128 = s.val; omega)
  · exact Fin.ext (by show (128 * c.val + s.val) / 128 = c.val; omega)

/-- The kept elements of a row. -/
def kept (a : Fin 128 → Fin 784 → EReal) (s : Fin 128) (c : Fin 784) : EReal :=
  if (∑ n ∈ Finset.range (128 * c.val + s.val + 1), flat a n) - a s c ≤ Ideal.ofBits .f32 0x3F666666#32 then a s c else 0

variable (x : Vec Ideal S8x128x784 .f32)

/-- Row `r` of a block. -/
def rowOf (r : Fin 8) (s : Fin 128) (c : Fin 784) : EReal := x (ix3 r s c)

theorem strip_at (k : ℕ) (hk : k < 128) (r : Fin 8) (c : Fin 784) : strip (by decide) x k (ix3 r 0 c) = flat (rowOf x r) (128 * c.val + k) := by
  rw [flat_at (rowOf x r) ⟨k, hk⟩ c]
  unfold strip rowOf
  refine congrArg x ?_
  have : (⟨k % 128, Nat.mod_lt _ (by decide)⟩ : Fin 128) = ⟨k, hk⟩ := Fin.ext (Nat.mod_eq_of_lt hk)
  rw [← this]; rfl

theorem pre_at (r : Fin 8) (c : Fin 784) (k : ℕ) (hk : k < 128) :
    pre x k (ix3 r 0 c) = ∑ s ∈ Finset.range (k + 1), flat (rowOf x r) (128 * c.val + s) := by
  induction k with
  | zero => rw [Finset.sum_range_one, pre, pay2_at, strip_at x 0 hk]
  | succ k ih => rw [pre, pay3_at, ih (by omega), strip_at x (k + 1) hk, Finset.sum_range_succ _ (k + 1)]

theorem tot_at (r : Fin 8) (n : ℕ) (hn : n < 784) : colAt (tot x) r n = ∑ s ∈ Finset.range 128, flat (rowOf x r) (128 * n + s) := by
  have e : colAt (tot x) r n = tot x (ix2 r ⟨n, by omega⟩) := by
    unfold colAt
    have : (⟨n % 896, Nat.mod_lt _ (by decide)⟩ : Fin 896) = ⟨n, by omega⟩ := Fin.ext (Nat.mod_eq_of_lt (by omega))
    rw [this]
  rw [e, tot, pay4_at, dif_pos hn]
  exact pre_at x r ⟨n, hn⟩ 127 (by decide)

theorem before_at (r : Fin 8) (n : ℕ) (hn : n ≤ 784) : before (tot x) r n = ∑ i ∈ Finset.range (128 * n), flat (rowOf x r) i := by
  induction n with
  | zero => rfl
  | succ n ih =>
    have h : before (tot x) r (n + 1) = before (tot x) r n + colAt (tot x) r n := Finset.sum_range_succ _ _
    rw [h, ih (by omega), tot_at x r n (by omega), Nat.mul_add, Finset.sum_range_add]

/-- The block function, row by row. -/
theorem keepBlock_at (r : Fin 8) (s : Fin 128) (c : Fin 784) : keepBlock x (ix3 r s c) = kept (rowOf x r) s c := by
  show keep (tot x) (strip (by decide) x s.val) (pre x s.val) (ix3 r 0 c) = _
  rw [keep_at, strip_at x s.val s.isLt, flat_at, pre_at x r c s.val s.isLt, before_at x r c.val (by omega), add_comm, ← Finset.sum_range_add, ← Nat.add_assoc]
  rfl

end Cert.Kernel2Ideal.Hand

end
-- ==== Proof.K2Array.lean ====
/- The second kernel's result array: the launch's blocks put together, and the host operations around it. -/
module

public import proofs.«01_k».proof.Proof.K2Run
public import proofs.«01_k».proof.Proof.K2Value
public import Idealize.ShloMosaic.Lib.Pipeline.Value
public import Idealize.ShloMosaic.Lib.StableHlo.ReadAt

@[expose] public section

set_option maxRecDepth 16384

noncomputable section

namespace Cert.Kernel2Ideal.Hand

open Idealize.ShloMosaic Idealize.ShloMosaic.TcCoe Idealize.SL.Sem
open Idealize.ShloMosaic.Pipeline (Dat Cfg Window)
open Cert.Kernel2Ideal.Gen

variable (m : (ℓ : Loc nD τ sig) → Buf (Elt Ideal) ℓ) (ρ : Dev nD → PrngReg)

/-- A row of the sorted probabilities. -/
def row (x : FVec Ideal S64x100000 .f32) (r : Fin 64) (j : Fin 100000) : EReal := x (ix2 r j)

/-- A row of 100000 laid out in columns of 128, padded by zeros. -/
def padRow (g : Fin 100000 → EReal) (s : Fin 128) (c : Fin 784) : EReal := if h : 128 * c.val + s.val < 100000 then g ⟨128 * c.val + s.val, h⟩ else 0

/-- The kept elements of the padded rows, as a whole array. -/
def keptArr (x : FVec Ideal S64x100000 .f32) : FVec Ideal S64x128x784 .f32 := fun y => kept (padRow (row x (y 0))) (y 1) (y 2)

set_option maxHeartbeats 1000000 in
/-- The launch finds the padded rows, transposed. -/
theorem entry (c : Dev nD) (r : Fin 64) (k : Fin 128) (l : Fin 784) :
    V m c main_v2 (ix3 r k l) = padRow (row (m ((c : Thread nD τ).loc main_arg0)) r) k l := by
  unfold padRow row V
  after_reads_at
  have hz : FloatOps.sitofp (F := Ideal) FTy.f32 0#32 = (0 : EReal) := by
    show ((((0#32 : BitVec 32).toInt : ℤ) : ℝ) : EReal) = 0
    simp
  simp only [Nat.mul_comm l.val 128]
  rw [hz]

/-- The slice of the flattened array. -/
def outArr (y : FVec Ideal S64x128x784 .f32) : FVec Ideal S64x100000 .f32 :=
  extractStridedSlice S64x100000 ![0, 0] (shapeCast S64x100352 (transpose S64x784x128 [0, 2, 1] y transposes_S64x128x784_S64x784x128_0_2_1) shapeCasts_S64x784x128_S64x100352) slices_S64x100352_S64x100000_0_0

theorem outArr_at (y : FVec Ideal S64x128x784 .f32) (r : Fin 64) (j : Fin 100000) :
    outArr y (ix2 r j) = y (ix3 r ⟨j.val % 128, by omega⟩ ⟨j.val / 128, by omega⟩) := by
  pointwise [outArr]

theorem idx_facts : ∀ t : Fin cfg0.N, win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0 :=
  (by decide +kernel : ∀ t : Fin grid0.N, _)

theorem mem_blk (t : Fin cfg0.N) (i : S64x128x784.Idx) :
    i ∈ ((cfg0.win 1).blk t).view.set ↔ 8 * t.val ≤ (i 0 : Nat) ∧ (i 0 : Nat) < 8 * t.val + 8 := by
  show i ∈ ((View.whole main_v3).slice (win0_1.rect t)).set ↔ _
  rw [View.set_slice_whole, Rect.mem_set_unit]
  have h1 : (i 1 : Nat) < 128 := (i 1).isLt
  have h2 : (i 2 : Nat) < 784 := (i 2).isLt
  obtain ⟨-, -, -, e0, e1, e2⟩ := idx_facts t
  have f0 : win0_1.index t (0 : Fin 3) * win0_1.size 0 = 8 * t.val := by rw [e0]; show t.val * 8 = _; omega
  have f1 : win0_1.index t (1 : Fin 3) * win0_1.size 1 = 0 := by rw [e1]; exact Nat.zero_mul _
  have f2 : win0_1.index t (2 : Fin 3) * win0_1.size 2 = 0 := by rw [e2]; exact Nat.zero_mul _
  refine ⟨fun h => ?_, fun h a => ?_⟩
  · have : win0_1.index t (0 : Fin 3) * win0_1.size 0 ≤ (i 0 : Nat) ∧ (i 0 : Nat) < win0_1.index t (0 : Fin 3) * win0_1.size 0 + 8 := h 0
    rwa [f0] at this
  · match a with
    | ⟨0, _⟩ => show win0_1.index t (0 : Fin 3) * win0_1.size 0 ≤ (i 0 : Nat) ∧ (i 0 : Nat) < win0_1.index t (0 : Fin 3) * win0_1.size 0 + 8
                rw [f0]; exact h
    | ⟨1, _⟩ => show win0_1.index t (1 : Fin 3) * win0_1.size 1 ≤ (i 1 : Nat) ∧ (i 1 : Nat) < win0_1.index t (1 : Fin 3) * win0_1.size 1 + 128
                rw [f1]; omega
    | ⟨2, _⟩ => show win0_1.index t (2 : Fin 3) * win0_1.size 2 ≤ (i 2 : Nat) ∧ (i 2 : Nat) < win0_1.index t (2 : Fin 3) * win0_1.size 2 + 784
                rw [f2]; omega

theorem cover (i : S64x128x784.Idx) : ∃ t : Fin cfg0.N, (cfg0.win 1).flush t = true ∧ i ∈ ((cfg0.win 1).blk t).view.set := by
  have h0 : (i 0 : Nat) < 64 := (i 0).isLt
  have hN : cfg0.N = 8 := rfl
  refine ⟨⟨(i 0 : Nat) / 8, by rw [hN]; omega⟩, (by decide +kernel : ∀ t : Fin grid0.N, win0_1.flush t = true) _, ?_⟩
  rw [mem_blk]
  show 8 * ((i 0 : Nat) / 8) ≤ (i 0 : Nat) ∧ (i 0 : Nat) < 8 * ((i 0 : Nat) / 8) + 8
  omega

/-- Row `r` of the block at point `t` is row `8 t + r` of the array. -/
theorem emb_at (w : Fin 2) (t : Fin cfg0.N) (r : Fin 8) (k : Fin 128) (l : Fin 784) :
    (match w with
      | 0 => (win0_0.rect t).emb (ix3 r k l)
      | 1 => (win0_1.rect t).emb (ix3 r k l) : S64x128x784.Idx) = ix3 ⟨8 * t.val + r.val, by have : t.val < 8 := t.isLt; omega⟩ k l := by
  obtain ⟨d0, d1, d2, e0, e1, e2⟩ := idx_facts t
  match w with
  | 0 =>
    funext a
    apply Fin.ext
    match a with
    | ⟨0, _⟩ => exact (Window.rect_emb_val win0_0 t (ix3 r k l) 0).trans (by rw [d0]; show t.val * 8 + r.val = 8 * t.val + r.val; omega)
    | ⟨1, _⟩ => exact (Window.rect_emb_val win0_0 t (ix3 r k l) 1).trans (by rw [d1]; show 0 * 128 + k.val = k.val; omega)
    | ⟨2, _⟩ => exact (Window.rect_emb_val win0_0 t (ix3 r k l) 2).trans (by rw [d2]; show 0 * 784 + l.val = l.val; omega)
  | 1 =>
    funext a
    apply Fin.ext
    match a with
    | ⟨0, _⟩ => exact (Window.rect_emb_val win0_1 t (ix3 r k l) 0).trans (by rw [e0]; show t.val * 8 + r.val = 8 * t.val + r.val; omega)
    | ⟨1, _⟩ => exact (Window.rect_emb_val win0_1 t (ix3 r k l) 1).trans (by rw [e1]; show 0 * 128 + k.val = k.val; omega)
    | ⟨2, _⟩ => exact (Window.rect_emb_val win0_1 t (ix3 r k l) 2).trans (by rw [e2]; show 0 * 784 + l.val = l.val; omega)

/-- The block an input window holds, read at an index. -/
theorem iblk_at (c : Dev nD) (t : Fin cfg0.N) (r : Fin 8) (k : Fin 128) (l : Fin 784) :
    iblk m c 0 t (ix3 r k l) = V m c main_v2 (ix3 ⟨8 * t.val + r.val, by have : t.val < 8 := t.isLt; omega⟩ k l) := by
  show V m c main_v2 ((win0_0.rect t).emb (ix3 r k l)) = _
  exact congrArg (V m c main_v2) (emb_at 0 t r k l)

theorem flushed_eq (c : Dev nD) (t : Fin cfg0.N) :
    (dat2 m 0 c).flushed 1 t = ((cfg0.win 1).blk t).view.read (Elt Ideal) (keptArr (m ((c : Thread nD τ).loc main_arg0))) := by
  unfold Dat.flushed
  rw [dat2_after1]
  suffices h : ∀ y : S8x128x784.Idx, keepBlock (iblk m c 0 t) y = keptArr (m ((c : Thread nD τ).loc main_arg0)) ((win0_1.rect t).emb y) from funext h
  intro y
  obtain ⟨r, k, l, rfl⟩ : ∃ (r : Fin 8) (k : Fin 128) (l : Fin 784), y = ix3 r k l :=
    ⟨y 0, y 1, y 2, by funext a; match a with | ⟨0, _⟩ => rfl | ⟨1, _⟩ => rfl | ⟨2, _⟩ => rfl⟩
  have he : (win0_1.rect t).emb (ix3 r k l) = ix3 ⟨8 * t.val + r.val, by have : t.val < 8 := t.isLt; omega⟩ k l := emb_at 1 t r k l
  refine (keepBlock_at _ r k l).trans (Eq.trans ?_ (congrArg (keptArr (m ((c : Thread nD τ).loc main_arg0))) he).symm)
  show kept _ k l = kept _ k l
  congr 1
  funext k' l'
  exact (iblk_at m c t r k' l').trans (entry m c _ k' l')

/-- The launch's result array. -/
theorem arr_eq (c : Dev nD) : (dat2 m 0 c).arrAt 1 cfg0.N = keptArr (m ((c : Thread nD τ).loc main_arg0)) :=
  (dat2 m 0 c).arrAt_eq_of_cover 1 _ (fun t _ => flushed_eq m c t) cover

/-- What the last host operations leave in the result. -/
theorem tail_eq (c : Dev nD) :
    Pipeline.afterTail₀ cfgs (dat2 m) 0 (V0 m) [hostOps1] c main_v6 = outArr (keptArr (m ((c : Thread nD τ).loc main_arg0))) := by
  have h := Pipeline.withArrays_arr (τ := τ) spec0 (by decide) c (V0 m c) (fun w => (dat2 m 0 c).arrAt w cfg0.N) 1
  rw [arr_eq] at h
  unfold Pipeline.afterTail₀ hostOps1
  simp only [List.flatten_cons, List.flatten_nil, List.append_nil]
  after_results
  exact congrArg outArr h

end Cert.Kernel2Ideal.Hand

end
-- ==== Proof.K2Ref.lean ====
/- The prefix-mass reference read at an index. -/
module

public import proofs.«01_k».proof.Proof.K2Value
public import proofs.«01_k».proof.Proof.Gen.Reference2Ideal.Run
public import Idealize.ShloMosaic.Lib.Routing.Ops
public import Idealize.ShloMosaic.Lib.Quiescent

@[expose] public section

noncomputable section

namespace Cert.Reference2Ideal.Hand

open Idealize.ShloMosaic Idealize.ShloMosaic.Routing Idealize.ShloMosaic.TcCoe Idealize.ShloMosaic.Tactic
open Cert.Reference2Ideal.Gen
open Cert.Kernel2Ideal.Hand (flat kept)

/-- A left fold of sums is the sum of the list. -/
theorem foldl_add {α : Type} (l : List α) (f : α → EReal) (z : EReal) : l.foldl (fun r n => r + f n) z = z + (l.map f).sum := by
  induction l generalizing z with
  | nil => simp
  | cons a l ih => rw [List.foldl_cons, ih, List.map_cons, List.sum_cons, add_assoc]

/-- The window that ends at position `j`: of its terms, the last `j + 1` are the row's first. -/
theorem window_sum {N M : ℕ} (hN : M + 1 = N) (f : ℕ → EReal) (j : ℕ) (hj : j < N) :
    ∑ n ∈ Finset.range N, (if M ≤ j + n ∧ j + n - M < N then f (j + n - M) else 0) = ∑ i ∈ Finset.range (j + 1), f i := by
  obtain ⟨k, hk⟩ : ∃ k, M = j + k := ⟨M - j, by omega⟩
  rw [show N = k + (j + 1) by omega, Finset.sum_range_add, Finset.sum_eq_zero, zero_add]
  · refine Finset.sum_congr rfl fun i hi => ?_
    have := Finset.mem_range.mp hi
    rw [if_pos (by omega)]
    congr 1; omega
  · intro i hi
    have := Finset.mem_range.mp hi
    rw [if_neg (by omega)]

/-- A row continued by zeros. -/
def ext {N : ℕ} (g : Fin N → EReal) (n : ℕ) : EReal := if h : n < N then g ⟨n, h⟩ else 0

/-- A windowed sum whose window ends at each position is the prefix sum. -/
theorem cumsum_at {R N M : ℕ} (hN : M + 1 = N) (x : (shape2 R N).Idx → EReal) (init : shape0.Idx → EReal) (hinit : ∀ i, init i = 0)
    (h : (shape2 R N).ReduceWindows (![1, N] : Fin 2 → Nat) ![1, 1] ![0, M] ![0, 0] (shape2 R N)) (hu : 0 < shape0.numel) (r : Fin R) (j : Fin N) :
    Host.reduceWindow (· + ·) ![1, N] ![1, 1] ![0, M] ![0, 0] x init h hu (ix2 r j) = ∑ n ∈ Finset.range (j.val + 1), ext (fun i => x (ix2 r i)) n := by
  rw [← window_sum hN _ j.val j.isLt]
  have hj := j.isLt
  unfold Host.reduceWindow
  dsimp only
  rw [foldl_add, hinit, zero_add, ← Fin.sum_univ_def, ← Fin.sum_univ_eq_sum_range, ← (finCongr (numel2 N)).sum_comp]
  refine Finset.sum_congr rfl fun n _ => ?_
  have hw0 : ((shape2 1 N).rowMajor.symm n 0).val = 0 := by rw [symm2]; rfl
  have hw : ((shape2 1 N).rowMajor.symm n 1).val = n.val := by rw [symm2]; rfl
  have hn : n.val < N := (n.cast (numel2 _)).isLt
  show _ = if M ≤ j.val + n.val ∧ j.val + n.val - M < N then _ else _
  split
  · next hin =>
    have h1 := hin 1
    change M ≤ j.val * 1 + ((shape2 1 N).rowMajor.symm n 1).val ∧ j.val * 1 + ((shape2 1 N).rowMajor.symm n 1).val - M < N at h1
    rw [hw] at h1
    rw [if_pos (by omega)]
    unfold ext
    rw [dif_pos (by show j.val + n.val - M < N; omega)]
    refine congrArg x (funext fun a => Fin.ext ?_)
    match a with
    | ⟨0, _⟩ =>
      show r.val * 1 + ((shape2 1 N).rowMajor.symm n 0).val - 0 = r.val
      rw [hw0]; omega
    | ⟨1, _⟩ =>
      show j.val * 1 + ((shape2 1 N).rowMajor.symm n 1).val - M = j.val + n.val - M
      rw [hw, Nat.mul_one]
  · next hin =>
    rw [if_neg fun hle => hin fun a => by
      match a with
      | ⟨0, _⟩ =>
        show 0 ≤ r.val * 1 + ((shape2 1 N).rowMajor.symm n 0).val ∧ r.val * 1 + ((shape2 1 N).rowMajor.symm n 0).val - 0 < R
        rw [hw0]
        omega
      | ⟨1, _⟩ =>
        show M ≤ j.val * 1 + ((shape2 1 N).rowMajor.symm n 1).val ∧ j.val * 1 + ((shape2 1 N).rowMajor.symm n 1).val - M < N
        rw [hw]
        omega]

/-- The same of the host's windowed sum of floats. -/
theorem cumsum_add_at {R N M : ℕ} (hN : M + 1 = N) (x : FVec Ideal (shape2 R N) .f32) (init : FVec Ideal shape0 .f32) (hinit : ∀ i, init i = (0 : EReal))
    (h : (shape2 R N).ReduceWindows (![1, N] : Fin 2 → Nat) ![1, 1] ![0, M] ![0, 0] (shape2 R N)) (hu : 0 < shape0.numel) (r : Fin R) (j : Fin N) :
    Host.reduceWindowAdd ![1, N] ![1, 1] ![0, M] ![0, 0] x init h hu (ix2 r j) = ∑ n ∈ Finset.range (j.val + 1), ext (fun i => x (ix2 r i)) n :=
  cumsum_at hN x (fun _ => init (Shape.Idx.first hu)) (fun _ => hinit _) h hu r j

/-- The prefix sums of each row. -/
def cumArr (x : FVec Ideal S64x100000 .f32) : FVec Ideal S64x100000 .f32 :=
  Host.reduceWindowAdd ![1, 100000] ![1, 1] ![0, 99999] ![0, 0] x (broadcastInDim S_ ![] bcast_S_S_ (constant S_ .f32 0x00000000#32)) reduceWindows_S64x100000_S64x100000_w1s1p0_0_w100000s1p99999_0 h_S_

/-- A row of the sorted probabilities. -/
def row (x : FVec Ideal S64x100000 .f32) (r : Fin 64) (j : Fin 100000) : EReal := x (ix2 r j)

theorem lit0 : Ideal.ofBits .f32 0x00000000#32 = (0 : EReal) := by
  simp [Ideal.ofBits, Ideal.ieee]

theorem cumArr_at (x : FVec Ideal S64x100000 .f32) (r : Fin 64) (j : Fin 100000) :
    cumArr x (ix2 r j) = ∑ n ∈ Finset.range (j.val + 1), ext (row x r) n := by
  unfold cumArr
  exact cumsum_add_at (R := 64) (N := 100000) (M := 99999) (by norm_num) x _ (fun _ => lit0) _ _ r j

/-- The elements of one array where another less it is not above the mark. -/
def maskOf (c x : FVec Ideal S64x100000 .f32) : FVec Ideal S64x100000 .f32 :=
  select (cmpf .ogt (subf c x) (broadcastInDim S64x100000 ![] bcast_S_S64x100000 (constant S_ .f32 0x3F666666#32)))
    (broadcastInDim S64x100000 ![] bcast_S_S64x100000 (id (constant S_ .f32 0x00000000#32))) x

theorem maskOf_at (c x : FVec Ideal S64x100000 .f32) (r : Fin 64) (j : Fin 100000) :
    maskOf c x (ix2 r j) = if c (ix2 r j) - x (ix2 r j) ≤ Ideal.ofBits .f32 0x3F666666#32 then x (ix2 r j) else 0 := by
  have hz : (id (constant (F := Ideal) S_ .f32 0x00000000#32) : FVec Ideal S_ .f32) ix0 = (0 : EReal) := lit0
  unfold maskOf
  pointwise []
  rw [hz, ← ite_not]
  simp only [not_lt]

/-- The reference's result. -/
def maskArr (x : FVec Ideal S64x100000 .f32) : FVec Ideal S64x100000 .f32 := maskOf (cumArr x) x

theorem maskArr_at (x : FVec Ideal S64x100000 .f32) (r : Fin 64) (j : Fin 100000) :
    maskArr x (ix2 r j) = if (∑ n ∈ Finset.range (j.val + 1), ext (row x r) n) - row x r j ≤ Ideal.ofBits .f32 0x3F666666#32 then row x r j else 0 := by
  unfold maskArr
  rw [maskOf_at, cumArr_at]
  rfl

/-- The reference's run: its result, its argument unchanged and the counters at zero. -/
theorem run_all (m : (ℓ : Loc nD τ sig) → Buf (Elt Ideal) ℓ) (ρ : Dev nD → PrngReg) :
    θ_run defs (onTc (τ := τ) (main (F := Ideal))) ⟨m, fun _ => 0, ρ⟩ (fun r => (∀ c : Dev nD,
      r.2.mem ((c.tc : Thread nD τ).loc main_v4) = maskArr (m ((c.tc : Thread nD τ).loc main_arg0))
      ∧ r.2.mem ((c.tc : Thread nD τ).loc main_arg0) = m ((c.tc : Thread nD τ).loc main_arg0))
      ∧ r.2.sem = fun _ => 0) :=
  (θ_run defs _ _).mono (fun r h => ⟨h, sem_eq_zero_of_no_sems (by decide) r.2⟩) (Value.run m ρ)

end Cert.Reference2Ideal.Hand

end
-- ==== Proof.K3Defs.lean ====
/- What the third kernel's body leaves in its output block, as a function of its five input blocks. -/
module

public import proofs.«01_k».proof.Proof.Scan
public import proofs.«01_k».proof.Proof.Gen.Kernel3Ideal.Skeleton

@[expose] public section

noncomputable section

namespace Cert.Kernel3Ideal.Hand

open Idealize.ShloMosaic Idealize.ShloMosaic.TcCoe
open Cert.Kernel3Ideal.Gen Cert.Wp

variable {F : FTy → Type} [FloatOps F]

theorem trips1 : k0_t1_loop.trips = 261 := by decide
theorem trips2 : k0_t2_loop.trips = 261 := by decide
theorem trips3 : k0_t3_loop.trips = 262 := by decide
theorem trips4 : k0_t4_loop.trips = 127 := by decide
theorem trips5 : k0_t5_loop.trips = 128 := by decide
theorem trips6 : k0_t6_loop.trips = 128 := by decide
theorem trips7 : k0_t7_loop.trips = 128 := by decide
theorem trips8 : k0_t8_loop.trips = 784 := by decide

/-- A counter as a trip of a loop. -/
def trip (l : Scf.Loop 32) (h : 0 < l.trips) (k : ℕ) : Fin l.trips := ⟨k % l.trips, Nat.mod_lt _ h⟩

theorem trip_val (l : Scf.Loop 32) (h : 0 < l.trips) (k : Fin l.trips) : trip l h k.val = k := Fin.ext (Nat.mod_eq_of_lt k.isLt)

/-- The sum of the first `k` strips from strip `a` on. -/
def stripSum (e : Vec F S8x784x128 .f32) (a : ℕ) : ℕ → FVec F S8x128 .f32
  | 0 => k0_pay12
  | k + 1 => k0_pay13 (stripSum e a k) (strip (by decide) e (a + k))

/-- The lane sums but for the last eight lanes. -/
def laneA (e : Vec F S8x784x128 .f32) : FVec F S8x8 .f32 := k0_pay19 (stripSum e 0 261) (stripSum e 261 261) (stripSum e 522 262)

/-- The lane sums of the last eight lanes. -/
def laneB (e : Vec F S8x784x128 .f32) : FVec F S8x8 .f32 := k0_pay20 (stripSum e 0 261) (stripSum e 261 261) (stripSum e 522 262)

/-- The running sums of the scaled strips. -/
def pre (v w : FVec F S8x8 .f32) (x : Vec F S8x128x784 .f32) : ℕ → Vec F S8x1x784 .f32
  | 0 => k0_pay22 v w (strip (by decide) x 0)
  | k + 1 => k0_pay23 v w (pre v w x k) (strip (by decide) x (k + 1))

/-- The running sums of the scaled strips, as a block. -/
def preBlock (v w : FVec F S8x8 .f32) (x : Vec F S8x128x784 .f32) : Vec F S8x128x784 .f32 := fun y => pre v w x (y 1).val (ix3 (y 0) 0 (y 2))

theorem strip_preBlock (v w : FVec F S8x8 .f32) (x : Vec F S8x128x784 .f32) (k : ℕ) (hk : k < 128) : strip (by decide) (preBlock v w x) k = pre v w x k := by
  funext y
  unfold strip preBlock
  have h : ∀ (n : ℕ) (z : S8x1x784.Idx), n = k → z = y → pre v w x n z = pre v w x k y := fun n z hn hz => by rw [hn, hz]
  refine h _ _ (Nat.mod_eq_of_lt hk) (funext fun a => Fin.ext ?_)
  match a with
  | ⟨0, _⟩ => rfl
  | ⟨1, _⟩ => show 0 = (y 1).val; have : (y 1).val < 1 := (y 1).isLt; omega
  | ⟨2, _⟩ => rfl

/-- The strips' totals, with zeros behind. -/
def tot (v w : FVec F S8x8 .f32) (x : Vec F S8x128x784 .f32) : FVec F S8x896 .f32 := k0_pay24 (pre v w x 127)

/-- One strip's count of entries whose running sum is below the bound, from the totals and the bounds. -/
def cntStep (b : FVec F S8x896 .f32) (u : Vec F S8x1 .f32) (k : ℕ) (acc : IVec S8x1 32) (st : Vec F S8x1x784 .f32) : IVec S8x1 32 :=
  k0_pay1855 (k0_pay1847 (seg b 127) (seg b 255)) (k0_pay1848 (seg b 127) (seg b 255) (seg b 383)) (k0_pay1849 (seg b 127) (seg b 255) (seg b 383) (seg b 511))
    (k0_pay1850 (seg b 127) (seg b 255) (seg b 383) (seg b 511) (seg b 639)) (k0_pay1851 (seg b 127) (seg b 255) (seg b 383) (seg b 511) (seg b 639) (seg b 767))
    (k0_pay1852 (lanes b 0 128)) (k0_pay1853 (seg b 127) (lanes b 128 128)) (lanes b 256 128) (lanes b 384 128) (lanes b 512 128) (lanes b 640 128) (lanes b 768 128)
    u (trip k0_t5_loop (by decide) k) acc st

/-- The count of entries whose running sum is below the bound, over the first strips. -/
def cnt (b : FVec F S8x896 .f32) (u : Vec F S8x1 .f32) (p : ℕ → Vec F S8x1x784 .f32) : ℕ → IVec S8x1 32
  | 0 => k0_pay1854
  | k + 1 => cntStep b u k (cnt b u p k) (p k)

/-- The entry at the counted place of the sorted row, over the first strips. -/
def found (n : IVec S8x1 32) (x : Vec F S8x128x784 .f32) : ℕ → FVec F S8x1 .f32
  | 0 => k0_pay1857
  | k + 1 => k0_pay1858 n (trip k0_t6_loop (by decide) k) (found n x k) (strip (by decide) x k)

/-- The count of entries above a value, over the first strips. -/
def gtc (v : FVec F S8x1 .f32) (x : Vec F S8x128x784 .f32) : ℕ → IVec S8x1 32
  | 0 => k0_pay1859
  | k + 1 => k0_pay1860 v (trip k0_t7_loop (by decide) k) (gtc v x k) (strip (by decide) x k)

/-- The lane numbers. -/
def lane : IVec S8x128 32 := iota .tc S8x128 32 [1] iota_S8x128_d1_w32

/-- One strip's step of the search for the wanted tie. -/
def tieStep (v : FVec F S8x1 .f32) (r : IVec S8x1 32) (k : ℕ) (a : IVec S8x1 32 × IVec S8x1 32) (st : Vec F S8x1x128 .f32) : IVec S8x1 32 × IVec S8x1 32 :=
  (k0_pay4 a.1 (k0_pay6 lane 0#32 1#32 (trip k0_t8_loop (by decide) k)) (k0_pay7 v lane 0#32 1#32 (trip k0_t8_loop (by decide) k) st)
    (k0_pay10 v lane 0#32 1#32 (trip k0_t8_loop (by decide) k) a.2 st) (k0_pay11 r),
   k0_pay5 a.2 (k0_pay9 v lane 0#32 1#32 (trip k0_t8_loop (by decide) k) st))

/-- The search for the wanted tie, over the first strips. -/
def tie (v : FVec F S8x1 .f32) (r : IVec S8x1 32) (x : Vec F S8x784x128 .f32) : ℕ → IVec S8x1 32 × IVec S8x1 32
  | 0 => (k0_pay2, k0_pay3)
  | k + 1 => tieStep v r k (tie v r x k) (strip (by decide) x k)

/-- The five input blocks. -/
abbrev Inp (F : FTy → Type) : Type := Vec F S8x128x784 .f32 × Vec F S8x784x128 .f32 × Vec F S8x128x784 .f32 × Vec F S8x784x128 .f32 × Vec F S8x1 .f32

def preX (X : Inp F) : ℕ → Vec F S8x1x784 .f32 := pre (laneA X.2.1) (laneB X.2.1) X.1
def preBlockX (X : Inp F) : Vec F S8x128x784 .f32 := preBlock (laneA X.2.1) (laneB X.2.1) X.1
def totX (X : Inp F) : FVec F S8x896 .f32 := tot (laneA X.2.1) (laneB X.2.1) X.1
def cntX (X : Inp F) : IVec S8x1 32 := cnt (totX X) X.2.2.2.2 (preX X) 128
def selX (X : Inp F) : IVec S8x1 32 := k0_pay1856 (cntX X)
def valX (X : Inp F) : FVec F S8x1 .f32 := found (cntX X) X.2.2.1 128
def gtcX (X : Inp F) : IVec S8x1 32 := gtc (valX X) X.2.2.1 128
def restX (X : Inp F) : IVec S8x1 32 := k0_pay1 (selX X) (gtcX X)

/-- What the body leaves in its output block. -/
def tokBlock (X : Inp F) : IVec S8x1 32 := (tie (valX X) (restX X) X.2.2.2.1 784).1

end Cert.Kernel3Ideal.Hand

end
-- ==== Proof.K3Body.lean ====
/- The third kernel's body run: its scan of the strips' totals. -/
module

public import proofs.«01_k».proof.Proof.K3Defs

@[expose] public section

noncomputable section

namespace Cert.Kernel3Ideal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.Kernel3Ideal.Gen Cert.Wp

variable {F : FTy → Type} [FloatOps F]

local notation "𝕄" => MT nD τ sig Unit (Elt F) ℕ (UR sig nD τ) ℕ

/-- The state of the eight buffers. -/
abbrev St (F : FTy → Type) : Type :=
  Vec F S8x128x784 .f32 × Vec F S8x784x128 .f32 × Vec F S8x128x784 .f32 × Vec F S8x784x128 .f32 × Vec F S8x1 .f32 × Vec F S8x1 .i32 × Vec F S8x128x784 .f32 × Vec F S8x896 .f32

/-- The input blocks of a state. -/
def ins (s : St F) : Inp F := (s.1, s.2.1, s.2.2.1, s.2.2.2.1, s.2.2.2.2.1)

section Body
variable (c : Dev nD) (arg1 : Memref sig .tc .vmem S8x128x784 .f32) (arg2 : Memref sig .tc .vmem S8x784x128 .f32) (arg3 : Memref sig .tc .vmem S8x128x784 .f32)
  (arg4 : Memref sig .tc .vmem S8x784x128 .f32) (arg5 : Memref sig .tc .vmem S8x1 .f32) (arg6 : Memref sig .tc .vmem S8x1 .i32) (arg7 : Memref sig .tc .vmem S8x128x784 .f32)
  (arg8 : Memref sig .tc .vmem S8x896 .f32)

/-- The eight buffers of the body. -/
def R3 : St F → sProp 𝕄 := Cons c arg1 (Cons c arg2 (Cons c arg3 (Cons c arg4 (Cons c arg5 (Cons c arg6 (Cons c arg7 (One c arg8)))))))

def slot1 : Slot c (R3 (F := F) c arg1 arg2 arg3 arg4 arg5 arg6 arg7 arg8) arg1 := .head c arg1 _
def slot2 : Slot c (R3 (F := F) c arg1 arg2 arg3 arg4 arg5 arg6 arg7 arg8) arg2 := .tail arg1 (.head c arg2 _)
def slot3 : Slot c (R3 (F := F) c arg1 arg2 arg3 arg4 arg5 arg6 arg7 arg8) arg3 := .tail arg1 (.tail arg2 (.head c arg3 _))
def slot4 : Slot c (R3 (F := F) c arg1 arg2 arg3 arg4 arg5 arg6 arg7 arg8) arg4 := .tail arg1 (.tail arg2 (.tail arg3 (.head c arg4 _)))
def slot5 : Slot c (R3 (F := F) c arg1 arg2 arg3 arg4 arg5 arg6 arg7 arg8) arg5 := .tail arg1 (.tail arg2 (.tail arg3 (.tail arg4 (.head c arg5 _))))
def slot6 : Slot c (R3 (F := F) c arg1 arg2 arg3 arg4 arg5 arg6 arg7 arg8) arg6 := .tail arg1 (.tail arg2 (.tail arg3 (.tail arg4 (.tail arg5 (.head c arg6 _)))))
def slot7 : Slot c (R3 (F := F) c arg1 arg2 arg3 arg4 arg5 arg6 arg7 arg8) arg7 := .tail arg1 (.tail arg2 (.tail arg3 (.tail arg4 (.tail arg5 (.tail arg6 (.head c arg7 _))))))
def slot8 : Slot c (R3 (F := F) c arg1 arg2 arg3 arg4 arg5 arg6 arg7 arg8) arg8 := .tail arg1 (.tail arg2 (.tail arg3 (.tail arg4 (.tail arg5 (.tail arg6 (.tail arg7 (.one c arg8)))))))

theorem over8 : (slot8 (F := F) c arg1 arg2 arg3 arg4 arg5 arg6 arg7 arg8).Over := ⟨fun _ _ _ => rfl, fun _ _ => rfl⟩

variable {𝒱 : Variants} {bd : Option 𝒱.V} {E : Set ℕ} (i : grid0.Coords) (harg1 : arg1.IsWhole) (harg2 : arg2.IsWhole) (harg3 : arg3.IsWhole) (harg4 : arg4.IsWhole)
  (harg5 : arg5.IsWhole) (harg6 : arg6.IsWhole) (harg7 : arg7.IsWhole) (harg8 : arg8.IsWhole)

/-- The body's first part: the lane sums of the second block. -/
theorem part2_wp (X : Inp F) (s : St F) (hs : ins s = X) :
    WP defs₀ 𝒱 c bd E (R3 (F := F) c arg1 arg2 arg3 arg4 arg5 arg6 arg7 arg8) (k0_part2 i arg1 harg1 arg2 harg2 arg3 harg3 arg4 harg4 arg5 harg5 arg6 harg6 arg7 harg7 arg8 harg8)
      (fun v s' => v = ⟨laneA X.2.1, laneB X.2.1⟩ ∧ ins s' = X) s := by
  rw [k0_part2_eq_skeleton]
  unfold k0_part2_skel
  refine WP.bind (WP.loop (fun k acc s' => ins s' = X ∧ acc = stripSum X.2.1 0 k) ⟨hs, rfl⟩ (fun k acc s' h => ?_) (fun acc s' h => ?_))
  · have hk : k.val < 261 := trips1 ▸ k.isLt
    unfold k0_t1_body
    refine WP.bind (WP.load (slot2 c arg1 arg2 arg3 arg4 arg5 arg6 arg7 arg8) (WP.ret ⟨h.1, ?_⟩))
    rw [window_strip (by decide) _ _ (k.val + 0) (by omega) (k0_off1_eq k), h.2, show (slot2 c arg1 arg2 arg3 arg4 arg5 arg6 arg7 arg8).get s' = X.2.1 from congrArg (fun t => t.2.1) h.1, Nat.add_comm k.val 0]
    rfl
  obtain ⟨hx, rfl⟩ := h
  rw [trips1]
  refine WP.bind (WP.loop (fun k acc s' => ins s' = X ∧ acc = stripSum X.2.1 261 k) ⟨hx, rfl⟩ (fun k acc s' h => ?_) (fun acc s' h => ?_))
  · have hk : k.val < 261 := trips2 ▸ k.isLt
    unfold k0_t2_body
    refine WP.bind (WP.load (slot2 c arg1 arg2 arg3 arg4 arg5 arg6 arg7 arg8) (WP.ret ⟨h.1, ?_⟩))
    rw [window_strip (by decide) _ _ (k.val + 261) (by omega) (k0_off2_eq k), h.2, show (slot2 c arg1 arg2 arg3 arg4 arg5 arg6 arg7 arg8).get s' = X.2.1 from congrArg (fun t => t.2.1) h.1, Nat.add_comm k.val 261]
    rfl
  obtain ⟨hx, rfl⟩ := h
  rw [trips2]
  refine WP.bind (WP.loop (fun k acc s' => ins s' = X ∧ acc = stripSum X.2.1 522 k) ⟨hx, rfl⟩ (fun k acc s' h => ?_) (fun acc s' h => ?_))
  · have hk : k.val < 262 := trips3 ▸ k.isLt
    unfold k0_t3_body
    refine WP.bind (WP.load (slot2 c arg1 arg2 arg3 arg4 arg5 arg6 arg7 arg8) (WP.ret ⟨h.1, ?_⟩))
    rw [window_strip (by decide) _ _ (k.val + 522) (by omega) (k0_off3_eq k), h.2, show (slot2 c arg1 arg2 arg3 arg4 arg5 arg6 arg7 arg8).get s' = X.2.1 from congrArg (fun t => t.2.1) h.1, Nat.add_comm k.val 522]
    rfl
  obtain ⟨hx, rfl⟩ := h
  rw [trips3]
  exact WP.ret ⟨rfl, hx⟩

/-- The state once the running sums are written. -/
def Ready (X : Inp F) (s : St F) : Prop := ins s = X ∧ s.2.2.2.2.2.2.1 = preBlockX X

/-- The body's second part: the running sums of the scaled strips, and the first columns of the scan. -/
theorem part3_wp (X : Inp F) (s : St F) (hs : ins s = X) :
    WP defs₀ 𝒱 c bd E (R3 (F := F) c arg1 arg2 arg3 arg4 arg5 arg6 arg7 arg8) (k0_part3 i arg1 harg1 arg2 harg2 arg3 harg3 arg4 harg4 arg5 harg5 arg6 harg6 arg7 harg7 arg8 harg8 (laneA X.2.1) (laneB X.2.1))
      (fun v s' => v = ⟨totX X, seg (totX X) 1, extractStridedSlice S8x1 ![0, 2] (totX X) slices_S8x896_o0_2_S8x1⟩ ∧ Ready X s' ∧ Filled (totX X) 2 s'.2.2.2.2.2.2.2) s := by
  rw [k0_part3_eq_skeleton]
  unfold k0_part3_skel
  refine WP.bind (WP.load (slot1 c arg1 arg2 arg3 arg4 arg5 arg6 arg7 arg8) (WP.bind (WP.load (slot7 c arg1 arg2 arg3 arg4 arg5 arg6 arg7 arg8) (WP.bind (WP.store (slot7 c arg1 arg2 arg3 arg4 arg5 arg6 arg7 arg8) ?_)))))
  rw [window_strip (by decide) _ _ 0 (by decide) rfl, show (slot1 c arg1 arg2 arg3 arg4 arg5 arg6 arg7 arg8).get s = X.1 from congrArg (fun t => t.1) hs]
  refine WP.bind (WP.loop (fun k _ s' => ins s' = X ∧ ∀ y : S8x128x784.Idx, (y 1).val < k + 1 → s'.2.2.2.2.2.2.1 y = preBlockX X y) ⟨hs, fun y hy => ?_⟩ (fun k acc s' h => ?_) (fun acc s' h => ?_))
  · show VecWindow.put s.2.2.2.2.2.2.1 ![0, 0, 0] S8x1x784.size _ y = _
    have h0 : (y 1).val = 0 := by omega
    rw [put_strip _ 0 rfl, if_pos h0]
    unfold preBlockX preBlock; rw [h0]; rfl
  · have hk : k.val < 127 := trips4 ▸ k.isLt
    unfold k0_t4_body
    refine WP.bind (WP.load (slot7 c arg1 arg2 arg3 arg4 arg5 arg6 arg7 arg8) (WP.bind (WP.load (slot1 c arg1 arg2 arg3 arg4 arg5 arg6 arg7 arg8) (WP.bind (WP.load (slot7 c arg1 arg2 arg3 arg4 arg5 arg6 arg7 arg8)
      (WP.bind (WP.store (slot7 c arg1 arg2 arg3 arg4 arg5 arg6 arg7 arg8) (WP.ret ⟨h.1, fun y hy => ?_⟩))))))))
    show VecWindow.put s'.2.2.2.2.2.2.1 (k0_off5 k) S8x1x784.size _ y = _
    rw [put_strip _ (k.val + 1) (k0_off5_eq k)]
    split
    · rename_i hyk
      rw [window_strip (by decide) _ _ k.val (by omega) (k0_off4_eq k), window_strip (by decide) _ _ (k.val + 1) (by omega) (k0_off5_eq k),
        show (slot1 c arg1 arg2 arg3 arg4 arg5 arg6 arg7 arg8).get s' = X.1 from congrArg (fun t => t.1) h.1]
      have e : strip (by decide) ((slot7 c arg1 arg2 arg3 arg4 arg5 arg6 arg7 arg8).get s') k.val = pre (laneA X.2.1) (laneB X.2.1) X.1 k.val := by
        rw [← strip_preBlock _ _ X.1 k.val (by omega)]
        funext z
        unfold strip
        refine h.2 _ ?_
        show k.val % 128 < k.val + 1
        rw [Nat.mod_eq_of_lt (by omega)]; omega
      rw [e]
      unfold preBlockX preBlock; rw [hyk]; rfl
    · exact h.2 y (by omega)
  obtain ⟨hx, he⟩ := h
  rw [trips4] at he
  have he' : s'.2.2.2.2.2.2.1 = preBlockX X := funext fun y => he y (y 1).isLt
  clear he
  refine WP.bind (WP.load (slot7 c arg1 arg2 arg3 arg4 arg5 arg6 arg7 arg8) ?_)
  rw [window_strip (by decide) _ _ 127 (by decide) rfl, show (slot7 c arg1 arg2 arg3 arg4 arg5 arg6 arg7 arg8).get s' = preBlockX X from he',
    show strip (by decide) (preBlockX X) 127 = preX X 127 from strip_preBlock _ _ X.1 127 (by decide)]
  have e0 : k0_pay24 (preX X 127) = totX X := rfl
  have e1 : k0_pay26 (preX X 127) = seg (totX X) 0 := by
    rw [← e0]; simp (disch := decide) only [k0_pay26, k0_pay25, shapeCast_col, seg_first]
  have e2 : k0_pay28 (preX X 127) = seg (totX X) 1 := by
    rw [← e0]; simp (disch := decide) only [k0_pay28, k0_pay27, k0_pay25, shapeCast_col, seg_first, seg_step]
  have e3 : k0_pay27 (preX X 127) = seg (totX X) 1 := by
    rw [← e0]; simp (disch := decide) only [k0_pay27, k0_pay25, shapeCast_col, seg_first, seg_step]
  have e4 : k0_pay29 (preX X 127) = extractStridedSlice S8x1 ![0, 2] (totX X) slices_S8x896_o0_2_S8x1 := rfl
  rw [e0, e1, e2, e3, e4]
  have ho := over8 (F := F) c arg1 arg2 arg3 arg4 arg5 arg6 arg7 arg8
  refine Scan.start (sl := slot8 c arg1 arg2 arg3 arg4 arg5 arg6 arg7 arg8) (b := totX X) ?_
  refine Scan.load fun _ => Scan.store ho rfl (Scan.load fun _ => Scan.store ho rfl (Scan.stop fun l hl => ?_))
  exact ⟨rfl, ⟨hx, he'⟩, hl⟩

set_option maxHeartbeats 4000000 in
/-- The first half of the scan. -/
theorem part125_wp (X : Inp F) (s : St F) (hs : ins s = X) :
    WP defs₀ 𝒱 c bd E (R3 (F := F) c arg1 arg2 arg3 arg4 arg5 arg6 arg7 arg8) (k0_part125 i arg1 harg1 arg2 harg2 arg3 harg3 arg4 harg4 arg5 harg5 arg6 harg6 arg7 harg7 arg8 harg8)
      (fun v s' => v = ⟨totX X, seg (totX X) 436⟩ ∧ Ready X s' ∧ Filled (totX X) 436 s'.2.2.2.2.2.2.2) s := by
  unfold k0_part125
  refine WP.seq (part2_wp c arg1 arg2 arg3 arg4 arg5 arg6 arg7 arg8 i harg1 harg2 harg3 harg4 harg5 harg6 harg7 harg8 X s hs) ?_
  rintro v s' ⟨rfl, hx⟩
  refine WP.seq (part3_wp c arg1 arg2 arg3 arg4 arg5 arg6 arg7 arg8 i harg1 harg2 harg3 harg4 harg5 harg6 harg7 harg8 X s' hx) ?_
  rintro v s' ⟨rfl, hx, hl⟩
  refine Scan.enter (sl := slot8 c arg1 arg2 arg3 arg4 arg5 arg6 arg7 arg8) (b := totX X) ?_ hl
  have ho := over8 (F := F) c arg1 arg2 arg3 arg4 arg5 arg6 arg7 arg8
  repeat first
    | with_reducible refine Scan.store ho rfl ?_
    | with_reducible refine Scan.load fun _ => ?_
    | with_reducible refine Scan.ret ?_
    | (with_reducible refine Scan.bind ?_
       conv => arg 10; simp (disch := decide) only [
        k0_part4, k0_part5, k0_part6, k0_part7, k0_part8, k0_part9, k0_part10, k0_part11, k0_part12, k0_part13, k0_part14, k0_part15, k0_part16, k0_part17,
        k0_part18, k0_part19, k0_part20, k0_part21, k0_part22, k0_part23, k0_part24, k0_part25, k0_part26, k0_part27, k0_part28, k0_part29, k0_part30,
        k0_part31, k0_part32, k0_part33, k0_part34, k0_part35, k0_part36, k0_part37, k0_part38, k0_part39, k0_part40, k0_part41, k0_part42, k0_part43,
        k0_part44, k0_part45, k0_part46, k0_part47, k0_part48, k0_part49, k0_part50, k0_part51, k0_part52, k0_part53, k0_part54, k0_part55, k0_part56,
        k0_part57, k0_part58, k0_part59, k0_part60, k0_part61,
        shapeCast_col, seg_step, seg_first])
  refine Scan.stop fun l hl => ⟨rfl, hx, hl⟩

set_option maxHeartbeats 4000000 in
/-- The second half of the scan. -/
theorem part126_wp (X : Inp F) (s : St F) (hs : Ready X s) (hl : Filled (totX X) 436 s.2.2.2.2.2.2.2) :
    WP defs₀ 𝒱 c bd E (R3 (F := F) c arg1 arg2 arg3 arg4 arg5 arg6 arg7 arg8) (k0_part126 i arg1 harg1 arg2 harg2 arg3 harg3 arg4 harg4 arg5 harg5 arg6 harg6 arg7 harg7 arg8 harg8 (totX X) (seg (totX X) 436))
      (fun v s' => (∃ w, v = ⟨seg (totX X) 885, w⟩) ∧ Ready X s' ∧ Filled (totX X) 885 s'.2.2.2.2.2.2.2) s := by
  unfold k0_part126
  refine Scan.enter (sl := slot8 c arg1 arg2 arg3 arg4 arg5 arg6 arg7 arg8) (b := totX X) ?_ hl
  have ho := over8 (F := F) c arg1 arg2 arg3 arg4 arg5 arg6 arg7 arg8
  repeat first
    | with_reducible refine Scan.store ho rfl ?_
    | with_reducible refine Scan.load fun _ => ?_
    | with_reducible refine Scan.ret ?_
    | (with_reducible refine Scan.bind ?_
       conv => arg 10; simp (disch := decide) only [
        k0_part62, k0_part63, k0_part64, k0_part65, k0_part66, k0_part67, k0_part68, k0_part69, k0_part70, k0_part71, k0_part72, k0_part73, k0_part74,
        k0_part75, k0_part76, k0_part77, k0_part78, k0_part79, k0_part80, k0_part81, k0_part82, k0_part83, k0_part84, k0_part85, k0_part86, k0_part87,
        k0_part88, k0_part89, k0_part90, k0_part91, k0_part92, k0_part93, k0_part94, k0_part95, k0_part96, k0_part97, k0_part98, k0_part99, k0_part100,
        k0_part101, k0_part102, k0_part103, k0_part104, k0_part105, k0_part106, k0_part107, k0_part108, k0_part109, k0_part110, k0_part111, k0_part112,
        k0_part113, k0_part114, k0_part115, k0_part116, k0_part117, k0_part118, k0_part119, k0_part120, k0_part121,
        shapeCast_col, seg_step, seg_first])
  refine Scan.stop fun l hl => ⟨⟨_, rfl⟩, hs, hl⟩

end Body

end Cert.Kernel3Ideal.Hand

end
-- ==== Proof.K3Body2.lean ====
/- The third kernel's body run: the end of its scan, its counts and its search. -/
module

public import proofs.«01_k».proof.Proof.K3Body

@[expose] public section

noncomputable section

namespace Cert.Kernel3Ideal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.Kernel3Ideal.Gen Cert.Wp

variable {F : FTy → Type} [FloatOps F]

local notation "𝕄" => MT nD τ sig Unit (Elt F) ℕ (UR sig nD τ) ℕ

/-- A load of the whole column reads it. -/
theorem window_col {α : Type} (x : S8x1.Idx → α) (inb : ∀ a, (![0, 0] : Fin 2 → ℕ) a + S8x1.size a ≤ S8x1.size a) : VecWindow.window x ![0, 0] S8x1.size inb = x := by
  funext y
  unfold VecWindow.window
  refine congrArg x (funext fun a => Fin.ext ?_)
  match a with
  | ⟨0, _⟩ => show 0 + 1 * (y 0).val = (y 0).val; omega
  | ⟨1, _⟩ => show 0 + 1 * (y 1).val = (y 1).val; omega

/-- A store of the whole column replaces it. -/
theorem put_col {α : Type} (x w : S8x1.Idx → α) : VecWindow.put x ![0, 0] S8x1.size w = w := by
  have h := VecWindow.window_put_same x ![0, 0] S8x1.size (by decide) w
  rwa [window_col] at h

section Body
variable (c : Dev nD) (arg1 : Memref sig .tc .vmem S8x128x784 .f32) (arg2 : Memref sig .tc .vmem S8x784x128 .f32) (arg3 : Memref sig .tc .vmem S8x128x784 .f32)
  (arg4 : Memref sig .tc .vmem S8x784x128 .f32) (arg5 : Memref sig .tc .vmem S8x1 .f32) (arg6 : Memref sig .tc .vmem S8x1 .i32) (arg7 : Memref sig .tc .vmem S8x128x784 .f32)
  (arg8 : Memref sig .tc .vmem S8x896 .f32)
variable {𝒱 : Variants} {bd : Option 𝒱.V} {E : Set ℕ} (i : grid0.Coords) (harg1 : arg1.IsWhole) (harg2 : arg2.IsWhole) (harg3 : arg3.IsWhole) (harg4 : arg4.IsWhole)
  (harg5 : arg5.IsWhole) (harg6 : arg6.IsWhole) (harg7 : arg7.IsWhole) (harg8 : arg8.IsWhole)

/-- The state once the running sums are all written. -/
def Full (X : Inp F) (s : St F) : Prop := Ready X s ∧ s.2.2.2.2.2.2.2 = segs (totX X)

/-- Columns of the scan near its end. -/
theorem part122_wp (X : Inp F) (w : Vec F S8x1 .f32) (s : St F) (hs : Ready X s) (hl : Filled (totX X) 885 s.2.2.2.2.2.2.2) :
    WP defs₀ 𝒱 c bd E (R3 (F := F) c arg1 arg2 arg3 arg4 arg5 arg6 arg7 arg8) (k0_part122 i arg1 harg1 arg2 harg2 arg3 harg3 arg4 harg4 arg5 harg5 arg6 harg6 arg7 harg7 arg8 harg8 (totX X) (seg (totX X) 885) w)
      (fun v s' => v = ⟨seg (totX X) 892, k0_pay1839 (totX X)⟩ ∧ Ready X s' ∧ Filled (totX X) 893 s'.2.2.2.2.2.2.2) s := by
  have ho := over8 (F := F) c arg1 arg2 arg3 arg4 arg5 arg6 arg7 arg8
  have e0 : k0_pay1824 (seg (totX X) 885) = seg (totX X) 885 := by simp (disch := decide) only [k0_pay1824, shapeCast_col]
  have e1 : k0_pay1826 (totX X) (seg (totX X) 885) = seg (totX X) 886 := by
    simp (disch := decide) only [k0_pay1826, k0_pay1825, shapeCast_col, seg_step]
  have e2 : k0_pay1828 (totX X) (seg (totX X) 885) = seg (totX X) 887 := by
    simp (disch := decide) only [k0_pay1828, k0_pay1827, k0_pay1825, shapeCast_col, seg_step]
  have e3 : k0_pay1830 (totX X) (seg (totX X) 885) = seg (totX X) 888 := by
    simp (disch := decide) only [k0_pay1830, k0_pay1829, k0_pay1827, k0_pay1825, shapeCast_col, seg_step]
  have e4 : k0_pay1832 (totX X) (seg (totX X) 885) = seg (totX X) 889 := by
    simp (disch := decide) only [k0_pay1832, k0_pay1831, k0_pay1829, k0_pay1827, k0_pay1825, shapeCast_col, seg_step]
  have e5 : k0_pay1834 (totX X) (seg (totX X) 885) = seg (totX X) 890 := by
    simp (disch := decide) only [k0_pay1834, k0_pay1833, k0_pay1831, k0_pay1829, k0_pay1827, k0_pay1825, shapeCast_col, seg_step]
  have e6 : k0_pay1836 (totX X) (seg (totX X) 885) = seg (totX X) 891 := by
    simp (disch := decide) only [k0_pay1836, k0_pay1835, k0_pay1833, k0_pay1831, k0_pay1829, k0_pay1827, k0_pay1825, shapeCast_col, seg_step]
  have e7 : k0_pay1837 (totX X) (seg (totX X) 885) = seg (totX X) 892 := by
    simp (disch := decide) only [k0_pay1837, k0_pay1835, k0_pay1833, k0_pay1831, k0_pay1829, k0_pay1827, k0_pay1825, shapeCast_col, seg_step]
  have e8 : k0_pay1838 (totX X) (seg (totX X) 885) = seg (totX X) 892 := by
    rw [← e7]; simp only [k0_pay1838, shapeCast_col]
  rw [k0_part122_eq_skeleton]
  unfold k0_part122_skel
  rw [e0, e1, e2, e3, e4, e5, e6, e7, e8]
  refine Scan.enter (sl := slot8 c arg1 arg2 arg3 arg4 arg5 arg6 arg7 arg8) (b := totX X) ?_ hl
  refine Scan.store ho rfl ?_
  iterate 7 refine Scan.load fun _ => Scan.store ho rfl ?_
  exact Scan.stop fun l hl => ⟨rfl, hs, hl⟩

/-- The scan's last columns, and the first of its sums read back. -/
theorem part123_wp (X : Inp F) (s : St F) (hs : Ready X s) (hl : Filled (totX X) 893 s.2.2.2.2.2.2.2) :
    WP defs₀ 𝒱 c bd E (R3 (F := F) c arg1 arg2 arg3 arg4 arg5 arg6 arg7 arg8) (k0_part123 i arg1 harg1 arg2 harg2 arg3 harg3 arg4 harg4 arg5 harg5 arg6 harg6 arg7 harg7 arg8 harg8 (totX X) (seg (totX X) 892) (k0_pay1839 (totX X)))
      (fun v s' => v = ⟨k0_pay1847 (seg (totX X) 127) (seg (totX X) 255), k0_pay1848 (seg (totX X) 127) (seg (totX X) 255) (seg (totX X) 383),
          k0_pay1849 (seg (totX X) 127) (seg (totX X) 255) (seg (totX X) 383) (seg (totX X) 511),
          k0_pay1850 (seg (totX X) 127) (seg (totX X) 255) (seg (totX X) 383) (seg (totX X) 511) (seg (totX X) 639),
          k0_pay1851 (seg (totX X) 127) (seg (totX X) 255) (seg (totX X) 383) (seg (totX X) 511) (seg (totX X) 639) (seg (totX X) 767),
          k0_pay1852 (lanes (totX X) 0 128), k0_pay1853 (seg (totX X) 127) (lanes (totX X) 128 128)⟩ ∧ Full X s') s := by
  have ho := over8 (F := F) c arg1 arg2 arg3 arg4 arg5 arg6 arg7 arg8
  have e1 : k0_pay1841 (seg (totX X) 892) (k0_pay1839 (totX X)) = seg (totX X) 893 := by
    simp (disch := decide) only [k0_pay1841, k0_pay1840, k0_pay1839, shapeCast_col, seg_step]
  have e2 : k0_pay1843 (totX X) (seg (totX X) 892) (k0_pay1839 (totX X)) = seg (totX X) 894 := by
    simp (disch := decide) only [k0_pay1843, k0_pay1842, k0_pay1840, k0_pay1839, shapeCast_col, seg_step]
  have e3 : k0_pay1844 (totX X) (seg (totX X) 892) (k0_pay1839 (totX X)) = seg (totX X) 895 := by
    simp (disch := decide) only [k0_pay1844, k0_pay1842, k0_pay1840, k0_pay1839, shapeCast_col, seg_step]
  rw [k0_part123_eq_skeleton]
  unfold k0_part123_skel
  rw [e1, e2, e3]
  refine Scan.enter (sl := slot8 c arg1 arg2 arg3 arg4 arg5 arg6 arg7 arg8) (b := totX X) ?_ hl
  refine Scan.load fun _ => Scan.store ho rfl (Scan.load fun _ => Scan.store ho rfl (Scan.load fun _ => Scan.store ho rfl (Scan.done ?_)))
  have hg : ∀ s : St F, (slot8 (F := F) c arg1 arg2 arg3 arg4 arg5 arg6 arg7 arg8).get ((slot8 c arg1 arg2 arg3 arg4 arg5 arg6 arg7 arg8).set s (segs (totX X))) = segs (totX X) := fun s => rfl
  iterate 8
    refine WP.bind (WP.load (slot8 c arg1 arg2 arg3 arg4 arg5 arg6 arg7 arg8) ?_)
    rw [hg, window_segs]
  simp only [lanes_one]
  exact WP.ret ⟨rfl, hs, rfl⟩

/-- The count, the entry found by it, and the count of the greater entries. -/
theorem part124_wp (X : Inp F) (s : St F) (hs : Full X s) :
    WP defs₀ 𝒱 c bd E (R3 (F := F) c arg1 arg2 arg3 arg4 arg5 arg6 arg7 arg8) (k0_part124 i arg1 harg1 arg2 harg2 arg3 harg3 arg4 harg4 arg5 harg5 arg6 harg6 arg7 harg7 arg8 harg8 (k0_pay1847 (seg (totX X) 127) (seg (totX X) 255)) (k0_pay1848 (seg (totX X) 127) (seg (totX X) 255) (seg (totX X) 383))
          (k0_pay1849 (seg (totX X) 127) (seg (totX X) 255) (seg (totX X) 383) (seg (totX X) 511))
          (k0_pay1850 (seg (totX X) 127) (seg (totX X) 255) (seg (totX X) 383) (seg (totX X) 511) (seg (totX X) 639))
          (k0_pay1851 (seg (totX X) 127) (seg (totX X) 255) (seg (totX X) 383) (seg (totX X) 511) (seg (totX X) 639) (seg (totX X) 767))
          (k0_pay1852 (lanes (totX X) 0 128)) (k0_pay1853 (seg (totX X) 127) (lanes (totX X) 128 128)))
      (fun v s' => v = ⟨selX X, valX X, gtcX X⟩ ∧ ins s' = X) s := by
  rw [k0_part124_eq_skeleton]
  unfold k0_part124_skel
  iterate 5
    refine WP.bind (WP.load (slot8 c arg1 arg2 arg3 arg4 arg5 arg6 arg7 arg8) ?_)
    rw [show (slot8 c arg1 arg2 arg3 arg4 arg5 arg6 arg7 arg8).get s = segs (totX X) from hs.2, window_segs]
  refine WP.bind (WP.load (slot5 c arg1 arg2 arg3 arg4 arg5 arg6 arg7 arg8) ?_)
  rw [show (slot5 c arg1 arg2 arg3 arg4 arg5 arg6 arg7 arg8).get s = X.2.2.2.2 from congrArg (fun t => t.2.2.2.2) hs.1.1, window_col]
  refine WP.bind (WP.loop (fun k acc s' => Ready X s' ∧ acc = cnt (totX X) X.2.2.2.2 (preX X) k) ⟨hs.1, rfl⟩ (fun k acc s' h => ?_) (fun acc s' h => ?_))
  · have hk : k.val < 128 := trips5 ▸ k.isLt
    unfold k0_t5_body
    refine WP.bind (WP.load (slot7 c arg1 arg2 arg3 arg4 arg5 arg6 arg7 arg8) (WP.ret ⟨h.1, ?_⟩))
    rw [window_strip (by decide) _ _ k.val hk (k0_off6_eq k), show (slot7 c arg1 arg2 arg3 arg4 arg5 arg6 arg7 arg8).get s' = preBlockX X from h.1.2,
      show strip (by decide) (preBlockX X) k.val = preX X k.val from strip_preBlock _ _ X.1 k.val hk, h.2]
    show _ = cntStep _ _ _ _ _
    unfold cntStep
    rw [trip_val]
  obtain ⟨hx, rfl⟩ := h
  rw [trips5, show cnt (totX X) X.2.2.2.2 (preX X) 128 = cntX X from rfl]
  refine WP.bind (WP.loop (fun k acc s' => ins s' = X ∧ acc = found (cntX X) X.2.2.1 k) ⟨hx.1, rfl⟩ (fun k acc s' h => ?_) (fun acc s' h => ?_))
  · have hk : k.val < 128 := trips6 ▸ k.isLt
    unfold k0_t6_body
    refine WP.bind (WP.load (slot3 c arg1 arg2 arg3 arg4 arg5 arg6 arg7 arg8) (WP.ret ⟨h.1, ?_⟩))
    rw [window_strip (by decide) _ _ k.val hk (k0_off7_eq k), show (slot3 c arg1 arg2 arg3 arg4 arg5 arg6 arg7 arg8).get s' = X.2.2.1 from congrArg (fun t => t.2.2.1) h.1, h.2]
    show _ = k0_pay1858 _ _ _ _
    rw [trip_val]
  obtain ⟨hx, rfl⟩ := h
  rw [trips6, show found (cntX X) X.2.2.1 128 = valX X from rfl]
  refine WP.bind (WP.loop (fun k acc s' => ins s' = X ∧ acc = gtc (valX X) X.2.2.1 k) ⟨hx, rfl⟩ (fun k acc s' h => ?_) (fun acc s' h => ?_))
  · have hk : k.val < 128 := trips7 ▸ k.isLt
    unfold k0_t7_body
    refine WP.bind (WP.load (slot3 c arg1 arg2 arg3 arg4 arg5 arg6 arg7 arg8) (WP.ret ⟨h.1, ?_⟩))
    rw [window_strip (by decide) _ _ k.val hk (k0_off8_eq k), show (slot3 c arg1 arg2 arg3 arg4 arg5 arg6 arg7 arg8).get s' = X.2.2.1 from congrArg (fun t => t.2.2.1) h.1, h.2]
    show _ = k0_pay1860 _ _ _ _
    rw [trip_val]
  obtain ⟨hx, rfl⟩ := h
  rw [trips7]
  exact WP.ret ⟨rfl, hx⟩

/-- The whole body: the input blocks are kept, the output block is `tokBlock` of them. -/
theorem body3_wp (X : Inp F) (s : St F) (hs : ins s = X) :
    WP defs₀ 𝒱 c bd E (R3 (F := F) c arg1 arg2 arg3 arg4 arg5 arg6 arg7 arg8) (cc0__k2b_body i arg1 harg1 arg2 harg2 arg3 harg3 arg4 harg4 arg5 harg5 arg6 harg6 arg7 harg7 arg8 harg8)
      (fun _ s' => ins s' = X ∧ s'.2.2.2.2.2.1 = tokBlock X) s := by
  rw [cc0__k2b_body_eq_skeleton]
  unfold cc0__k2b_body_skel
  refine WP.seq (part125_wp c arg1 arg2 arg3 arg4 arg5 arg6 arg7 arg8 i harg1 harg2 harg3 harg4 harg5 harg6 harg7 harg8 X s hs) ?_
  rintro v s1 ⟨rfl, hs1, hl1⟩
  refine WP.seq (part126_wp c arg1 arg2 arg3 arg4 arg5 arg6 arg7 arg8 i harg1 harg2 harg3 harg4 harg5 harg6 harg7 harg8 X s1 hs1 hl1) ?_
  rintro v s2 ⟨⟨w, rfl⟩, hs2, hl2⟩
  refine WP.seq (part122_wp c arg1 arg2 arg3 arg4 arg5 arg6 arg7 arg8 i harg1 harg2 harg3 harg4 harg5 harg6 harg7 harg8 X w s2 hs2 hl2) ?_
  rintro v s3 ⟨rfl, hs3, hl3⟩
  refine WP.seq (part123_wp c arg1 arg2 arg3 arg4 arg5 arg6 arg7 arg8 i harg1 harg2 harg3 harg4 harg5 harg6 harg7 harg8 X s3 hs3 hl3) ?_
  rintro v s4 ⟨rfl, hs4⟩
  refine WP.seq (part124_wp c arg1 arg2 arg3 arg4 arg5 arg6 arg7 arg8 i harg1 harg2 harg3 harg4 harg5 harg6 harg7 harg8 X s4 hs4) ?_
  rintro v s5 ⟨rfl, hs5⟩
  refine WP.bind (WP.loop (fun k acc s' => ins s' = X ∧ acc = tie (valX X) (restX X) X.2.2.2.1 k) ⟨hs5, rfl⟩ (fun k acc s' h => ?_) (fun acc s' h => ?_))
  · have hk : k.val < 784 := trips8 ▸ k.isLt
    obtain ⟨hx, rfl⟩ := h
    unfold k0_t8_body
    rw [k0_part1_eq_skeleton]
    unfold k0_part1_skel
    refine WP.bind (WP.bind (WP.load (slot4 c arg1 arg2 arg3 arg4 arg5 arg6 arg7 arg8) (WP.ret (WP.ret ⟨hx, ?_⟩))))
    rw [window_strip (by decide) _ _ k.val hk (k0_off9_eq k), show (slot4 c arg1 arg2 arg3 arg4 arg5 arg6 arg7 arg8).get s' = X.2.2.2.1 from congrArg (fun t => t.2.2.2.1) hx]
    show _ = tieStep _ _ _ _ _
    unfold tieStep
    rw [trip_val]
    rfl
  obtain ⟨hx, rfl⟩ := h
  rw [trips8]
  refine WP.bind (WP.load (slot6 c arg1 arg2 arg3 arg4 arg5 arg6 arg7 arg8) (WP.bind (WP.store (slot6 c arg1 arg2 arg3 arg4 arg5 arg6 arg7 arg8) (WP.ret ⟨hx, ?_⟩))))
  exact put_col _ _

end Body

end Cert.Kernel3Ideal.Hand

end
-- ==== Proof.K3Run.lean ====
/- The third kernel's launch: every run ends, and the arrays end at what the blocks' function says. -/
module

public import proofs.«01_k».proof.Proof.K3Body2
public import proofs.«01_k».proof.Proof.Gen.Kernel3Ideal.Frame
public import Idealize.ShloMosaic.Lib.Claim

@[expose] public section

noncomputable section

namespace Cert.Kernel3Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal.Gen Cert.Wp

variable {F : FTy → Type} [FloatOps F]

local notation "𝕄" => MT nD τ sig Unit (Elt F) ℕ (UR sig nD τ) ℕ

abbrev ms0_0 (t : Fin cfg0.N) : Memref sig .tc .vmem S8x128x784 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8x784x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8x128x784 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S8x784x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S8x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S8x1 .i32 := win0_5.stage (cfg0.slots t 5)
abbrev hs0_5 (t : Fin cfg0.N) : (ms0_5 t).IsWhole := hstage0_5 ((cfg0.slots t 5).cast nbuf0_5)
abbrev scr0 : Memref sig .tc .vmem S8x128x784 .f32 := Memref.whole cc0_scratch0
abbrev scr1 : Memref sig .tc .vmem S8x896 .f32 := Memref.whole cc0_scratch1

/-- What is kept between grid points: the two scratch buffers at some contents, and the register. -/
theorem between_eq (c : Dev nD) :
    (Pipeline.ΦA spec0 c : sProp 𝕄)
      = iprop(((∃ d, owns (c : Thread nD τ) scr0 fullShare d) ∗ (∃ d, owns (c : Thread nD τ) scr1 fullShare d)) ∗ (∃ r, prngReg c r)) := by
  unfold Pipeline.ΦA; rw [scopedRest0_eq]; simp only [scr0, scr1, owns_whole]; try rfl

variable (m : (ℓ : Loc nD τ sig) → Buf (Elt F) ℓ) (ρ : Dev nD → PrngReg)

/-- The input blocks at a grid point. -/
def inp (c : Dev nD) (t : Fin cfg0.N) : Inp F := (iblk m c 0 t, iblk m c 1 t, iblk m c 2 t, iblk m c 3 t, iblk m c 4 t)

/-- The launch's data: the input blocks stay, each output block ends at `tokBlock` of its input blocks. -/
def dat3 (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => tokBlock (inp m c t)
  Φ _ := Pipeline.ΦA spec0 c
  q _ := fullShare
  owed _ := 0

theorem dat3_A (c : Dev nD) (w : Fin cfg0.W) : (dat3 m 0 c).A w = V m c (Pipeline.arrRef spec0 w) := by
  dsimp only [dat3]
theorem dat3_after0 (c : Dev nD) (t : Fin cfg0.N) : (dat3 m 0 c).after 0 t = iblk m c 0 t := by dsimp only [dat3]
theorem dat3_after1 (c : Dev nD) (t : Fin cfg0.N) : (dat3 m 0 c).after 1 t = iblk m c 1 t := by dsimp only [dat3]
theorem dat3_after2 (c : Dev nD) (t : Fin cfg0.N) : (dat3 m 0 c).after 2 t = iblk m c 2 t := by dsimp only [dat3]
theorem dat3_after3 (c : Dev nD) (t : Fin cfg0.N) : (dat3 m 0 c).after 3 t = iblk m c 3 t := by dsimp only [dat3]
theorem dat3_after4 (c : Dev nD) (t : Fin cfg0.N) : (dat3 m 0 c).after 4 t = iblk m c 4 t := by dsimp only [dat3]
theorem dat3_after5 (c : Dev nD) (t : Fin cfg0.N) : (dat3 m 0 c).after 5 t = tokBlock (inp m c t) := by dsimp only [dat3]
theorem dat3_before0 (c : Dev nD) (t : Fin cfg0.N) (d) : (dat3 m 0 c).before 0 t d = iblk m c 0 t :=
  before0_0_of m (dat3 m 0 c) (dat3_A m c 0) (dat3_after0 m c) t d
theorem dat3_before1 (c : Dev nD) (t : Fin cfg0.N) (d) : (dat3 m 0 c).before 1 t d = iblk m c 1 t :=
  before0_1_of m (dat3 m 0 c) (dat3_A m c 1) (dat3_after1 m c) t d
theorem dat3_before2 (c : Dev nD) (t : Fin cfg0.N) (d) : (dat3 m 0 c).before 2 t d = iblk m c 2 t :=
  before0_2_of m (dat3 m 0 c) (dat3_A m c 2) (dat3_after2 m c) t d
theorem dat3_before3 (c : Dev nD) (t : Fin cfg0.N) (d) : (dat3 m 0 c).before 3 t d = iblk m c 3 t :=
  before0_3_of m (dat3 m 0 c) (dat3_A m c 3) (dat3_after3 m c) t d
theorem dat3_before4 (c : Dev nD) (t : Fin cfg0.N) (d) : (dat3 m 0 c).before 4 t d = iblk m c 4 t :=
  before0_4_of m (dat3 m 0 c) (dat3_A m c 4) (dat3_after4 m c) t d

/-- The body at a grid point. -/
theorem body_at (c : Dev nD) (t : Fin cfg0.N) :
    iprop((dat3 m 0 c).Φ t.castSucc ∗ (dat3 m 0 c).owesAt () t.castSucc
      ∗ (∃ d, owns (c : Thread nD τ) (ms0_0 t) fullShare ((dat3 m 0 c).before 0 t d))
      ∗ (∃ d, owns (c : Thread nD τ) (ms0_1 t) fullShare ((dat3 m 0 c).before 1 t d))
      ∗ (∃ d, owns (c : Thread nD τ) (ms0_2 t) fullShare ((dat3 m 0 c).before 2 t d))
      ∗ (∃ d, owns (c : Thread nD τ) (ms0_3 t) fullShare ((dat3 m 0 c).before 3 t d))
      ∗ (∃ d, owns (c : Thread nD τ) (ms0_4 t) fullShare ((dat3 m 0 c).before 4 t d))
      ∗ (∃ d, owns (c : Thread nD τ) (ms0_5 t) fullShare ((dat3 m 0 c).before 5 t d)))
    ⊢ wp frame (wpE (defs₀ (F := F)) Variants.none c none) Set.univ (bodyAt0 t) (fun _ =>
      iprop((dat3 m 0 c).Φ t.succ ∗ (dat3 m 0 c).owesAt () t.succ
      ∗ owns (c : Thread nD τ) (ms0_0 t) fullShare ((dat3 m 0 c).after 0 t)
      ∗ owns (c : Thread nD τ) (ms0_1 t) fullShare ((dat3 m 0 c).after 1 t)
      ∗ owns (c : Thread nD τ) (ms0_2 t) fullShare ((dat3 m 0 c).after 2 t)
      ∗ owns (c : Thread nD τ) (ms0_3 t) fullShare ((dat3 m 0 c).after 3 t)
      ∗ owns (c : Thread nD τ) (ms0_4 t) fullShare ((dat3 m 0 c).after 4 t)
      ∗ owns (c : Thread nD τ) (ms0_5 t) fullShare ((dat3 m 0 c).after 5 t))) := by
  unfold bodyAt0
  simp only [dat3_before0, dat3_before1, dat3_before2, dat3_before3, dat3_before4]
  rw [show (dat3 m 0 c).Φ t.succ = (dat3 m 0 c).Φ t.castSucc from rfl,
    show (dat3 m 0 c).owesAt () t.succ = (dat3 m 0 c).owesAt () t.castSucc from rfl, dat3_after0, dat3_after1, dat3_after2, dat3_after3, dat3_after4, dat3_after5]
  rw [show (dat3 m 0 c).Φ t.castSucc = Pipeline.ΦA spec0 c from rfl, between_eq]
  iintro ⟨⟨⟨⟨%d7, H7⟩, ⟨%d8, H8⟩⟩, Hg⟩, Ho, ⟨%d0, H1⟩, ⟨%d1, H2⟩, ⟨%d2, H3⟩, ⟨%d3, H4⟩, ⟨%d4, H5⟩, ⟨%d5, H6⟩⟩
  have hb := body3_wp (F := F) (𝒱 := Variants.none) (bd := none) (E := Set.univ) c (ms0_0 t) (ms0_1 t) (ms0_2 t) (ms0_3 t) (ms0_4 t) (ms0_5 t) scr0 scr1 (grid0.coords t)
    (hs0_0 t) (hs0_1 t) (hs0_2 t) (hs0_3 t) (hs0_4 t) (hs0_5 t) (Memref.isWhole_whole _) (Memref.isWhole_whole _) (inp m c t)
    (iblk m c 0 t, iblk m c 1 t, iblk m c 2 t, iblk m c 3 t, iblk m c 4 t, (dat3 m 0 c).before 5 t d5, d7, d8) rfl
  unfold WP at hb
  iapply (wp_wand_r frame (wpE (defs₀ (F := F)) Variants.none (c : Thread nD τ) none) Set.univ)
  isplitl [H1 H2 H3 H4 H5 H6 H7 H8]
  · iapply hb
    unfold R3; simp only [Wp.Cons, Wp.One]
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · unfold R3; simp only [Wp.Cons, Wp.One]
    iintro %v ⟨%s', %hs, H1, H2, H3, H4, H5, H6, H7, H8⟩
    have h1 : s'.1 = iblk m c 0 t := congrArg (fun x => x.1) hs.1
    have h2 : s'.2.1 = iblk m c 1 t := congrArg (fun x => x.2.1) hs.1
    have h3 : s'.2.2.1 = iblk m c 2 t := congrArg (fun x => x.2.2.1) hs.1
    have h4 : s'.2.2.2.1 = iblk m c 3 t := congrArg (fun x => x.2.2.2.1) hs.1
    have h5 : s'.2.2.2.2.1 = iblk m c 4 t := congrArg (fun x => x.2.2.2.2) hs.1
    rw [h1, h2, h3, h4, h5, hs.2]
    isplitl [H7 H8 Hg]
    · isplitl [H7 H8]
      · isplitl [H7]
        · iexists _; iexact H7
        · iexists _; iexact H8
      · iexact Hg
    isplitl [Ho]; · iexact Ho
    isplitl [H1]; · iexact H1
    isplitl [H2]; · iexact H2
    isplitl [H3]; · iexact H3
    isplitl [H4]; · iexact H4
    isplitl [H5]; · iexact H5
    iexact H6

/-- The body table's row at a point is the body. -/
theorem row_at (t : Fin cfg0.N) : defs₀ (F := F) .tc cfg0.body (cfg0.bodyArgs t (cfg0.slots t)) = bodyAt0 t := by
  unfold defs₀; rw [Defs.onTc_tc]

/-- The pipeline's obligation on the body. -/
theorem obligation (c : Dev nD) : BodyObligation (dat3 (F := F) m 0 c) (defs₀ (F := F)) Variants.none () Set.univ := fun t => by
  rw [bigSep_W0, bigSep_W0, row_at]
  exact triple_restated (body_at m c t) rfl .rfl fun _ => .rfl

set_option backward.isDefEq.respectTransparency.types false in
set_option maxHeartbeats 800000 in
/-- Every run of the program ends, with the arrays at what the launch's data says and the counters at zero. -/
theorem run_all : θ_run defs (onTc (τ := τ) (main (F := F))) (s₀ m ρ) (fun r => Pipeline.FramePost cfgs (dat3 m) 0 (V m) r ∧ r.2.sem = fun _ => 0) :=
  Pipeline.θ_run_frame (Q' := _) cfgs (dat3 m) (0 : Fin 1) launch0 defs₀ Variants.none m ρ main
    (hbody := fun c => (obligation m c).loose) (hshare := fun c => (dat3 m 0 c).share_full fun _ => rfl)
    (howed := fun _ _ => rfl) (V := V m)
    (hmain := hmain m Variants.none) (hA := dat3_A m) (hΦ := fun _ _ => rfl)

/-- The frame: every run ends with the arguments unchanged and the counters at zero. -/
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dat3 m) (dat3_A m) ((θ_run defs _ _).mono (fun _ h => h.1) (run_all m ρ)))
    ((θ_run defs _ _).mono (fun _ h => h.2) (run_all m ρ))

end Cert.Kernel3Ideal.Hand

end
-- ==== Proof.K3Safe.lean ====
/- The third kernel's frame as it stands: no operation of it is idealized, so its program is the idealized one's, and
   the frame is that one's read at machine floats. -/
module

public import proofs.«01_k».proof.Proof.K3Run
public import proofs.«01_k».proof.Proof.Gen.Kernel3

@[expose] public section

noncomputable section

namespace Cert.Kernel3.Hand

open Idealize.ShloMosaic Idealize.ShloMosaic.TcCoe Idealize.SL.Sem
open Cert.Kernel3.Gen

variable {F : FTy → Type} [FloatOps F]
variable (m : (ℓ : Loc nD τ sig) → Buf (Elt F) ℓ) (ρ : Dev nD → PrngReg)

/-- The same body table. -/
theorem body_table : (defs₀ (F := F)) = Cert.Kernel3Ideal.defs₀ := by
  unfold defs₀ Cert.Kernel3Ideal.defs₀
  refine congrArg Defs.onTc (funext fun l => funext fun a => ?_)
  match l, a with
  | ⟨0, _⟩, _ => rfl

/-- The same tables. -/
theorem tables : (defs (F := F)) = Cert.Kernel3Ideal.defs := congrArg (Pipeline.defs pcfgs) body_table

/-- The frame: every run ends with the arguments unchanged and the counters at zero. -/
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  tables (F := F) ▸ Cert.Kernel3Ideal.Hand.frame_all m ρ

end Cert.Kernel3.Hand

end
-- ==== Proof.Search.lean ====
/- Places in an order: the stable descending order of a row, and how the place of an element among its equals, with the
   number of greater elements, finds it again. -/
module

public import Idealize.ShloMosaic.Lib.SortFacts
public import Mathlib.Data.List.OfFn
public import Mathlib.Data.EReal.Basic

@[expose] public section

noncomputable section

namespace Cert.Search

open Idealize.ShloMosaic

section Stable
variable {n : ℕ} (R : Fin n → Fin n → Bool)

/-- The relation with its ties broken by position. -/
def byPlace (a b : Fin n) : Bool := R a b || (!R b a && decide (a < b))

/-- On a list in order the stable sort breaks ties by position. -/
theorem stableSort_byPlace (l : List (Fin n)) (hl : l.Pairwise (· < ·)) : stableSort R l = stableSort (byPlace R) l := by
  induction l with
  | nil => rfl
  | cons a l ih =>
    rw [List.pairwise_cons] at hl
    unfold stableSort
    rw [← ih hl.2]
    refine insertBefore_congr _ _ a _ fun b hb => ?_
    have hab : a < b := hl.1 b ((perm_stableSort R l).mem_iff.mp hb)
    unfold byPlace
    simp [not_lt_of_gt hab]

theorem sortedFrom_byPlace : sortedFrom R = sortedFrom (byPlace R) := by
  funext k
  unfold sortedFrom
  rw [List.get_of_eq (show sortPositions n R = sortPositions n (byPlace R) from stableSort_byPlace R _ (List.pairwise_lt_finRange n))]
  rfl

end Stable

section Order
variable {n : ℕ} (p : Fin n → EReal)

/-- Greater first. -/
def greater (a b : Fin n) : Bool := decide (p b < p a)

/-- The stable descending order. -/
def order : Fin n → Fin n := sortedFrom (greater p)

theorem order_bijective : Function.Bijective (order p) := ⟨sortedFrom_injective _, sortedFrom_surjective _⟩

theorem byPlace_iff (a b : Fin n) : byPlace (greater p) a b = true ↔ p b < p a ∨ (p a = p b ∧ a < b) := by
  unfold byPlace greater
  simp only [Bool.or_eq_true, Bool.and_eq_true, Bool.not_eq_true', decide_eq_true_eq, decide_eq_false_iff_not, not_lt]
  constructor
  · rintro (h | ⟨h, h'⟩)
    · exact .inl h
    · rcases h.lt_or_eq with h1 | h1
      · exact .inl h1
      · exact .inr ⟨h1.symm, h'⟩
  · rintro (h | ⟨h, h'⟩)
    · exact .inl h
    · exact .inr ⟨h.ge, h'⟩

/-- Earlier places hold greater elements, or equal ones from earlier positions. -/
theorem order_lt (i j : Fin n) (h : i < j) : p (order p j) < p (order p i) ∨ (p (order p i) = p (order p j) ∧ order p i < order p j) := by
  have hs := sortedFrom_noInversion (byPlace (greater p)) (byPlace (greater p)) (fun a b h => ?_) (fun _ _ h => h) (fun a b c h1 h2 => ?_) i j h
  · have hne : order p i ≠ order p j := fun e => h.ne ((order_bijective p).1 e)
    have e : sortedFrom (byPlace (greater p)) = order p := (sortedFrom_byPlace (greater p)).symm
    rw [e] at hs
    have hs' : ¬ (byPlace (greater p) (order p j) (order p i) = true) := by rw [hs]; exact Bool.false_ne_true
    rw [byPlace_iff, not_or, not_lt, not_and, not_lt] at hs'
    rcases hs'.1.lt_or_eq with h1 | h1
    · exact .inl h1
    · exact .inr ⟨h1.symm, lt_of_le_of_ne (hs'.2 h1) hne⟩
  · rw [byPlace_iff] at h
    rw [← Bool.not_eq_true, byPlace_iff]
    rintro (h' | ⟨h', h''⟩)
    · rcases h with h | ⟨h, _⟩
      · exact lt_asymm h h'
      · exact h'.ne h
    · rcases h with h | ⟨_, h⟩
      · exact h.ne h'
      · exact lt_asymm h h''
  · rw [← Bool.not_eq_true, byPlace_iff, not_or, not_lt, not_and, not_lt] at h1 h2 ⊢
    refine ⟨h1.1.trans h2.1, fun e => ?_⟩
    have e1 : p a = p b := le_antisymm h1.1 (h2.1.trans e.ge)
    have e2 : p b = p c := e1.symm.trans e
    exact (h2.2 e2).trans (h1.2 e1)

theorem order_antitone : Antitone (p ∘ order p) := fun i j h => by
  rcases h.lt_or_eq with h | h
  · rcases order_lt p i j h with h | ⟨h, _⟩
    · exact h.le
    · exact h.ge
  · rw [h]

/-- Any descending rearrangement is the stable one's. -/
theorem eq_order (sd : Fin n → EReal) (τ : Fin n → Fin n) (hτ : Function.Bijective τ) (hs : sd = p ∘ τ) (ha : Antitone sd) : sd = p ∘ order p := by
  have h1 : (List.ofFn sd).Perm (List.ofFn p) := hs ▸ Equiv.Perm.ofFn_comp_perm (Equiv.ofBijective τ hτ) p
  have h2 : (List.ofFn (p ∘ order p)).Perm (List.ofFn p) := Equiv.Perm.ofFn_comp_perm (Equiv.ofBijective _ (order_bijective p)) p
  refine List.ofFn_injective (List.Perm.eq_of_pairwise (le := fun a b => b ≤ a) (fun a b _ _ q1 q2 => le_antisymm q2 q1) ?_ ?_ (h1.trans h2.symm))
  · rw [List.pairwise_ofFn]
    exact fun i j hij => ha hij.le
  · rw [List.pairwise_ofFn]
    exact fun i j hij => order_antitone p hij.le

/-- How many elements equal to `v` come before position `i`. -/
def tiesBefore (v : EReal) (i : ℕ) : ℕ := (Finset.univ.filter fun k : Fin n => p k = v ∧ k.val < i).card

/-- How many elements are greater than `v`. -/
def above (v : EReal) : ℕ := (Finset.univ.filter fun k : Fin n => v < p k).card

/-- The place of an element: the greater ones, and its equals that come before it. -/
theorem place (s : Fin n) : above p (p (order p s)) + tiesBefore p (p (order p s)) (order p s).val = s.val := by
  have h1 : (Finset.univ.filter fun k : Fin n => k < s).card = s.val := by
    rw [show (Finset.univ.filter fun k : Fin n => k < s) = Finset.Iio s by ext; simp, Fin.card_Iio]
  have h2 : (Finset.univ.filter fun k : Fin n => k < s).image (order p)
      = (Finset.univ.filter fun k : Fin n => p (order p s) < p k) ∪ (Finset.univ.filter fun k : Fin n => p k = p (order p s) ∧ k.val < (order p s).val) := by
    ext i
    obtain ⟨k, rfl⟩ := (order_bijective p).2 i
    simp only [Finset.mem_image, Finset.mem_filter, Finset.mem_univ, true_and, Finset.mem_union]
    constructor
    · rintro ⟨k', hk, e⟩
      obtain rfl := (order_bijective p).1 e
      rcases order_lt p k' s hk with h | ⟨h, h'⟩
      · exact .inl h
      · exact .inr ⟨h, h'⟩
    · intro h
      refine ⟨k, ?_, rfl⟩
      by_contra hk
      rcases (not_lt.mp hk).lt_or_eq with hk | hk
      · rcases order_lt p s k hk with h' | ⟨h', h''⟩
        · rcases h with h | ⟨h, _⟩
          · exact lt_asymm h h'
          · exact h'.ne h
        · rcases h with h | ⟨_, h⟩
          · exact h.ne h'
          · exact lt_asymm h h''
      · rw [← hk] at h
        rcases h with h | ⟨_, h⟩
        · exact lt_irrefl _ h
        · exact lt_irrefl _ h
  have h3 := congrArg Finset.card h2
  rw [Finset.card_image_of_injective _ (order_bijective p).1, h1, Finset.card_union_of_disjoint] at h3
  · exact h3.symm
  · rw [Finset.disjoint_left]
    intro i hi hi'
    simp only [Finset.mem_filter, Finset.mem_univ, true_and] at hi hi'
    exact hi.ne hi'.1.symm

/-- Of two equals the later has more equals before it. -/
theorem tiesBefore_lt (v : EReal) (i j : Fin n) (hi : p i = v) (h : i < j) : tiesBefore p v i.val < tiesBefore p v j.val := by
  refine Finset.card_lt_card (Finset.ssubset_iff_of_subset (fun k hk => ?_) |>.mpr ⟨i, ?_, ?_⟩)
  · simp only [Finset.mem_filter, Finset.mem_univ, true_and] at hk ⊢
    exact ⟨hk.1, hk.2.trans h⟩
  · simp only [Finset.mem_filter, Finset.mem_univ, true_and]
    exact ⟨hi, h⟩
  · simp

/-- The element is the only one of its value with so many equals before it. -/
theorem find (s i : Fin n) (hi : p i = p (order p s)) (h : above p (p (order p s)) + tiesBefore p (p (order p s)) i.val = s.val) : i = order p s := by
  have hp := place p s
  rcases lt_trichotomy i (order p s) with h' | h' | h'
  · have := tiesBefore_lt p _ i _ hi h'; omega
  · exact h'
  · have := tiesBefore_lt p (p (order p s)) (order p s) i rfl h'; omega

/-- The elements greater than `v` are as many in any order. -/
theorem above_comp (τ : Fin n → Fin n) (hτ : Function.Bijective τ) (v : EReal) : above (p ∘ τ) v = above p v := by
  unfold above
  refine Finset.card_bij (fun k _ => τ k) (fun k hk => ?_) (fun a _ b _ e => hτ.1 e) (fun b hb => ?_)
  · simp only [Finset.mem_filter, Finset.mem_univ, true_and, Function.comp_apply] at hk ⊢; exact hk
  · obtain ⟨a, rfl⟩ := hτ.2 b
    exact ⟨a, by simp only [Finset.mem_filter, Finset.mem_univ, true_and, Function.comp_apply] at hb ⊢; exact hb, rfl⟩

end Order

end Cert.Search

end
-- ==== Proof.K3Ref.lean ====
/- The sampling reference read at an index. -/
module

public import proofs.«01_k».proof.Proof.K2Ref
public import proofs.«01_k».proof.Proof.Search
public import proofs.«01_k».proof.Proof.Gen.Reference3Ideal.Run
public import Idealize.ShloMosaic.Lib.Routing.Ops
public import Idealize.ShloMosaic.Lib.IndicatorCount
public import Idealize.ShloMosaic.Lib.Quiescent

@[expose] public section

noncomputable section

namespace Cert.Search

open Idealize.ShloMosaic

/-- How many of the places are marked. -/
def count {n : ℕ} (P : Fin n → Prop) [DecidablePred P] : ℕ := (Finset.univ.filter P).card

/-- How many of the sums are below the mark, kept inside the row. -/
def sel {n : ℕ} (hn : 0 < n) (c : Fin n → EReal) (u : EReal) : Fin n := ⟨min (count fun k => c k < u) (n - 1), by omega⟩

theorem count_le {n : ℕ} (P : Fin n → Prop) [DecidablePred P] : count P ≤ n := by
  have := Finset.card_filter_le (Finset.univ : Finset (Fin n)) P
  simpa [count] using this

theorem ofBool_eq_one (p : Prop) [Decidable p] : BitVec.ofBool (decide p) = 1#1 ↔ p := by
  by_cases h : p <;> simp [h]

/-- The fold of the marks as words is their count. -/
theorem fold_count {n : ℕ} (P : Fin n → Prop) [DecidablePred P] :
    Finset.univ.fold IntOp.addi (0#32) (fun k => (BitVec.ofBool (decide (P k))).setWidth 32) = BitVec.ofNat 32 (count P) := by
  rw [IndicatorCount.fold_addi_setWidth_eq_card]
  unfold count
  congr 2
  exact Finset.filter_congr fun k _ => ofBool_eq_one (P k)

end Cert.Search

namespace Cert.Reference3Ideal.Hand

open Idealize.ShloMosaic Idealize.ShloMosaic.Routing Idealize.ShloMosaic.TcCoe Idealize.ShloMosaic.Tactic
open Cert.Reference3Ideal.Gen Cert.Search
open Cert.Reference2Ideal.Hand (ext cumsum_add_at lit0)

/-- A row of an array. -/
def row (x : FVec Ideal S64x100000 .f32) (r : Fin 64) (j : Fin 100000) : EReal := x (ix2 r j)

theorem canon (x : Ideal .f32) : Scalar.select (FloatOps.cmpf .une x x) (FloatOps.ofBits .f32 0x7FC00000#32)
    (Scalar.select (FloatOps.cmpf .oeq x (FloatOps.ofBits .f32 0x00000000#32)) (FloatOps.ofBits .f32 0x00000000#32) x) = x := by
  have h1 : FloatOps.cmpf .une x x = 0#1 := by
    show BitVec.ofBool (decide ¬ (x = x)) = 0#1
    simp
  rw [h1]
  show Scalar.select (BitVec.ofBool (decide (x = (Ideal.ofBits .f32 0x00000000#32 : EReal)))) (Ideal.ofBits .f32 0x00000000#32 : EReal) x = x
  by_cases h : x = (Ideal.ofBits .f32 0x00000000#32 : EReal)
  · rw [← h]; exact ite_self _
  · rw [decide_eq_false h]; rfl

/-- The sort's comparison is the order of the keys. -/
theorem comparator_eq (a b : Ideal .f32) (i j : BitVec 32) : (comparator_f32_i32_d1 (F := Ideal) (a, i) (b, j) == 1#1) = decide ((a : EReal) < b) := by
  unfold comparator_f32_i32_d1
  dsimp only
  rw [canon, canon]
  show (BitVec.ofBool (decide ((a : EReal) < b)) == 1#1) = _
  by_cases h : (a : EReal) < b <;> simp [h]

/-- The positions of each row's elements, the greatest first. -/
def argArr (x : FVec Ideal S64x100000 .f32) : IVec S64x100000 32 :=
  (Host.sort2 S64x100000 1 comparator_f32_i32_d1 (Host.negf x) (iotaInDim S64x100000 32 1)).2

/-- Sorting negated keys along the rows with the places beside them leaves the places in descending order of the keys. -/
theorem sort_places {R N : ℕ} (cmp : Ideal .f32 × BitVec 32 → Ideal .f32 × BitVec 32 → BitVec 1)
    (hcmp : ∀ a b i j, (cmp (a, i) (b, j) == 1#1) = decide ((a : EReal) < b)) (x : FVec Ideal (shape2 R N) .f32) (r : Fin R) (j : Fin N) :
    (Host.sort2 (shape2 R N) 1 cmp (Host.negf x) (iotaInDim (shape2 R N) 32 1)).2 (ix2 r j) = BitVec.ofNat 32 (order (fun k : Fin N => (x (ix2 r k) : EReal)) j).val := by
  have ha : ∀ k : Fin N, (ix2 r j : (shape2 R N).Idx).along 1 k = ix2 r k := fun k => by
    funext a
    match a with
    | ⟨0, _⟩ => rfl
    | ⟨1, _⟩ => rfl
  have hc : (fun k k' : Fin N => cmp
      (Host.negf x ((ix2 r j : (shape2 R N).Idx).along 1 k), iotaInDim (shape2 R N) 32 1 ((ix2 r j : (shape2 R N).Idx).along 1 k))
      (Host.negf x ((ix2 r j : (shape2 R N).Idx).along 1 k'), iotaInDim (shape2 R N) 32 1 ((ix2 r j : (shape2 R N).Idx).along 1 k')) == 1#1)
      = greater (fun k : Fin N => (x (ix2 r k) : EReal)) := by
    funext k k'
    rw [hcmp, ha, ha]
    unfold greater
    exact decide_eq_decide.mpr (EReal.neg_lt_neg_iff (a := (x (ix2 r k) : EReal)) (b := (x (ix2 r k') : EReal)))
  unfold Host.sort2 order
  dsimp only
  rw [← hc]
  rfl

theorem argArr_at (x : FVec Ideal S64x100000 .f32) (r : Fin 64) (j : Fin 100000) :
    argArr x (ix2 r j) = BitVec.ofNat 32 (order (row x r) j).val := by
  unfold argArr
  exact sort_places _ comparator_eq x r j

/-- A column along every row. -/
def colArr (y : FVec Ideal S64 .f32) : FVec Ideal S64x100000 .f32 :=
  broadcastInDim S64x100000 ![0, 1] bcast_S64x1_S64x100000_0_1 (broadcastInDim S64x1 ![0] bcast_S64_S64x1_0 y)

/-- Each row's sum. -/
def sumArr (y : FVec Ideal S64x100000 .f32) : FVec Ideal S64 .f32 :=
  Host.reduceAdd y (constant S_ .f32 0x00000000#32) reducesTo_S64x100000_S64_d1 h_S_

/-- The rows divided by a column. -/
def normArr (y z : FVec Ideal S64x100000 .f32) : FVec Ideal S64x100000 .f32 := Host.divf y z

/-- The prefix sums of each row. -/
def cumArr (x : FVec Ideal S64x100000 .f32) : FVec Ideal S64x100000 .f32 :=
  Host.reduceWindowAdd ![1, 100000] ![1, 1] ![0, 99999] ![0, 0] x (broadcastInDim S_ ![] bcast_S_S_ (constant S_ .f32 0x00000000#32)) reduceWindows_S64x100000_S64x100000_w1s1p0_0_w100000s1p99999_0 h_S_

/-- How many elements of each row are less than those of another array. -/
def cntArr (c z : FVec Ideal S64x100000 .f32) : IVec S64 32 :=
  Host.reduce IntOp.addi (extui 32 (cmpf .olt c z) natLt_1_32) (constantI S_ 32 0#32) reducesTo_S64x100000_S64_d1 h_S_

/-- The counts kept inside the row. -/
def clipArr (n : IVec S64 32) : IVec S64x1 32 :=
  minsi (broadcastInDim S64x1 ![] bcast_S_S64x1 (id (constantI S_ 32 99999#32)))
    (maxsi (broadcastInDim S64x1 ![] bcast_S_S64x1 (id (constantI S_ 32 0#32))) (broadcastInDim S64x1 ![0] bcast_S64_S64x1_0 n))

/-- Places counted from the row's end made places from its start. -/
def wrapArr (s : IVec S64x1 32) : IVec S64x1x1 32 :=
  shapeCast _ (select (cmpi .slt s (broadcastInDim S64x1 ![] bcast_S_S64x1 (constantI S_ 32 0#32)))
    (addi s (broadcastInDim S64x1 ![] bcast_S_S64x1 (constantI S_ 32 100000#32))) s) shapeCasts_S64x1_S64x1x1

/-- Where a place is inside the row. -/
def insideArr (w : IVec S64x1x1 32) : IVec S64x1 1 :=
  Host.reduce IntOp.andi (andi (cmpi .sge w (broadcastInDim S64x1x1 ![] bcast_S_S64x1x1 (constantI S_ 32 0#32)))
    (cmpi .sle w (broadcastInDim S64x1x1 ![0, 1, 2] bcast_S1x1x1_S64x1x1_0_1_2 (broadcastInDim S1x1x1 ![2] bcast_S1_S1x1x1_2 (constantI S1 32 99999#32)))))
    (constantI S_ 1 1#1) reducesTo_S64x1x1_S64x1_d2 h_S_

/-- Each row's element at a place. -/
def pickArr (x : IVec S64x100000 32) (w : IVec S64x1x1 32) : IVec S64x1 32 :=
  select (insideArr w) (Host.gather gather_S64x100000_S64x1x1_S64x1_n_1_0_0_1_2_11 x w) (broadcastInDim S64x1 ![] bcast_S_S64x1 (constantI S_ 32 2147483648#32))

/-- The reference's result. -/
def tokArr (p ps : FVec Ideal S64x100000 .f32) (u : FVec Ideal S64 .f32) : IVec S64x1 32 :=
  pickArr (argArr p) (wrapArr (clipArr (cntArr (cumArr (normArr ps (colArr (sumArr ps)))) (colArr u))))

theorem colArr_at (y : FVec Ideal S64 .f32) (r : Fin 64) (j : Fin 100000) : colArr y (ix2 r j) = y (ix1 r) := by
  pointwise [colArr]

theorem sumArr_at (y : FVec Ideal S64x100000 .f32) (r : Fin 64) : sumArr y (ix1 r) = ∑ j : Fin 100000, row y r j := by
  have h : sumArr y (ix1 r) = Ideal.ofBits .f32 0x00000000#32 + ∑ j : Fin 100000, y (ix2 r j) := by
    pointwise [sumArr]
  rw [h, lit0, zero_add]; rfl

theorem cumArr_at (x : FVec Ideal S64x100000 .f32) (r : Fin 64) (j : Fin 100000) :
    cumArr x (ix2 r j) = ∑ n ∈ Finset.range (j.val + 1), ext (row x r) n := by
  unfold cumArr
  exact cumsum_add_at (R := 64) (N := 100000) (M := 99999) (by norm_num) x _ (fun _ => lit0) _ _ r j

theorem cntArr_at (c z : FVec Ideal S64x100000 .f32) (r : Fin 64) :
    cntArr c z (ix1 r) = BitVec.ofNat 32 (count fun k : Fin 100000 => row c r k < row z r k) := by
  have h : cntArr c z (ix1 r) = Finset.univ.fold IntOp.addi (0#32) (fun k : Fin 100000 => (BitVec.ofBool (decide (row c r k < row z r k))).setWidth 32) := by
    unfold row
    pointwise [cntArr]
  rw [h, fold_count]

/-- A row's prefix sums of its elements divided by their total. -/
def cdf (ps : Fin 100000 → EReal) (j : Fin 100000) : EReal := ∑ n ∈ Finset.range (j.val + 1), ext (fun i => Ideal.div (ps i) (∑ k, ps k)) n

theorem toNat_small {n : ℕ} (h : n ≤ 100000) : (BitVec.ofNat 32 n).toInt = n := by
  rw [BitVec.toInt_eq_toNat_cond, BitVec.toNat_ofNat, Nat.mod_eq_of_lt (by omega), if_pos (by omega)]

theorem clipArr_at (n : IVec S64 32) (r : Fin 64) (k : ℕ) (hk : k ≤ 100000) (h : n (ix1 r) = BitVec.ofNat 32 k) :
    clipArr n (ix2 r 0) = BitVec.ofNat 32 (min k 99999) := by
  have e : clipArr n (ix2 r 0) = IntOp.minsi 99999#32 (IntOp.maxsi 0#32 (n (ix1 r))) := by
    pointwise [clipArr]
    rfl
  rw [e, h]
  have e2 : IntOp.maxsi 0#32 (BitVec.ofNat 32 k) = BitVec.ofNat 32 k := by
    unfold IntOp.maxsi
    rw [BitVec.slt_eq_decide, toNat_small hk]
    by_cases h0 : k = 0
    · subst h0; rfl
    · simp
  rw [e2]
  unfold IntOp.minsi
  rw [BitVec.slt_eq_decide, toNat_small hk, show (99999#32 : BitVec 32).toInt = 99999 by decide]
  by_cases hlt : 99999 < k
  · rw [if_pos (by simpa using (by omega : (99999 : ℤ) < k)), Nat.min_eq_right hlt.le]
  · rw [if_neg (by simpa using (by omega : (k : ℤ) ≤ 99999)), Nat.min_eq_left (by omega)]

theorem wrapArr_at (s : IVec S64x1 32) (r : Fin 64) (k : ℕ) (hk : k < 100000) (h : s (ix2 r 0) = BitVec.ofNat 32 k) :
    wrapArr s (ix3 r 0 0) = BitVec.ofNat 32 k := by
  have e : wrapArr s (ix3 r 0 0) = Scalar.select (IntOp.cmpi .slt (s (ix2 r 0)) 0#32) (IntOp.addi (s (ix2 r 0)) 100000#32) (s (ix2 r 0)) := by
    pointwise [wrapArr]
  rw [e, h]
  have e2 : IntOp.cmpi .slt (BitVec.ofNat 32 k) 0#32 = 0#1 := by
    show BitVec.ofBool (BitVec.slt _ _) = 0#1
    rw [BitVec.slt_eq_decide, toNat_small hk.le, show (0#32 : BitVec 32).toInt = 0 by decide, decide_eq_false (by omega)]
    rfl
  rw [e2]; rfl

end Cert.Reference3Ideal.Hand

end
-- ==== Proof.K3Pay.lean ====
/- The third kernel's vector expressions read at an index. -/
module

public import proofs.«01_k».proof.Proof.K3Defs
public import proofs.«01_k».proof.Proof.K1Value
public import proofs.«01_k».proof.Proof.K2Value
public import proofs.«01_k».proof.Proof.K3Ref

@[expose] public section

noncomputable section

namespace Cert.Kernel3Ideal.Hand

open Idealize.ShloMosaic
open Cert.Kernel3Ideal.Gen Cert.Wp Cert.Search
open Cert.KernelIdeal.Hand (sum_by_eights sum_sixteen sum_by_halves)

/-! ## Words -/

/-- The word of a place in a row: 128 times the column and the strip. -/
theorem word_at (c k : ℕ) : IntOp.addi (IntOp.muli (BitVec.ofNat 32 c) 128#32) (Scf.iv 0#32 1#32 k) = BitVec.ofNat 32 (128 * c + k) := by
  unfold IntOp.addi IntOp.muli Scf.iv
  rw [BitVec.mul_one, BitVec.zero_add, Nat.mul_comm, BitVec.ofNat_add, BitVec.ofNat_mul]

theorem toInt_small (n : ℕ) (hn : n < 2 ^ 31) : (BitVec.ofNat 32 n).toInt = n := by
  have e : (BitVec.ofNat 32 n).toNat = n := by rw [BitVec.toNat_ofNat]; exact Nat.mod_eq_of_lt (by omega)
  rw [BitVec.toInt_eq_toNat_of_lt (by rw [e]; omega), e]

theorem slt_word (n m : ℕ) (hn : n < 2 ^ 31) (hm : m < 2 ^ 31) : IntOp.cmpi .slt (BitVec.ofNat 32 n) (BitVec.ofNat 32 m) = BitVec.ofBool (decide (n < m)) := by
  show BitVec.ofBool ((BitVec.ofNat 32 n).slt (BitVec.ofNat 32 m)) = _
  rw [BitVec.slt, toInt_small n hn, toInt_small m hm]
  simp

theorem eq_word (n m : ℕ) (hn : n < 2 ^ 31) (hm : m < 2 ^ 31) : IntOp.cmpi .eq (BitVec.ofNat 32 n) (BitVec.ofNat 32 m) = BitVec.ofBool (decide (n = m)) := by
  show BitVec.ofBool (BitVec.ofNat 32 n == BitVec.ofNat 32 m) = _
  refine congrArg BitVec.ofBool ?_
  rw [Bool.eq_iff_iff, beq_iff_eq, decide_eq_true_iff]
  refine ⟨fun h => ?_, fun h => by rw [h]⟩
  have := congrArg BitVec.toInt h
  rw [toInt_small n hn, toInt_small m hm] at this
  exact_mod_cast this

theorem minsi_word (n m : ℕ) (hn : n < 2 ^ 31) (hm : m < 2 ^ 31) : IntOp.minsi (BitVec.ofNat 32 n) (BitVec.ofNat 32 m) = BitVec.ofNat 32 (min n m) := by
  unfold IntOp.minsi
  rw [BitVec.slt, toInt_small n hn, toInt_small m hm]
  by_cases h : n < m
  · simp [h, Nat.min_eq_left h.le]
  · simp [h, Nat.min_eq_right (Nat.le_of_not_lt h)]

theorem and_marks (p q : Prop) [Decidable p] [Decidable q] :
    IntOp.andi (BitVec.ofBool (decide p)) (BitVec.ofBool (decide q)) = BitVec.ofBool (decide (p ∧ q)) := by
  by_cases hp : p <;> by_cases hq : q <;> simp [hp, hq, IntOp.andi]

theorem select_mark {α : Type} (p : Prop) [Decidable p] (a b : α) : Scalar.select (BitVec.ofBool (decide p)) a b = if p then a else b := by
  by_cases hp : p <;> simp [hp, Scalar.select]

theorem mark_word (p : Prop) [Decidable p] : (if p then 1#32 else 0#32) = (BitVec.ofBool (decide p)).setWidth 32 := by
  by_cases hp : p <;> simp [hp]

/-! ## The row sums and the running sums -/

set_option maxRecDepth 16384 in
theorem pay13_at (acc : FVec Ideal S8x128 .f32) (v : Vec Ideal S8x1x128 .f32) (r : Fin 8) (l : Fin 128) :
    k0_pay13 acc v (ix2 r l) = acc (ix2 r l) + v (ix3 r 0 l) := by
  pointwise [k0_pay13]

set_option maxRecDepth 16384 in
theorem pay18_at (p q s : FVec Ideal S8x128 .f32) (r : Fin 8) (l : Fin 128) :
    k0_pay18 p q s (ix2 r l) = p (ix2 r l) + q (ix2 r l) + s (ix2 r l) := by
  pointwise [k0_pay18]

set_option maxRecDepth 16384 in
theorem pay21_at (p q s : FVec Ideal S8x128 .f32) (r : Fin 8) :
    k0_pay21 (k0_pay19 p q s) (k0_pay20 p q s) (ix2 r 0) = Ideal.div 1 (∑ l : Fin 128, k0_pay18 p q s (ix2 r l)) := by
  rw [sum_by_eights, sum_by_halves]
  simp only [sum_sixteen]
  pointwise [k0_pay21, k0_pay19, k0_pay20]

set_option maxRecDepth 16384 in
theorem pay22_at (v w : FVec Ideal S8x8 .f32) (st : Vec Ideal S8x1x784 .f32) (r : Fin 8) (c : Fin 784) :
    k0_pay22 v w st (ix3 r 0 c) = st (ix3 r 0 c) * k0_pay21 v w (ix2 r 0) := by
  pointwise [k0_pay22]

set_option maxRecDepth 16384 in
theorem pay23_at (v w : FVec Ideal S8x8 .f32) (prev st : Vec Ideal S8x1x784 .f32) (r : Fin 8) (c : Fin 784) :
    k0_pay23 v w prev st (ix3 r 0 c) = prev (ix3 r 0 c) + st (ix3 r 0 c) * k0_pay21 v w (ix2 r 0) := by
  pointwise [k0_pay23]

set_option maxRecDepth 16384 in
theorem pay24_at (v : Vec Ideal S8x1x784 .f32) (r : Fin 8) (n : Fin 896) : k0_pay24 v (ix2 r n) = if h : n.val < 784 then v (ix3 r 0 ⟨n.val, h⟩) else 0 := by
  pointwise [k0_pay24]

/-! ## The counts and the searched entry -/

/-- A strip's count, where the seven pieces of the columns' prefix sums are `C` put in a row. -/
theorem pay1855_at (w1 w2 w3 w4 w5 : FVec Ideal S8x1 .f32) (u1 u2 : FVec Ideal S8x128 .f32) (u3 u4 u5 u6 u7 : Vec Ideal S8x128 .f32) (u : Vec Ideal S8x1 .f32)
    (k : Fin k0_t5_loop.trips) (acc : IVec S8x1 32) (st : Vec Ideal S8x1x784 .f32) (r : Fin 8) (C : ℕ → EReal)
    (h0 : C 0 = 0) (h1 : ∀ l : Fin 128, u1 (ix2 r l) = C (l.val + 1)) (h2 : ∀ l : Fin 128, u2 (ix2 r l) = C (128 + l.val + 1))
    (h3 : ∀ l : Fin 128, u3 (ix2 r l) + w1 (ix2 r 0) = C (256 + l.val + 1)) (h4 : ∀ l : Fin 128, u4 (ix2 r l) + w2 (ix2 r 0) = C (384 + l.val + 1))
    (h5 : ∀ l : Fin 128, u5 (ix2 r l) + w3 (ix2 r 0) = C (512 + l.val + 1))
    (h6 : ∀ l : Fin 128, u6 (ix2 r l) + w4 (ix2 r 0) = C (640 + l.val + 1)) (h7 : ∀ l : Fin 128, u7 (ix2 r l) + w5 (ix2 r 0) = C (768 + l.val + 1)) :
    k0_pay1855 w1 w2 w3 w4 w5 u1 u2 u3 u4 u5 u6 u7 u k acc st (ix2 r 0)
      = acc (ix2 r 0) + BitVec.ofNat 32 (count fun c : Fin 784 => st (ix3 r 0 c) + C c.val < u (ix2 r 0) ∧ 128 * c.val + k.val < 100000) := by
  have hk : k.val < 128 := lt_of_lt_of_eq k.isLt trips5
  pointwise [k0_pay1855]
  refine congrArg (IntOp.addi (acc (ix2 r 0))) ?_
  rw [← fold_count]
  refine Finset.fold_congr fun c _ => ?_
  have hc := c.isLt
  rw [word_at, slt_word _ _ (by omega) (by omega), and_marks, select_mark, mark_word]
  have e : ∀ {a b : EReal}, a = b → (BitVec.ofBool (decide (st (ix3 r 0 c) + a < u (ix2 r 0) ∧ 128 * c.val + k.val < 100000))).setWidth 32
      = (BitVec.ofBool (decide (st (ix3 r 0 c) + b < u (ix2 r 0) ∧ 128 * c.val + k.val < 100000))).setWidth 32 := fun h => by rw [h]
  refine e ?_
  simp only [h1, h2, h3, h4, h5, h6, h7]
  split_ifs
  · rw [show c.val = 0 by omega, h0]
  all_goals exact congrArg C (by omega)

set_option maxRecDepth 16384 in
theorem lane0_at (u : Vec Ideal S8x128 .f32) (r : Fin 8) (l : Fin 128) : k0_pay1852 u (ix2 r l) = u (ix2 r l) := by
  pointwise [k0_pay1852, k0_pay1845]

set_option maxRecDepth 16384 in
theorem lane1_at (w1 : Vec Ideal S8x1 .f32) (u : Vec Ideal S8x128 .f32) (r : Fin 8) (l : Fin 128) : k0_pay1853 w1 u (ix2 r l) = u (ix2 r l) + w1 (ix2 r 0) := by
  pointwise [k0_pay1853, k0_pay1846, k0_pay1845]

set_option maxRecDepth 16384 in
theorem carry2_at (w1 w2 : Vec Ideal S8x1 .f32) (r : Fin 8) : k0_pay1847 w1 w2 (ix2 r 0) = w1 (ix2 r 0) + w2 (ix2 r 0) := by
  pointwise [k0_pay1847, k0_pay1846, k0_pay1845]

set_option maxRecDepth 16384 in
theorem carry3_at (w1 w2 w3 : Vec Ideal S8x1 .f32) (r : Fin 8) : k0_pay1848 w1 w2 w3 (ix2 r 0) = k0_pay1847 w1 w2 (ix2 r 0) + w3 (ix2 r 0) := by
  pointwise [k0_pay1848]

set_option maxRecDepth 16384 in
theorem carry4_at (w1 w2 w3 w4 : Vec Ideal S8x1 .f32) (r : Fin 8) : k0_pay1849 w1 w2 w3 w4 (ix2 r 0) = k0_pay1848 w1 w2 w3 (ix2 r 0) + w4 (ix2 r 0) := by
  pointwise [k0_pay1849]

set_option maxRecDepth 16384 in
theorem carry5_at (w1 w2 w3 w4 w5 : Vec Ideal S8x1 .f32) (r : Fin 8) :
    k0_pay1850 w1 w2 w3 w4 w5 (ix2 r 0) = k0_pay1849 w1 w2 w3 w4 (ix2 r 0) + w5 (ix2 r 0) := by
  pointwise [k0_pay1850]

set_option maxRecDepth 16384 in
theorem carry6_at (w1 w2 w3 w4 w5 w6 : Vec Ideal S8x1 .f32) (r : Fin 8) :
    k0_pay1851 w1 w2 w3 w4 w5 w6 (ix2 r 0) = k0_pay1850 w1 w2 w3 w4 w5 (ix2 r 0) + w6 (ix2 r 0) := by
  pointwise [k0_pay1851]

set_option maxRecDepth 16384 in
theorem pay1856_at (n : IVec S8x1 32) (r : Fin 8) : k0_pay1856 n (ix2 r 0) = IntOp.minsi (n (ix2 r 0)) 99999#32 := by
  pointwise [k0_pay1856]

theorem litMinusOne : Ideal.ofBits .f32 0xBF800000#32 = ((-1 : ℝ) : EReal) := by
  simp [Ideal.ofBits, Ideal.ieee, -EReal.coe_mul]; norm_num

set_option maxRecDepth 16384 in
theorem pay1858_at (n : IVec S8x1 32) (k : Fin k0_t6_loop.trips) (acc : FVec Ideal S8x1 .f32) (st : Vec Ideal S8x1x784 .f32) (r : Fin 8) (m : ℕ) (hm : m < 2 ^ 31)
    (hn : k0_pay1856 n (ix2 r 0) = BitVec.ofNat 32 m) :
    k0_pay1858 n k acc st (ix2 r 0)
      = max (acc (ix2 r 0)) (Finset.univ.fold max (⊥ : EReal) fun c : Fin 784 => if 128 * c.val + k.val = m then st (ix3 r 0 c) else ((-1 : ℝ) : EReal)) := by
  have hk : k.val < 128 := lt_of_lt_of_eq k.isLt trips6
  rw [← litMinusOne, ← Cert.KernelIdeal.Hand.litNegInf]
  pointwise [k0_pay1858]
  refine congrArg (max (acc (ix2 r 0))) (Finset.fold_congr fun c _ => ?_)
  have hc := c.isLt
  rw [word_at, hn, eq_word _ _ (by omega) hm, select_mark]

set_option maxRecDepth 16384 in
theorem pay1860_at (v : FVec Ideal S8x1 .f32) (k : Fin k0_t7_loop.trips) (acc : IVec S8x1 32) (st : Vec Ideal S8x1x784 .f32) (r : Fin 8) :
    k0_pay1860 v k acc st (ix2 r 0)
      = acc (ix2 r 0) + BitVec.ofNat 32 (count fun c : Fin 784 => v (ix2 r 0) < st (ix3 r 0 c) ∧ 128 * c.val + k.val < 100000) := by
  have hk : k.val < 128 := lt_of_lt_of_eq k.isLt trips7
  pointwise [k0_pay1860]
  refine congrArg (IntOp.addi (acc (ix2 r 0))) ?_
  rw [← fold_count]
  refine Finset.fold_congr fun c _ => ?_
  have hc := c.isLt
  rw [word_at, slt_word _ _ (by omega) (by omega)]
  exact (congrArg (fun b => Scalar.select b 1#32 0#32) (and_marks _ _)).trans ((select_mark _ _ _).trans (mark_word _))

set_option maxRecDepth 16384 in
theorem pay1_at (a b : IVec S8x1 32) (r : Fin 8) : k0_pay1 a b (ix2 r 0) = a (ix2 r 0) - b (ix2 r 0) := by
  pointwise [k0_pay1]
  rfl

/-! ## The search for the wanted tie -/

/-- The sum of the last `w` terms up to place `l`. -/
def window (m : ℕ → ℕ) (w l : ℕ) : ℕ := ∑ i ∈ Finset.range w, if i ≤ l then m (l - i) else 0

theorem window_double (m : ℕ → ℕ) (w l : ℕ) : window m (w + w) l = window m w l + if l < w then 0 else window m w (l - w) := by
  unfold window
  rw [Finset.sum_range_add]
  refine congrArg (_ + ·) ?_
  split_ifs with h
  · exact Finset.sum_eq_zero fun i _ => if_neg (by omega)
  · refine Finset.sum_congr rfl fun i _ => ?_
    by_cases hi : w + i ≤ l
    · rw [if_pos hi, if_pos (by omega)]; exact congrArg m (by omega)
    · rw [if_neg hi, if_neg (by omega)]

theorem window_all (m : ℕ → ℕ) (w l : ℕ) (h : l < w) : window m w l = ∑ i ∈ Finset.range (l + 1), m i := by
  unfold window
  have e : w = (l + 1) + (w - (l + 1)) := by omega
  rw [e, Finset.sum_range_add]
  have z : (∑ x ∈ Finset.range (w - (l + 1)), if l + 1 + x ≤ l then m (l - (l + 1 + x)) else 0) = 0 := Finset.sum_eq_zero fun i _ => if_neg (by omega)
  rw [z, Nat.add_zero, ← Finset.sum_range_reflect m (l + 1)]
  refine Finset.sum_congr rfl fun i hi => ?_
  have := Finset.mem_range.mp hi
  rw [if_pos (by omega)]
  exact congrArg m (by omega)

/-- A shift by `w` lanes and an addition double the windows. -/
theorem double {w v : ℕ} (m : ℕ → ℕ) (r : Fin 8) (x : IVec S8x128 32) (hs : S8x128.Slices ![0, 0] ⟨2, ![8, v]⟩)
    (hc : Shape.Concatenates [⟨2, ![8, w]⟩, ⟨2, ![8, v]⟩] S8x128 1) (hx : ∀ l : Fin 128, x (ix2 r l) = BitVec.ofNat 32 (window m w l.val)) (l : Fin 128) :
    (addi x (concatenate S8x128 1 [⟨⟨2, ![8, w]⟩, broadcast ⟨2, ![8, w]⟩ 0#32⟩, ⟨⟨2, ![8, v]⟩, extractStridedSlice ⟨2, ![8, v]⟩ ![0, 0] x hs⟩] hc)) (ix2 r l)
      = BitVec.ofNat 32 (window m (w + w) l.val) := by
  rw [window_double, BitVec.ofNat_add, ← hx l]
  pointwise []
  refine congrArg (x (ix2 r l) + ·) ?_
  split_ifs with h
  · rfl
  · exact hx ⟨l.val - w, by omega⟩

set_option maxRecDepth 16384 in
theorem pay9_at (v : FVec Ideal S8x1 .f32) (k : Fin k0_t8_loop.trips) (st : Vec Ideal S8x1x128 .f32) (r : Fin 8) (m : ℕ → ℕ)
    (hm : ∀ l : Fin 128, k0_pay8 v lane 0#32 1#32 k st (ix2 r l) = BitVec.ofNat 32 (m l.val)) (l : Fin 128) :
    k0_pay9 v lane 0#32 1#32 k st (ix2 r l) = BitVec.ofNat 32 (∑ i ∈ Finset.range (l.val + 1), m i) := by
  rw [← window_all m 128 l.val l.isLt]
  unfold k0_pay9
  refine double (w := 64) m r _ _ _ (double (w := 32) m r _ _ _ (double (w := 16) m r _ _ _ (double (w := 8) m r _ _ _
    (double (w := 4) m r _ _ _ (double (w := 2) m r _ _ _ (double (w := 1) m r _ _ _ fun l => ?_)))))) l
  rw [hm l]
  refine congrArg _ ?_
  unfold window
  rw [Finset.sum_range_one, if_pos (Nat.zero_le _), Nat.sub_zero]

set_option maxRecDepth 16384 in
theorem pay6_at (k : Fin k0_t8_loop.trips) (r : Fin 8) (l : Fin 128) : k0_pay6 lane 0#32 1#32 k (ix2 r l) = BitVec.ofNat 32 (128 * k.val + l.val) := by
  have e : IntOp.addi (IntOp.muli (Scf.iv 0#32 1#32 k.val) 128#32) (BitVec.ofNat 32 l.val) = BitVec.ofNat 32 (128 * k.val + l.val) := by
    unfold IntOp.addi IntOp.muli Scf.iv
    rw [BitVec.mul_one, BitVec.zero_add, Nat.mul_comm, BitVec.ofNat_add, BitVec.ofNat_mul]
  refine Eq.trans ?_ e
  pointwise [k0_pay6, lane]
  rfl

set_option maxRecDepth 16384 in
theorem pay7_at (v : FVec Ideal S8x1 .f32) (k : Fin k0_t8_loop.trips) (st : Vec Ideal S8x1x128 .f32) (r : Fin 8) (l : Fin 128) :
    k0_pay7 v lane 0#32 1#32 k st (ix2 r l) = BitVec.ofBool (decide (st (ix3 r 0 l) = v (ix2 r 0) ∧ 128 * k.val + l.val < 100000)) := by
  have hk : k.val < 784 := lt_of_lt_of_eq k.isLt trips8
  have hl := l.isLt
  have e : IntOp.cmpi .slt (k0_pay6 lane 0#32 1#32 k (ix2 r l)) 100000#32 = BitVec.ofBool (decide (128 * k.val + l.val < 100000)) := by
    rw [pay6_at]; exact slt_word _ _ (by omega) (by omega)
  refine Eq.trans ?_ (and_marks _ _)
  rw [← e]
  pointwise [k0_pay7]

set_option maxRecDepth 16384 in
theorem pay8_at (v : FVec Ideal S8x1 .f32) (k : Fin k0_t8_loop.trips) (st : Vec Ideal S8x1x128 .f32) (r : Fin 8) (l : Fin 128) :
    k0_pay8 v lane 0#32 1#32 k st (ix2 r l) = BitVec.ofNat 32 (if st (ix3 r 0 l) = v (ix2 r 0) ∧ 128 * k.val + l.val < 100000 then 1 else 0) := by
  have e : k0_pay8 v lane 0#32 1#32 k st (ix2 r l) = Scalar.select (k0_pay7 v lane 0#32 1#32 k st (ix2 r l)) 1#32 0#32 := by
    pointwise [k0_pay8]
  rw [e, pay7_at, select_mark]
  split_ifs <;> rfl

set_option maxRecDepth 16384 in
theorem pay10_at (v : FVec Ideal S8x1 .f32) (k : Fin k0_t8_loop.trips) (a : IVec S8x1 32) (st : Vec Ideal S8x1x128 .f32) (r : Fin 8) (l : Fin 128) :
    k0_pay10 v lane 0#32 1#32 k a st (ix2 r l) = a (ix2 r 0) + k0_pay9 v lane 0#32 1#32 k st (ix2 r l) - k0_pay8 v lane 0#32 1#32 k st (ix2 r l) := by
  pointwise [k0_pay10]
  rfl

set_option maxRecDepth 16384 in
theorem pay11_at (a : IVec S8x1 32) (r : Fin 8) (l : Fin 128) : k0_pay11 a (ix2 r l) = a (ix2 r 0) := by
  pointwise [k0_pay11]

set_option maxRecDepth 16384 in
theorem pay5_at (a : IVec S8x1 32) (b : IVec S8x128 32) (r : Fin 8) : k0_pay5 a b (ix2 r 0) = a (ix2 r 0) + b (ix2 r ⟨127, by decide⟩) := by
  pointwise [k0_pay5]
  rfl

set_option maxRecDepth 16384 in
theorem pay4_at (a : IVec S8x1 32) (f : IVec S8x128 32) (m : IVec S8x128 1) (e w : IVec S8x128 32) (r : Fin 8) :
    k0_pay4 a f m e w (ix2 r 0) = IntOp.minsi (a (ix2 r 0)) (Finset.univ.fold IntOp.minsi (2147483647#32) fun l : Fin 128 =>
      Scalar.select (IntOp.andi (m (ix2 r l)) (IntOp.cmpi .eq (e (ix2 r l)) (w (ix2 r l)))) (f (ix2 r l)) 1073741824#32) := by
  pointwise [k0_pay4]

end Cert.Kernel3Ideal.Hand

end
-- ==== Proof.K3Value.lean ====
/- The third kernel's block function over the extended reals: the token of a row is the entry at the sampled place of its
   stable descending order. -/
module

public import proofs.«01_k».proof.Proof.K3Pay

@[expose] public section

noncomputable section

namespace Cert.Kernel3Ideal.Hand

open Idealize.ShloMosaic
open Cert.Kernel3Ideal.Gen Cert.Wp Cert.Search
open Cert.Kernel2Ideal.Hand (colAt before before_add before_next lanes_at)
open Cert.Reference2Ideal.Hand (ext)
open Cert.Reference3Ideal.Hand (cdf)

/-! ## A row laid out in strips and columns -/

/-- A sum over a row by columns of 128 is its sum by places. -/
theorem sum_grid {M : Type} [AddCommMonoid M] (f : ℕ → M) (C : ℕ) : ∑ c ∈ Finset.range C, ∑ k ∈ Finset.range 128, f (128 * c + k) = ∑ n ∈ Finset.range (128 * C), f n := by
  induction C with
  | zero => rfl
  | succ C ih => rw [Finset.sum_range_succ, ih, Nat.mul_add, Finset.sum_range_add]

theorem sum_strips {M : Type} [AddCommMonoid M] (f : ℕ → M) : ∑ k ∈ Finset.range 128, ∑ c ∈ Finset.range 784, f (128 * c + k) = ∑ n ∈ Finset.range 100352, f n := by
  rw [Finset.sum_comm]; exact sum_grid f 784

/-- A sum of a row with zeros behind is the row's sum. -/
theorem sum_short {M : Type} [AddCommMonoid M] (f : ℕ → M) (hf : ∀ n, 100000 ≤ n → f n = 0) : ∑ n ∈ Finset.range 100352, f n = ∑ n : Fin 100000, f n.val := by
  rw [Fin.sum_univ_eq_sum_range]
  refine (Finset.sum_subset (Finset.range_subset_range.mpr (by norm_num)) fun n _ hn => hf n ?_).symm
  exact Nat.le_of_not_lt fun h => hn (Finset.mem_range.mpr h)

theorem sum_ext (g : Fin 100000 → EReal) : ∑ n ∈ Finset.range 100352, ext g n = ∑ n, g n := by
  rw [sum_short (ext g) fun n hn => dif_neg (by omega)]
  exact Finset.sum_congr rfl fun n _ => dif_pos n.isLt

theorem count_sum {n : ℕ} (P : Fin n → Prop) [DecidablePred P] : count P = ∑ k : Fin n, if P k then 1 else 0 := by
  unfold Cert.Search.count; rw [Finset.card_filter]

/-- Counting strip by strip counts the row. -/
theorem count_grid (Q : ℕ → Prop) [DecidablePred Q] :
    ∑ k ∈ Finset.range 128, count (fun c : Fin 784 => Q (128 * c.val + k) ∧ 128 * c.val + k < 100000) = count fun n : Fin 100000 => Q n.val := by
  have h : ∀ k, count (fun c : Fin 784 => Q (128 * c.val + k) ∧ 128 * c.val + k < 100000)
      = ∑ c ∈ Finset.range 784, if Q (128 * c + k) ∧ 128 * c + k < 100000 then 1 else 0 := fun k => by
    rw [count_sum, Fin.sum_univ_eq_sum_range (fun c => if Q (128 * c + k) ∧ 128 * c + k < 100000 then 1 else 0) 784]
  rw [Finset.sum_congr rfl fun k _ => h k, sum_strips (fun n => if Q n ∧ n < 100000 then 1 else 0),
    sum_short _ fun n hn => if_neg fun h => by omega, count_sum]
  refine Finset.sum_congr rfl fun n _ => ?_
  have := n.isLt
  by_cases hq : Q n.val
  · rw [if_pos ⟨hq, this⟩, if_pos hq]
  · rw [if_neg fun h => hq h.1, if_neg hq]

/-! ## One row of the kernel -/

section row

variable (r : Fin 8)

theorem strip_wide (x : Vec Ideal S8x784x128 .f32) (g : Fin 100000 → EReal) (hx : ∀ (c : Fin 784) (s : Fin 128), x (ix3 r c s) = ext g (128 * c.val + s.val))
    (k : ℕ) (hk : k < 784) (l : Fin 128) : strip (by decide) x k (ix3 r 0 l) = ext g (128 * k + l.val) := by
  rw [← hx ⟨k, hk⟩ l]
  unfold strip
  refine congrArg x ?_
  have : (⟨k % 784, Nat.mod_lt _ (by decide)⟩ : Fin 784) = ⟨k, hk⟩ := Fin.ext (Nat.mod_eq_of_lt hk)
  rw [← this]; rfl

theorem strip_tall (x : Vec Ideal S8x128x784 .f32) (g : Fin 100000 → EReal) (hx : ∀ (s : Fin 128) (c : Fin 784), x (ix3 r s c) = ext g (128 * c.val + s.val))
    (k : ℕ) (hk : k < 128) (c : Fin 784) : strip (by decide) x k (ix3 r 0 c) = ext g (128 * c.val + k) := by
  rw [← hx ⟨k, hk⟩ c]
  unfold strip
  refine congrArg x ?_
  have : (⟨k % 128, Nat.mod_lt _ (by decide)⟩ : Fin 128) = ⟨k, hk⟩ := Fin.ext (Nat.mod_eq_of_lt hk)
  rw [← this]; rfl

theorem stripSum_at (e : Vec Ideal S8x784x128 .f32) (a : ℕ) (l : Fin 128) (n : ℕ) :
    stripSum e a n (ix2 r l) = ∑ j ∈ Finset.range n, strip (by decide) e (a + j) (ix3 r 0 l) := by
  induction n with
  | zero => exact Ideal.ofBits_zero_f32
  | succ n ih => rw [stripSum, pay13_at, ih, Finset.sum_range_succ]

theorem sum_thirds (f : ℕ → EReal) : ∑ j ∈ Finset.range 784, f j = ∑ j ∈ Finset.range 261, f (0 + j) + ∑ j ∈ Finset.range 261, f (261 + j) + ∑ j ∈ Finset.range 262, f (522 + j) := by
  rw [show 784 = 261 + 261 + 262 from rfl, Finset.sum_range_add, Finset.sum_range_add]
  simp only [Nat.zero_add, Nat.reduceAdd]

/-- The reciprocal of the row's total. -/
theorem recip_at (e : Vec Ideal S8x784x128 .f32) (g : Fin 100000 → EReal) (hx : ∀ (c : Fin 784) (s : Fin 128), e (ix3 r c s) = ext g (128 * c.val + s.val)) :
    k0_pay21 (laneA e) (laneB e) (ix2 r 0) = Ideal.div 1 (∑ k, g k) := by
  unfold laneA laneB
  rw [pay21_at]
  refine congrArg (Ideal.div 1) ?_
  rw [← sum_ext, ← sum_strips, ← Fin.sum_univ_eq_sum_range (fun k => ∑ c ∈ Finset.range 784, ext g (128 * c + k)) 128]
  refine Finset.sum_congr rfl fun l _ => ?_
  rw [pay18_at, stripSum_at, stripSum_at, stripSum_at, ← Finset.sum_congr rfl fun c hc => strip_wide r e g hx c (Finset.mem_range.mp hc) l,
    sum_thirds fun c => strip (by decide) e c (ix3 r 0 l)]

/-- The scaled elements. -/
def scaled (g : Fin 100000 → EReal) (n : ℕ) : EReal := ext g n * Ideal.div 1 (∑ k, g k)

theorem cdf_eq (g : Fin 100000 → EReal) (hg : (∑ k, g k) ≠ 0) (j : Fin 100000) : ∑ n ∈ Finset.range (j.val + 1), scaled g n = cdf g j := by
  refine Finset.sum_congr rfl fun n hn => ?_
  have := Finset.mem_range.mp hn
  have hj := j.isLt
  unfold scaled ext
  rw [dif_pos (by omega), dif_pos (by omega), Cert.KernelIdeal.Hand.mul_recip _ _ hg]

section sums

variable (v w : FVec Ideal S8x8 .f32) (x : Vec Ideal S8x128x784 .f32) (g : Fin 100000 → EReal)
  (hr : k0_pay21 v w (ix2 r 0) = Ideal.div 1 (∑ k, g k)) (hx : ∀ (s : Fin 128) (c : Fin 784), x (ix3 r s c) = ext g (128 * c.val + s.val))

include hr hx

theorem pre_at (c : Fin 784) (k : ℕ) (hk : k < 128) : pre v w x k (ix3 r 0 c) = ∑ s ∈ Finset.range (k + 1), scaled g (128 * c.val + s) := by
  induction k with
  | zero => rw [Finset.sum_range_one, pre, pay22_at, strip_tall r x g hx 0 hk, hr]; rfl
  | succ k ih => rw [pre, pay23_at, ih (by omega), strip_tall r x g hx (k + 1) hk, hr, Finset.sum_range_succ _ (k + 1)]; rfl

theorem tot_at (n : ℕ) (hn : n < 784) : colAt (tot v w x) r n = ∑ s ∈ Finset.range 128, scaled g (128 * n + s) := by
  have e : colAt (tot v w x) r n = tot v w x (ix2 r ⟨n, by omega⟩) := by
    unfold colAt
    have : (⟨n % 896, Nat.mod_lt _ (by decide)⟩ : Fin 896) = ⟨n, by omega⟩ := Fin.ext (Nat.mod_eq_of_lt (by omega))
    rw [this]
  rw [e, tot, pay24_at, dif_pos hn]
  exact pre_at r v w x g hr hx ⟨n, hn⟩ 127 (by decide)

theorem before_at (n : ℕ) (hn : n ≤ 784) : before (tot v w x) r n = ∑ i ∈ Finset.range (128 * n), scaled g i := by
  rw [← sum_grid]
  exact Finset.sum_congr rfl fun c hc => tot_at r v w x g hr hx c (lt_of_lt_of_le (Finset.mem_range.mp hc) hn)

end sums

/-- A strip's count, by the columns' prefix sums. -/
theorem cntStep_at (b : FVec Ideal S8x896 .f32) (u : Vec Ideal S8x1 .f32) (k : ℕ) (hk : k < 128) (acc : IVec S8x1 32) (st : Vec Ideal S8x1x784 .f32) :
    cntStep b u k acc st (ix2 r 0)
      = acc (ix2 r 0) + BitVec.ofNat 32 (count fun c : Fin 784 => st (ix3 r 0 c) + before b r c.val < u (ix2 r 0) ∧ 128 * c.val + k < 100000) := by
  have ht : (trip k0_t5_loop (by decide) k).val = k := Nat.mod_eq_of_lt (lt_of_lt_of_eq hk trips5.symm)
  have b0 : before b r 0 = 0 := Finset.sum_range_zero _
  have b1 : before b r 128 = seg b 127 (ix2 r 0) := (before_next b r 0).trans (by rw [show 128 * 0 = 0 from rfl, b0, zero_add])
  have b2 : before b r 256 = k0_pay1847 (seg b 127) (seg b 255) (ix2 r 0) := (before_next b r 1).trans (by rw [show 128 * 1 = 128 from rfl, b1, carry2_at])
  have b3 : before b r 384 = k0_pay1848 (seg b 127) (seg b 255) (seg b 383) (ix2 r 0) := (before_next b r 2).trans (by rw [show 128 * 2 = 256 from rfl, b2, carry3_at])
  have b4 : before b r 512 = k0_pay1849 (seg b 127) (seg b 255) (seg b 383) (seg b 511) (ix2 r 0) :=
    (before_next b r 3).trans (by rw [show 128 * 3 = 384 from rfl, b3, carry4_at])
  have b5 : before b r 640 = k0_pay1850 (seg b 127) (seg b 255) (seg b 383) (seg b 511) (seg b 639) (ix2 r 0) :=
    (before_next b r 4).trans (by rw [show 128 * 4 = 512 from rfl, b4, carry5_at])
  have b6 : before b r 768 = k0_pay1851 (seg b 127) (seg b 255) (seg b 383) (seg b 511) (seg b 639) (seg b 767) (ix2 r 0) :=
    (before_next b r 5).trans (by rw [show 128 * 5 = 640 from rfl, b5, carry6_at])
  unfold cntStep
  refine (pay1855_at _ _ _ _ _ _ _ _ _ _ _ _ u (trip k0_t5_loop (by decide) k) acc st r (before b r) b0 (fun l => ?_) (fun l => ?_) (fun l => ?_) (fun l => ?_) (fun l => ?_) (fun l => ?_) (fun l => ?_)).trans ?_
  · rw [lane0_at, lanes_at]
    have := before_add b r 0 l.val l.isLt
    rw [show 128 * 0 = 0 from rfl, b0, zero_add] at this
    rw [Nat.zero_add]
    exact (this.trans (zero_add (M := EReal) _)).symm
  · rw [lane1_at, lanes_at, add_comm, ← b1]; exact (before_add b r 1 l.val l.isLt).symm
  · rw [lanes_at, add_comm, ← b2]; exact (before_add b r 2 l.val l.isLt).symm
  · rw [lanes_at, add_comm, ← b3]; exact (before_add b r 3 l.val l.isLt).symm
  · rw [lanes_at, add_comm, ← b4]; exact (before_add b r 4 l.val l.isLt).symm
  · rw [lanes_at, add_comm, ← b5]; exact (before_add b r 5 l.val l.isLt).symm
  · rw [lanes_at, add_comm, ← b6]; exact (before_add b r 6 l.val l.isLt).symm
  · rw [ht]

/-- A running count of the strips' counts as words is the word of their sum. -/
theorem run_count (a : ℕ → BitVec 32) (f : ℕ → ℕ) (h0 : a 0 = 0#32) (hs : ∀ k, k < 128 → a (k + 1) = a k + BitVec.ofNat 32 (f k)) :
    a 128 = BitVec.ofNat 32 (∑ k ∈ Finset.range 128, f k) := by
  have h : ∀ k, k ≤ 128 → a k = BitVec.ofNat 32 (∑ j ∈ Finset.range k, f j) := fun k => by
    induction k with
    | zero => exact fun _ => h0
    | succ k ih => exact fun hk => by rw [hs k (by omega), ih (by omega), Finset.sum_range_succ, BitVec.ofNat_add]
  exact h 128 (le_refl _)

theorem cnt_at (v w : FVec Ideal S8x8 .f32) (x : Vec Ideal S8x128x784 .f32) (u : Vec Ideal S8x1 .f32) (g : Fin 100000 → EReal) (hg : (∑ k, g k) ≠ 0)
    (hr : k0_pay21 v w (ix2 r 0) = Ideal.div 1 (∑ k, g k)) (hx : ∀ (s : Fin 128) (c : Fin 784), x (ix3 r s c) = ext g (128 * c.val + s.val)) :
    cnt (tot v w x) u (pre v w x) 128 (ix2 r 0) = BitVec.ofNat 32 (count fun n : Fin 100000 => cdf g n < u (ix2 r 0)) := by
  have e : (count fun n : Fin 100000 => cdf g n < u (ix2 r 0)) = count fun n : Fin 100000 => ∑ i ∈ Finset.range (n.val + 1), scaled g i < u (ix2 r 0) := by
    unfold Cert.Search.count
    exact congrArg Finset.card (Finset.filter_congr fun n _ => by rw [cdf_eq g hg n])
  rw [e, ← count_grid fun n => ∑ i ∈ Finset.range (n + 1), scaled g i < u (ix2 r 0)]
  refine run_count (fun k => cnt (tot v w x) u (pre v w x) k (ix2 r 0)) _ rfl fun k hk => ?_
  refine (cntStep_at r (tot v w x) u k hk _ _).trans (congrArg (fun n => _ + BitVec.ofNat 32 n) ?_)
  unfold Cert.Search.count
  refine congrArg Finset.card (Finset.filter_congr fun c _ => ?_)
  rw [pre_at r v w x g hr hx c k hk, before_at r v w x g hr hx c.val (by omega), add_comm, ← Finset.sum_range_add, Nat.add_assoc]

theorem gtc_at (v : FVec Ideal S8x1 .f32) (x : Vec Ideal S8x128x784 .f32) (g : Fin 100000 → EReal)
    (hx : ∀ (s : Fin 128) (c : Fin 784), x (ix3 r s c) = ext g (128 * c.val + s.val)) :
    gtc v x 128 (ix2 r 0) = BitVec.ofNat 32 (above g (v (ix2 r 0))) := by
  have e : above g (v (ix2 r 0)) = count fun n : Fin 100000 => v (ix2 r 0) < ext g n.val := by
    unfold Cert.Search.count above
    exact congrArg Finset.card (Finset.filter_congr fun n _ => by unfold ext; rw [dif_pos n.isLt])
  rw [e, ← count_grid fun n => v (ix2 r 0) < ext g n]
  refine run_count (fun k => gtc v x k (ix2 r 0)) _ rfl fun k hk => ?_
  refine (pay1860_at v (trip k0_t7_loop (by decide) k) _ _ r).trans (congrArg (fun n => _ + BitVec.ofNat 32 n) ?_)
  have ht : (trip k0_t7_loop (by decide) k).val = k := Nat.mod_eq_of_lt (lt_of_lt_of_eq hk trips7.symm)
  unfold Cert.Search.count
  refine congrArg Finset.card (Finset.filter_congr fun c _ => ?_)
  rw [strip_tall r x g hx k hk c, ht]

/-- The greatest of lanes that are all `-1` but for one that is not below. -/
theorem fold_max_one {n : ℕ} (q : Fin n → Prop) [DecidablePred q] (f : Fin n → EReal) (m y : EReal) (hm : m ≤ y) (c : Fin n) (hc : q c) (hy : ∀ d, q d → f d = y) :
    Finset.univ.fold max ⊥ (fun d => if q d then f d else m) = y := by
  refine eq_of_forall_ge_iff fun z => ?_
  rw [Finset.fold_max_le]
  refine ⟨fun h => ?_, fun h => ⟨bot_le, fun d _ => ?_⟩⟩
  · have := h.2 c (Finset.mem_univ _)
    rwa [if_pos hc, hy c hc] at this
  · split_ifs with hq
    · rw [hy d hq]; exact h
    · exact hm.trans h

theorem found_at (n : IVec S8x1 32) (x : Vec Ideal S8x128x784 .f32) (g : Fin 100000 → EReal) (s : Fin 100000) (hn : k0_pay1856 n (ix2 r 0) = BitVec.ofNat 32 s.val)
    (hg : 0 ≤ g s) (hx : ∀ (s : Fin 128) (c : Fin 784), x (ix3 r s c) = ext g (128 * c.val + s.val)) :
    found n x 128 (ix2 r 0) = g s := by
  have hs := s.isLt
  have hm : ((-1 : ℝ) : EReal) ≤ g s := le_trans (by exact_mod_cast (by norm_num : (-1 : ℝ) ≤ 0)) hg
  have h : ∀ k, k ≤ 128 → found n x k (ix2 r 0) = if s.val % 128 < k then g s else ((-1 : ℝ) : EReal) := fun k => by
    induction k with
    | zero => exact fun _ => litMinusOne
    | succ k ih =>
      intro hk
      have ht : (trip k0_t6_loop (by decide) k).val = k := Nat.mod_eq_of_lt (lt_of_lt_of_eq (by omega : k < 128) trips6.symm)
      rw [found, pay1858_at n _ _ _ r s.val (by omega) hn, ih (by omega), ht]
      by_cases hq : s.val % 128 = k
      · rw [fold_max_one (fun c : Fin 784 => 128 * c.val + k = s.val) _ _ (g s) hm ⟨s.val / 128, by omega⟩ (by show 128 * (s.val / 128) + k = s.val; omega) fun d hd => by
          rw [strip_tall r x g hx k (by omega) d, hd]; exact dif_pos hs, if_neg (by omega), if_pos (by omega), max_eq_right hm]
      · have e : (Finset.univ.fold max (⊥ : EReal) fun c : Fin 784 => if 128 * c.val + k = s.val then strip (by decide) x k (ix3 r 0 c) else ((-1 : ℝ) : EReal))
            = ((-1 : ℝ) : EReal) := by
          have := fold_max_one (fun _ : Fin 784 => True) (fun _ => ((-1 : ℝ) : EReal)) _ _ le_rfl ⟨0, by decide⟩ trivial fun _ _ => rfl
          refine Eq.trans (Finset.fold_congr fun c _ => ?_) this
          rw [if_neg (by omega), if_pos trivial]
        rw [e]
        by_cases hl : s.val % 128 < k
        · rw [if_pos hl, if_pos (by omega), max_eq_left hm]
        · rw [if_neg hl, if_neg (by omega), max_self]
  rw [h 128 (le_refl _), if_pos (Nat.mod_lt _ (by decide))]

end row

end Cert.Kernel3Ideal.Hand

end
-- ==== Proof.K3Tie.lean ====
/- The third kernel's search for the wanted tie, and its token. -/
module

public import proofs.«01_k».proof.Proof.K3Value

@[expose] public section

noncomputable section

namespace Cert.Kernel3Ideal.Hand

open Idealize.ShloMosaic
open Cert.Kernel3Ideal.Gen Cert.Wp Cert.Search
open Cert.Reference2Ideal.Hand (ext)
open Cert.Reference3Ideal.Hand (cdf)

/-- The marks of the places that hold `y`. -/
def tieMark (g : Fin 100000 → EReal) (y : EReal) (n : ℕ) : ℕ := if ext g n = y ∧ n < 100000 then 1 else 0

theorem ties_sum (g : Fin 100000 → EReal) (y : EReal) (i : ℕ) : ∑ n ∈ Finset.range i, tieMark g y n = tiesBefore g y i := by
  unfold tieMark tiesBefore
  rw [← Finset.card_filter, ← Finset.card_map Fin.valEmbedding]
  refine congrArg Finset.card (Finset.ext fun n => ?_)
  simp only [Finset.mem_filter, Finset.mem_range, Finset.mem_map, Finset.mem_univ, true_and, Fin.valEmbedding_apply]
  constructor
  · rintro ⟨hi, he, hn⟩
    unfold ext at he
    rw [dif_pos hn] at he
    exact ⟨⟨n, hn⟩, ⟨he, hi⟩, rfl⟩
  · rintro ⟨k, ⟨he, hi⟩, rfl⟩
    refine ⟨hi, ?_, k.isLt⟩
    unfold ext
    rw [dif_pos k.isLt]
    exact he

theorem ties_le (g : Fin 100000 → EReal) (y : EReal) (i : ℕ) : tiesBefore g y i ≤ 100000 := by
  have := Finset.card_filter_le (Finset.univ : Finset (Fin 100000)) fun k => g k = y ∧ k.val < i
  simpa [tiesBefore] using this

/-- The least of words of small numbers is the word of the least. -/
theorem fold_minsi {n : ℕ} (f : Fin n → ℕ) (hf : ∀ k, f k < 2 ^ 31) (s : Finset (Fin n)) :
    s.fold IntOp.minsi (2147483647#32) (fun k => BitVec.ofNat 32 (f k)) = BitVec.ofNat 32 (s.fold min 2147483647 f) ∧ s.fold min 2147483647 f < 2 ^ 31 := by
  induction s using Finset.induction_on with
  | empty => exact ⟨rfl, by show 2147483647 < 2 ^ 31; norm_num⟩
  | insert a s ha ih =>
    rw [Finset.fold_insert ha, Finset.fold_insert ha, ih.1, minsi_word _ _ (hf a) ih.2]
    exact ⟨rfl, lt_of_le_of_lt (min_le_left _ _) (hf a)⟩

/-- The least over a strip's lanes, where only place `t` counts. -/
theorem fold_min_one (k t : ℕ) (ht : t < 1073741824) :
    (Finset.univ.fold min 2147483647 fun l : Fin 128 => if 128 * k + l.val = t then 128 * k + l.val else 1073741824)
      = if 128 * k ≤ t ∧ t < 128 * (k + 1) then t else 1073741824 := by
  refine eq_of_forall_le_iff fun z => ?_
  rw [Finset.le_fold_min]
  constructor
  · intro h
    split_ifs with hk
    · have := h.2 ⟨t - 128 * k, by omega⟩ (Finset.mem_univ _)
      have e : 128 * k + (t - 128 * k) = t := by omega
      simp only [e, if_true] at this
      exact this
    · have := h.2 ⟨0, by decide⟩ (Finset.mem_univ _)
      rw [if_neg (by show ¬ 128 * k + 0 = t; omega)] at this
      exact this
  · intro h
    split_ifs at h with hk
    · exact ⟨by omega, fun l _ => by split_ifs <;> omega⟩
    · exact ⟨by omega, fun l _ => by have := l.isLt; rw [if_neg (by omega)]; exact h⟩

section row

variable (r : Fin 8) (v : FVec Ideal S8x1 .f32) (w : IVec S8x1 32) (x : Vec Ideal S8x784x128 .f32) (g : Fin 100000 → EReal) (y : EReal) (R t : ℕ)
  (hv : v (ix2 r 0) = y) (hw : w (ix2 r 0) = BitVec.ofNat 32 R) (hR : R ≤ 100000) (ht : t < 100000)
  (hx : ∀ (c : Fin 784) (s : Fin 128), x (ix3 r c s) = ext g (128 * c.val + s.val))
  (hu : ∀ n, (ext g n = y ∧ n < 100000) ∧ tiesBefore g y n = R ↔ n = t)

include hv hw hR ht hx hu

theorem tie_at (k : ℕ) (hk : k ≤ 784) :
    (tie v w x k).1 (ix2 r 0) = BitVec.ofNat 32 (if t < 128 * k then t else 1073741824) ∧ (tie v w x k).2 (ix2 r 0) = BitVec.ofNat 32 (tiesBefore g y (128 * k)) := by
  induction k with
  | zero =>
    refine ⟨rfl, ?_⟩
    rw [← ties_sum]
    rfl
  | succ k ih =>
    have hk' : k < 784 := by omega
    obtain ⟨i1, i2⟩ := ih (by omega)
    have hT : (trip k0_t8_loop (by decide) k).val = k := Nat.mod_eq_of_lt (lt_of_lt_of_eq hk' trips8.symm)
    have h7 : ∀ l : Fin 128, k0_pay7 v lane 0#32 1#32 (trip k0_t8_loop (by decide) k) (strip (by decide) x k) (ix2 r l)
        = BitVec.ofBool (decide (ext g (128 * k + l.val) = y ∧ 128 * k + l.val < 100000)) := fun l => by
      rw [pay7_at, strip_wide r x g hx k hk' l, hT, hv]
    have h8 : ∀ l : Fin 128, k0_pay8 v lane 0#32 1#32 (trip k0_t8_loop (by decide) k) (strip (by decide) x k) (ix2 r l)
        = BitVec.ofNat 32 (tieMark g y (128 * k + l.val)) := fun l => by
      rw [pay8_at, strip_wide r x g hx k hk' l, hT, hv]; rfl
    have h9 := pay9_at v (trip k0_t8_loop (by decide) k) (strip (by decide) x k) r (fun l => tieMark g y (128 * k + l)) h8
    have h10 : ∀ l : Fin 128, k0_pay10 v lane 0#32 1#32 (trip k0_t8_loop (by decide) k) (tie v w x k).2 (strip (by decide) x k) (ix2 r l)
        = BitVec.ofNat 32 (tiesBefore g y (128 * k + l.val)) := fun l => by
      rw [pay10_at, h9, h8, i2, Finset.sum_range_succ, BitVec.ofNat_add, ← BitVec.add_assoc, BitVec.add_sub_cancel, ← BitVec.ofNat_add,
        ← ties_sum, ← ties_sum, ← Finset.sum_range_add]
    constructor
    · have hl : ∀ l : Fin 128, Scalar.select (IntOp.andi (k0_pay7 v lane 0#32 1#32 (trip k0_t8_loop (by decide) k) (strip (by decide) x k) (ix2 r l))
          (IntOp.cmpi .eq (k0_pay10 v lane 0#32 1#32 (trip k0_t8_loop (by decide) k) (tie v w x k).2 (strip (by decide) x k) (ix2 r l)) (k0_pay11 w (ix2 r l))))
          (k0_pay6 lane 0#32 1#32 (trip k0_t8_loop (by decide) k) (ix2 r l)) 1073741824#32
          = BitVec.ofNat 32 (if 128 * k + l.val = t then 128 * k + l.val else 1073741824) := fun l => by
        have := ties_le g y (128 * k + l.val)
        rw [h7, h10, pay11_at, hw, eq_word _ _ (by omega) (by omega), and_marks, select_mark, pay6_at, hT]
        by_cases hq : 128 * k + l.val = t
        · rw [if_pos ((hu _).mpr hq), if_pos hq]
        · rw [if_neg fun h => hq ((hu _).mp h), if_neg hq]
      have hf := fold_minsi (fun l : Fin 128 => if 128 * k + l.val = t then 128 * k + l.val else 1073741824) (fun l => by
        show (if 128 * k + l.val = t then 128 * k + l.val else 1073741824) < 2 ^ 31
        split_ifs <;> omega) Finset.univ
      have e : (tie v w x (k + 1)).1 (ix2 r 0) = IntOp.minsi ((tie v w x k).1 (ix2 r 0)) (BitVec.ofNat 32 (if 128 * k ≤ t ∧ t < 128 * (k + 1) then t else 1073741824)) := by
        refine (pay4_at _ _ _ _ _ r).trans (congrArg (IntOp.minsi _) ?_)
        rw [← fold_min_one k t (by omega), ← hf.1]
        exact Finset.fold_congr fun l _ => hl l
      rw [e, i1, minsi_word _ _ (by split_ifs <;> omega) (by split_ifs <;> omega)]
      refine congrArg (BitVec.ofNat 32) ?_
      split_ifs <;> omega
    · have e : (tie v w x (k + 1)).2 (ix2 r 0) = (tie v w x k).2 (ix2 r 0)
          + k0_pay9 v lane 0#32 1#32 (trip k0_t8_loop (by decide) k) (strip (by decide) x k) (ix2 r ⟨127, by decide⟩) := pay5_at _ _ r
      rw [e, h9, i2, ← BitVec.ofNat_add, ← ties_sum, ← ties_sum]
      exact congrArg (BitVec.ofNat 32) (Finset.sum_range_add _ (128 * k) 128).symm

end row

/-- Only one place holds the wanted tie. -/
theorem only_tie {N : ℕ} (p : Fin N → EReal) (s : Fin N) (n : ℕ) :
    (ext p n = p (order p s) ∧ n < N) ∧ tiesBefore p (p (order p s)) n = tiesBefore p (p (order p s)) (order p s).val ↔ n = (order p s).val := by
  have hpl := place p s
  refine ⟨fun h => ?_, fun h => ⟨⟨?_, lt_of_eq_of_lt h (order p s).isLt⟩, congrArg (tiesBefore p (p (order p s))) h⟩⟩
  · obtain ⟨⟨he, hn⟩, hc⟩ := h
    unfold ext at he
    rw [dif_pos hn] at he
    rw [← hc] at hpl
    exact congrArg Fin.val (find p s ⟨n, hn⟩ he hpl)
  · have hn : n < N := lt_of_eq_of_lt h (order p s).isLt
    unfold ext
    rw [dif_pos hn]
    exact congrArg p (Fin.ext h)

/-- The token of a row. -/
theorem tokBlock_at (X : Inp Ideal) (r : Fin 8) (p ps sd : Fin 100000 → EReal) (hp : ∀ j, 0 ≤ p j) (hs : (∑ k, ps k) ≠ 0) (hsd : sd = p ∘ order p)
    (h1 : ∀ (s : Fin 128) (c : Fin 784), X.1 (ix3 r s c) = ext ps (128 * c.val + s.val))
    (h2 : ∀ (c : Fin 784) (s : Fin 128), X.2.1 (ix3 r c s) = ext ps (128 * c.val + s.val))
    (h3 : ∀ (s : Fin 128) (c : Fin 784), X.2.2.1 (ix3 r s c) = ext sd (128 * c.val + s.val))
    (h4 : ∀ (c : Fin 784) (s : Fin 128), X.2.2.2.1 (ix3 r c s) = ext p (128 * c.val + s.val)) :
    tokBlock X (ix2 r 0) = BitVec.ofNat 32 (order p (sel (by norm_num) (cdf ps) (X.2.2.2.2 (ix2 r 0)))).val := by
  generalize hS : sel (n := 100000) (by norm_num) (cdf ps) (X.2.2.2.2 (ix2 r 0)) = s
  have hcnt : cntX X (ix2 r 0) = BitVec.ofNat 32 (count fun n : Fin 100000 => cdf ps n < X.2.2.2.2 (ix2 r 0)) :=
    cnt_at r (laneA X.2.1) (laneB X.2.1) X.1 X.2.2.2.2 ps hs (recip_at r X.2.1 ps h2) h1
  have hsel : selX X (ix2 r 0) = BitVec.ofNat 32 s.val := by
    have hle := count_le fun n : Fin 100000 => cdf ps n < X.2.2.2.2 (ix2 r 0)
    unfold selX
    rw [pay1856_at, hcnt, ← hS]
    exact minsi_word _ _ (by omega) (by norm_num)
  have hval : valX X (ix2 r 0) = p (order p s) := by
    have := found_at r (cntX X) X.2.2.1 sd s hsel (by rw [hsd]; exact hp _) h3
    rw [hsd] at this
    exact this
  have hgtc : gtcX X (ix2 r 0) = BitVec.ofNat 32 (above p (p (order p s))) := by
    have := gtc_at r (valX X) X.2.2.1 sd h3
    rw [hval, hsd, above_comp p (order p) (order_bijective p)] at this
    exact this
  have hpl := place p s
  have hrest : restX X (ix2 r 0) = BitVec.ofNat 32 (tiesBefore p (p (order p s)) (order p s).val) := by
    unfold restX
    rw [pay1_at, hsel, hgtc, ← hpl, Nat.add_comm, BitVec.ofNat_add, BitVec.add_sub_cancel]
  have hu : ∀ n, (ext p n = p (order p s) ∧ n < 100000) ∧ tiesBefore p (p (order p s)) n = tiesBefore p (p (order p s)) (order p s).val ↔ n = (order p s).val :=
    fun n => only_tie p s n
  have := (tie_at r (valX X) (restX X) X.2.2.2.1 p (p (order p s)) _ (order p s).val hval hrest (ties_le _ _ _) (order p s).isLt h4 hu 784 (le_refl _)).1
  have hlt := (order p s).isLt
  rw [if_pos (by omega)] at this
  exact this

end Cert.Kernel3Ideal.Hand

end
-- ==== Proof.K3Array.lean ====
/- The third kernel's result array: the tokens of all rows, from the padded and sorted rows the launch finds. -/
module

public import proofs.«01_k».proof.Proof.K3Run
public import proofs.«01_k».proof.Proof.K3Tie
public import Idealize.ShloMosaic.Lib.Pipeline.Value
public import Idealize.ShloMosaic.Lib.StableHlo.ReadAt

@[expose] public section

set_option maxRecDepth 16384

noncomputable section

namespace Cert.Kernel3Ideal.Hand

open Idealize.ShloMosaic Idealize.ShloMosaic.TcCoe Idealize.ShloMosaic.Routing Idealize.SL.Sem
open Idealize.ShloMosaic.Pipeline (Dat Cfg Window)
open Cert.Kernel3Ideal.Gen Cert.Search
open Cert.Reference2Ideal.Hand (ext)
open Cert.Reference3Ideal.Hand (cdf canon)

/-! ## The sorted rows -/

/-- The sort's comparison is the order of the keys. -/
theorem comparator_eq (a b : Ideal .f32) : (comparator_f32_d1 (F := Ideal) a b == 1#1) = decide ((a : EReal) < b) := by
  unfold comparator_f32_d1
  dsimp only
  rw [canon, canon]
  show (BitVec.ofBool (decide ((a : EReal) < b)) == 1#1) = _
  by_cases h : (a : EReal) < b <;> simp [h]

/-- Sorting along the rows puts each row in the stable descending order of the negated keys. -/
theorem sort_at {R N : ℕ} (cmp : Ideal .f32 → Ideal .f32 → BitVec 1) (hcmp : ∀ a b, (cmp a b == 1#1) = decide ((a : EReal) < b))
    (x : FVec Ideal (shape2 R N) .f32) (r : Fin R) (j : Fin N) :
    Host.sort (shape2 R N) 1 cmp x (ix2 r j) = x (ix2 r (order (fun k : Fin N => -(x (ix2 r k) : EReal)) j)) := by
  have ha : ∀ k : Fin N, (ix2 r j : (shape2 R N).Idx).along 1 k = ix2 r k := fun k => by
    funext a
    match a with
    | ⟨0, _⟩ => rfl
    | ⟨1, _⟩ => rfl
  have hc : (fun k k' : Fin N => cmp (x ((ix2 r j : (shape2 R N).Idx).along 1 k)) (x ((ix2 r j : (shape2 R N).Idx).along 1 k')) == 1#1)
      = greater (fun k : Fin N => -(x (ix2 r k) : EReal)) := by
    funext k k'
    rw [hcmp, ha, ha]
    unfold greater
    exact decide_eq_decide.mpr (EReal.neg_lt_neg_iff (a := (x (ix2 r k') : EReal)) (b := (x (ix2 r k) : EReal))).symm
  unfold Host.sort order
  rw [← hc]
  exact congrArg x (ha _)

/-- The ascending order read backwards is a descending order. -/
theorem descending {n : ℕ} (p : Fin n → EReal) : (fun j => p (order (fun k => -p k) j.rev)) = p ∘ order p :=
  eq_order p _ (order (fun k => -p k) ∘ Fin.rev) ((order_bijective _).comp Fin.rev_bijective) rfl fun i j h => by
    have := order_antitone (fun k => -p k) (Fin.rev_le_rev.mpr h)
    exact EReal.neg_le_neg_iff.mp this

/-- The rows in descending order. -/
def sdArr (x : FVec Ideal S64x100000 .f32) : FVec Ideal S64x100000 .f32 := Host.reverse [1] (Host.sort S64x100000 1 comparator_f32_d1 x)

/-- A row of an array. -/
def row (x : FVec Ideal S64x100000 .f32) (r : Fin 64) (j : Fin 100000) : EReal := x (ix2 r j)

theorem rev_at {R N : ℕ} (x : FVec Ideal (shape2 R N) .f32) (r : Fin R) (j : Fin N) : Host.reverse [1] x (ix2 r j) = x (ix2 r j.rev) := by
  unfold Host.reverse
  refine congrArg x (funext fun a => ?_)
  match a with
  | ⟨0, _⟩ => rfl
  | ⟨1, _⟩ => rfl

theorem sdArr_at (x : FVec Ideal S64x100000 .f32) (r : Fin 64) (j : Fin 100000) : row (sdArr x) r j = row x r (order (fun k => -row x r k) j.rev) :=
  (rev_at (Host.sort (shape2 64 100000) 1 comparator_f32_d1 x) r j).trans (sort_at comparator_f32_d1 comparator_eq x r j.rev)

theorem sdArr_row (x : FVec Ideal S64x100000 .f32) (r : Fin 64) : row (sdArr x) r = row x r ∘ order (row x r) :=
  (funext fun j => sdArr_at x r j).trans (descending (row x r))

/-! ## What the launch finds -/

variable (m : (ℓ : Loc nD τ sig) → Buf (Elt Ideal) ℓ) (ρ : Dev nD → PrngReg)

theorem pad_zero : FloatOps.sitofp (F := Ideal) FTy.f32 0#32 = (0 : EReal) := by
  show ((((0#32 : BitVec 32).toInt : ℤ) : ℝ) : EReal) = 0
  simp

set_option maxHeartbeats 1000000 in
theorem entry_psz_tr (c : Dev nD) (r : Fin 64) (s : Fin 128) (l : Fin 784) :
    V m c main_v9 (ix3 r s l) = ext (row (m ((c : Thread nD τ).loc main_arg1)) r) (128 * l.val + s.val) := by
  unfold ext row V
  after_reads_at
  simp only [Nat.mul_comm l.val 128]
  rw [pad_zero]

set_option maxHeartbeats 1000000 in
theorem entry_psz_nat (c : Dev nD) (r : Fin 64) (l : Fin 784) (s : Fin 128) :
    V m c main_v8 (ix3 r l s) = ext (row (m ((c : Thread nD τ).loc main_arg1)) r) (128 * l.val + s.val) := by
  unfold ext row V
  after_reads_at
  simp only [Nat.mul_comm l.val 128]
  rw [pad_zero]

set_option maxHeartbeats 1000000 in
theorem entry_probs (c : Dev nD) (r : Fin 64) (l : Fin 784) (s : Fin 128) :
    V m c main_v1 (ix3 r l s) = ext (row (m ((c : Thread nD τ).loc main_arg0)) r) (128 * l.val + s.val) := by
  unfold ext row V
  after_reads_at
  simp only [Nat.mul_comm l.val 128]
  rw [pad_zero]

set_option maxHeartbeats 1000000 in
theorem entry_u (c : Dev nD) (r : Fin 64) : V m c main_v10 (ix2 r 0) = m ((c : Thread nD τ).loc main_arg2) (ix1 r) := by
  unfold V
  after_reads_at

set_option maxHeartbeats 1000000 in
theorem entry_sorted (c : Dev nD) (r : Fin 64) (s : Fin 128) (l : Fin 784) :
    V m c main_v6 (ix3 r s l) = ext (row (sdArr (m ((c : Thread nD τ).loc main_arg0))) r) (128 * l.val + s.val) := by
  unfold ext row V
  after_reads_at
  simp only [Nat.mul_comm l.val 128]
  rw [pad_zero]
  refine dite_congr rfl (fun h => ?_) (fun _ => Eq.refl (0 : EReal))
  exact (rev_at (Host.sort (shape2 64 100000) 1 comparator_f32_d1 (m ((c : Thread nD τ).loc main_arg0))) r ⟨128 * l.val + s.val, h⟩).symm

/-! ## The blocks -/

theorem idx_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0)
    ∧ (win0_4.index t (0 : Fin 2) = t.val ∧ win0_4.index t (1 : Fin 2) = 0)
    ∧ (win0_5.index t (0 : Fin 2) = t.val ∧ win0_5.index t (1 : Fin 2) = 0) :=
  (by decide +kernel : ∀ t : Fin grid0.N, _)

/-- Row `8 t + r` of the array. -/
def at8 (t : Fin cfg0.N) (r : Fin 8) : Fin 64 := ⟨8 * t.val + r.val, by have : t.val < 8 := t.isLt; omega⟩

theorem ix3_of_val {a b c : ℕ} (i : (⟨3, ![a, b, c]⟩ : Shape).Idx) (x : Fin a) (y : Fin b) (z : Fin c) (hx : (i 0).val = x.val) (hy : (i 1).val = y.val) (hz : (i 2).val = z.val) :
    i = ix3 x y z := by
  funext d
  match d with
  | ⟨0, _⟩ => exact Fin.ext hx
  | ⟨1, _⟩ => exact Fin.ext hy
  | ⟨2, _⟩ => exact Fin.ext hz

theorem ix2_of_val {a b : ℕ} (i : (⟨2, ![a, b]⟩ : Shape).Idx) (x : Fin a) (y : Fin b) (hx : (i 0).val = x.val) (hy : (i 1).val = y.val) : i = ix2 x y := by
  funext d
  match d with
  | ⟨0, _⟩ => exact Fin.ext hx
  | ⟨1, _⟩ => exact Fin.ext hy

theorem first_coord (i t r : ℕ) (h : i = t) : i * 8 + r = 8 * t + r := by rw [h, Nat.mul_comm]
theorem other_coord (i n k : ℕ) (h : i = 0) : i * n + k = k := by rw [h, Nat.zero_mul, Nat.zero_add]

theorem blk0_at (c : Dev nD) (t : Fin cfg0.N) (r : Fin 8) (s : Fin 128) (l : Fin 784) :
    iblk m c 0 t (ix3 r s l) = ext (row (m ((c : Thread nD τ).loc main_arg1)) (at8 t r)) (128 * l.val + s.val) := by
  obtain ⟨⟨e0, e1, e2⟩, -, -, -, -, -⟩ := idx_facts t
  refine Eq.trans (congrArg (V m c main_v9) (ix3_of_val ((win0_0.rect t).emb (ix3 r s l)) (at8 t r) s l ?_ ?_ ?_)) (entry_psz_tr m c (at8 t r) s l)
  · exact (Window.rect_emb_val win0_0 t (ix3 r s l) 0).trans (first_coord _ _ _ e0)
  · exact (Window.rect_emb_val win0_0 t (ix3 r s l) 1).trans (other_coord _ _ _ e1)
  · exact (Window.rect_emb_val win0_0 t (ix3 r s l) 2).trans (other_coord _ _ _ e2)

theorem blk1_at (c : Dev nD) (t : Fin cfg0.N) (r : Fin 8) (l : Fin 784) (s : Fin 128) :
    iblk m c 1 t (ix3 r l s) = ext (row (m ((c : Thread nD τ).loc main_arg1)) (at8 t r)) (128 * l.val + s.val) := by
  obtain ⟨-, ⟨e0, e1, e2⟩, -, -, -, -⟩ := idx_facts t
  refine Eq.trans (congrArg (V m c main_v8) (ix3_of_val ((win0_1.rect t).emb (ix3 r l s)) (at8 t r) l s ?_ ?_ ?_)) (entry_psz_nat m c (at8 t r) l s)
  · exact (Window.rect_emb_val win0_1 t (ix3 r l s) 0).trans (first_coord _ _ _ e0)
  · exact (Window.rect_emb_val win0_1 t (ix3 r l s) 1).trans (other_coord _ _ _ e1)
  · exact (Window.rect_emb_val win0_1 t (ix3 r l s) 2).trans (other_coord _ _ _ e2)

theorem blk2_at (c : Dev nD) (t : Fin cfg0.N) (r : Fin 8) (s : Fin 128) (l : Fin 784) :
    iblk m c 2 t (ix3 r s l) = ext (row (sdArr (m ((c : Thread nD τ).loc main_arg0))) (at8 t r)) (128 * l.val + s.val) := by
  obtain ⟨-, -, ⟨e0, e1, e2⟩, -, -, -⟩ := idx_facts t
  refine Eq.trans (congrArg (V m c main_v6) (ix3_of_val ((win0_2.rect t).emb (ix3 r s l)) (at8 t r) s l ?_ ?_ ?_)) (entry_sorted m c (at8 t r) s l)
  · exact (Window.rect_emb_val win0_2 t (ix3 r s l) 0).trans (first_coord _ _ _ e0)
  · exact (Window.rect_emb_val win0_2 t (ix3 r s l) 1).trans (other_coord _ _ _ e1)
  · exact (Window.rect_emb_val win0_2 t (ix3 r s l) 2).trans (other_coord _ _ _ e2)

theorem blk3_at (c : Dev nD) (t : Fin cfg0.N) (r : Fin 8) (l : Fin 784) (s : Fin 128) :
    iblk m c 3 t (ix3 r l s) = ext (row (m ((c : Thread nD τ).loc main_arg0)) (at8 t r)) (128 * l.val + s.val) := by
  obtain ⟨-, -, -, ⟨e0, e1, e2⟩, -, -⟩ := idx_facts t
  refine Eq.trans (congrArg (V m c main_v1) (ix3_of_val ((win0_3.rect t).emb (ix3 r l s)) (at8 t r) l s ?_ ?_ ?_)) (entry_probs m c (at8 t r) l s)
  · exact (Window.rect_emb_val win0_3 t (ix3 r l s) 0).trans (first_coord _ _ _ e0)
  · exact (Window.rect_emb_val win0_3 t (ix3 r l s) 1).trans (other_coord _ _ _ e1)
  · exact (Window.rect_emb_val win0_3 t (ix3 r l s) 2).trans (other_coord _ _ _ e2)

theorem blk4_at (c : Dev nD) (t : Fin cfg0.N) (r : Fin 8) : iblk m c 4 t (ix2 r 0) = m ((c : Thread nD τ).loc main_arg2) (ix1 (at8 t r)) := by
  obtain ⟨-, -, -, -, ⟨e0, e1⟩, -⟩ := idx_facts t
  refine Eq.trans (congrArg (V m c main_v10) (ix2_of_val ((win0_4.rect t).emb (ix2 r 0)) (at8 t r) 0 ?_ ?_)) (entry_u m c (at8 t r))
  · exact (Window.rect_emb_val win0_4 t (ix2 r 0) 0).trans (first_coord _ _ _ e0)
  · exact (Window.rect_emb_val win0_4 t (ix2 r 0) 1).trans (other_coord _ _ _ e1)

/-! ## The result array -/

/-- The tokens of all rows. -/
def tokens (p ps : FVec Ideal S64x100000 .f32) (u : FVec Ideal S64 .f32) : IVec S64x1 32 :=
  fun y => BitVec.ofNat 32 (order (row p (y 0)) (sel (by norm_num) (cdf (row ps (y 0))) (u (ix1 (y 0))))).val

theorem mem_blk (t : Fin cfg0.N) (i : S64x1.Idx) :
    i ∈ ((cfg0.win 5).blk t).view.set ↔ 8 * t.val ≤ (i 0 : Nat) ∧ (i 0 : Nat) < 8 * t.val + 8 := by
  show i ∈ ((View.whole main_v11).slice (win0_5.rect t)).set ↔ _
  rw [View.set_slice_whole, Rect.mem_set_unit]
  have h1 : (i 1 : Nat) < 1 := (i 1).isLt
  obtain ⟨-, -, -, -, -, ⟨e0, e1⟩⟩ := idx_facts t
  have f0 : win0_5.index t (0 : Fin 2) * win0_5.size 0 = 8 * t.val := by rw [e0]; show t.val * 8 = _; omega
  have f1 : win0_5.index t (1 : Fin 2) * win0_5.size 1 = 0 := by rw [e1]; exact Nat.zero_mul _
  refine ⟨fun h => ?_, fun h a => ?_⟩
  · have : win0_5.index t (0 : Fin 2) * win0_5.size 0 ≤ (i 0 : Nat) ∧ (i 0 : Nat) < win0_5.index t (0 : Fin 2) * win0_5.size 0 + 8 := h 0
    rwa [f0] at this
  · match a with
    | ⟨0, _⟩ => show win0_5.index t (0 : Fin 2) * win0_5.size 0 ≤ (i 0 : Nat) ∧ (i 0 : Nat) < win0_5.index t (0 : Fin 2) * win0_5.size 0 + 8
                rw [f0]; exact h
    | ⟨1, _⟩ => show win0_5.index t (1 : Fin 2) * win0_5.size 1 ≤ (i 1 : Nat) ∧ (i 1 : Nat) < win0_5.index t (1 : Fin 2) * win0_5.size 1 + 1
                rw [f1]; omega

theorem cover (i : S64x1.Idx) : ∃ t : Fin cfg0.N, (cfg0.win 5).flush t = true ∧ i ∈ ((cfg0.win 5).blk t).view.set := by
  have h0 : (i 0 : Nat) < 64 := (i 0).isLt
  have hN : cfg0.N = 8 := rfl
  refine ⟨⟨(i 0 : Nat) / 8, by rw [hN]; omega⟩, (by decide +kernel : ∀ t : Fin grid0.N, win0_5.flush t = true) _, ?_⟩
  rw [mem_blk]
  show 8 * ((i 0 : Nat) / 8) ≤ (i 0 : Nat) ∧ (i 0 : Nat) < 8 * ((i 0 : Nat) / 8) + 8
  omega

section result

variable (c : Dev nD) (hp : ∀ i, (0 : EReal) ≤ (m ((c : Thread nD τ).loc main_arg0) : FVec Ideal S64x100000 .f32) i)
  (hs : ∀ r : Fin 64, (∑ j : Fin 100000, row (m ((c : Thread nD τ).loc main_arg1)) r j) ≠ 0)

include hp hs

theorem flushed_eq (t : Fin cfg0.N) :
    (dat3 m 0 c).flushed 5 t = ((cfg0.win 5).blk t).view.read (Elt Ideal)
      (tokens (m ((c : Thread nD τ).loc main_arg0)) (m ((c : Thread nD τ).loc main_arg1)) (m ((c : Thread nD τ).loc main_arg2))) := by
  unfold Dat.flushed
  rw [dat3_after5]
  suffices h : ∀ y : S8x1.Idx, tokBlock (inp m c t) y
      = tokens (m ((c : Thread nD τ).loc main_arg0)) (m ((c : Thread nD τ).loc main_arg1)) (m ((c : Thread nD τ).loc main_arg2)) ((win0_5.rect t).emb y) from funext h
  intro y
  obtain ⟨r, rfl⟩ : ∃ r : Fin 8, y = ix2 r 0 := ⟨y 0, ix2_of_val y _ _ rfl (by have : (y 1).val < 1 := (y 1).isLt; show (y 1).val = 0; omega)⟩
  obtain ⟨-, -, -, -, -, ⟨e0, e1⟩⟩ := idx_facts t
  have he : (win0_5.rect t).emb (ix2 r 0) = ix2 (at8 t r) 0 := ix2_of_val _ _ _
    ((Window.rect_emb_val win0_5 t (ix2 r 0) 0).trans (first_coord _ _ _ e0)) ((Window.rect_emb_val win0_5 t (ix2 r 0) 1).trans (other_coord _ _ _ e1))
  refine Eq.trans ?_ (congrArg (tokens (m ((c : Thread nD τ).loc main_arg0)) (m ((c : Thread nD τ).loc main_arg1)) (m ((c : Thread nD τ).loc main_arg2))) he).symm
  have := tokBlock_at (inp m c t) r (row (m ((c : Thread nD τ).loc main_arg0)) (at8 t r)) (row (m ((c : Thread nD τ).loc main_arg1)) (at8 t r))
    (row (sdArr (m ((c : Thread nD τ).loc main_arg0))) (at8 t r)) (fun j => hp (ix2 (at8 t r) j)) (hs (at8 t r)) (sdArr_row _ _)
    (fun s l => blk0_at m c t r s l) (fun l s => blk1_at m c t r l s) (fun s l => blk2_at m c t r s l) (fun l s => blk3_at m c t r l s)
  refine this.trans ?_
  have hu : (inp m c t).2.2.2.2 (ix2 r 0) = m ((c : Thread nD τ).loc main_arg2) (ix1 (at8 t r)) := blk4_at m c t r
  rw [hu]
  rfl

/-- The launch's result array. -/
theorem arr_eq : (dat3 m 0 c).arrAt 5 cfg0.N
    = tokens (m ((c : Thread nD τ).loc main_arg0)) (m ((c : Thread nD τ).loc main_arg1)) (m ((c : Thread nD τ).loc main_arg2)) :=
  (dat3 m 0 c).arrAt_eq_of_cover 5 _ (fun t _ => flushed_eq m c hp hs t) cover

end result

end Cert.Kernel3Ideal.Hand

end
-- ==== Proof.K3Pick.lean ====
/- The sampling reference's last lookup, and its result read at a row. -/
module

public import proofs.«01_k».proof.Proof.K1Ref
public import proofs.«01_k».proof.Proof.K3Ref
public import proofs.«01_k».proof.Pre_sampled

@[expose] public section

noncomputable section

namespace Cert.Reference3Ideal.Hand

open Idealize.ShloMosaic Idealize.ShloMosaic.Routing Idealize.ShloMosaic.TcCoe Idealize.ShloMosaic.Tactic Idealize.SL.Sem
open Cert.Reference3Ideal.Gen Cert.Search
open Cert.Reference2Ideal.Hand (ext)

/-- One element of each row, at that row's place. -/
theorem gather_cell {α : Type} {R N : ℕ} (d : GatherDims (shape2 R N) ⟨3, ![R, 1, 1]⟩ (shape2 R 1)) (hoff : d.offsetDims = [])
    (hcoll : d.collapsedSliceDims = [1]) (hob : d.operandBatchingDims = [0]) (hsb : d.startIndicesBatchingDims = [0])
    (hsim : d.startIndexMap = [1]) (hivd : d.indexVectorDim = 2) (x : (shape2 R N).Idx → α) (idx : IVec ⟨3, ![R, 1, 1]⟩ 32)
    (r : Fin R) (b : Fin N) (hb : idx (ix3 r 0 0) = BitVec.ofNat 32 b.val) (hN : N < 2 ^ 31) :
    Host.gather d x idx (ix2 r (0 : Fin 1)) = x (ix2 r b) := by
  unfold Host.gather
  refine congrArg x (funext fun a => Fin.ext ?_)
  have e0 : ∀ X : Fin 2, X = 0 → (ix2 r (0 : Fin 1) X).val = r.val := fun X h => by subst h; rfl
  have hsi : ∀ (y : Fin 3) (hy : y ∈ d.siKept), y = 0 → (d.siCoord (ix2 r (0 : Fin 1)) y hy).val = r.val := fun y hy h => by
    subst h
    unfold GatherDims.siCoord
    simp only [Fin.val_cast]
    refine e0 _ ?_
    clear hb
    obtain ⟨od, cd, obd, sbd, sim, ivd, ss, wf⟩ := d
    dsimp only at hoff hcoll hob hsb hsim hivd
    subst hoff hcoll hob hsb hsim hivd
    rfl
  match a with
  | ⟨0, _⟩ =>
    have hm : (0 : Fin 2) ∈ d.operandBatchingDims := by rw [hob]; exact List.mem_singleton.2 rfl
    have hk : (0 : Fin 2) ∉ d.sKept := fun h => ((d.mem_sKept 0).1 h).2 hm
    show d.start (ix2 r (0 : Fin 1)) idx 0 + d.batchCoord (ix2 r (0 : Fin 1)) 0 + d.offCoord (ix2 r (0 : Fin 1)) 0 = r.val
    rw [d.start_batching _ _ _ hm, d.offCoord_eq_zero _ _ hk, Nat.zero_add, Nat.add_zero]
    unfold GatherDims.batchCoord
    rw [dif_pos hm]
    refine hsi _ _ ?_
    have : ∀ y ∈ d.startIndicesBatchingDims, y = (0 : Fin 3) := fun y hy => by rw [hsb] at hy; exact List.mem_singleton.1 hy
    exact this _ (List.getElem_mem _)
  | ⟨1, _⟩ =>
    have hc : (1 : Fin 2) ∈ d.collapsedSliceDims := by rw [hcoll]; exact List.mem_singleton.2 rfl
    have hk : (1 : Fin 2) ∉ d.sKept := fun h => ((d.mem_sKept 1).1 h).1 hc
    have hn : (1 : Fin 2) ∉ d.operandBatchingDims := fun h => by
      rw [hob] at h
      have := congrArg Fin.val (List.mem_singleton.1 h)
      simp at this
    have hm : (1 : Fin 2) ∈ d.startIndexMap := by rw [hsim]; exact List.mem_singleton.2 rfl
    show d.start (ix2 r (0 : Fin 1)) idx 1 + d.batchCoord (ix2 r (0 : Fin 1)) 1 + d.offCoord (ix2 r (0 : Fin 1)) 1 = b.val
    rw [d.batchCoord_eq_zero _ _ hn, d.offCoord_eq_zero _ _ hk, Nat.add_zero]
    unfold GatherDims.start
    rw [dif_pos hm, d.slice_collapsed 1 hc]
    have hix : ∀ k, d.siIdx (ix2 r (0 : Fin 1)) k = ix3 r 0 0 := fun k => by
      funext y
      apply Fin.ext
      match y with
      | ⟨0, _⟩ =>
        unfold GatherDims.siIdx
        rw [dif_neg (by rw [hivd]; exact (by decide : ¬ (0 : ℕ) = 2))]
        exact hsi _ _ rfl
      | ⟨1, _⟩ => exact Nat.lt_one_iff.1 (Fin.isLt _)
      | ⟨2, _⟩ => exact Nat.lt_one_iff.1 (Fin.isLt _)
    have hbl := b.isLt
    rw [hix, hb, StableHlo.Predicate.toInt_ofNat_small _ (by omega)]
    show min ((b.val : Int)).toNat (N - 1) = b.val
    omega

theorem insideArr_at (w : IVec S64x1x1 32) (r : Fin 64) (k : ℕ) (hk : k < 100000) (h : w (ix3 r 0 0) = BitVec.ofNat 32 k) :
    insideArr w (ix2 r 0) = 1#1 := by
  have e : insideArr w (ix2 r 0) = Finset.univ.fold IntOp.andi 1#1 (fun j : Fin 1 => IntOp.andi (IntOp.cmpi .sge (w (ix3 r 0 j)) 0#32) (IntOp.cmpi .sle (w (ix3 r 0 j)) 99999#32)) := by
    pointwise [insideArr]
  have e2 : ∀ j : Fin 1, IntOp.andi (IntOp.cmpi .sge (w (ix3 r 0 j)) 0#32) (IntOp.cmpi .sle (w (ix3 r 0 j)) 99999#32) = 1#1 := fun j => by
    rw [Subsingleton.elim j 0, h]
    have a : IntOp.cmpi .sge (BitVec.ofNat 32 k) 0#32 = 1#1 := by
      show BitVec.ofBool (BitVec.sle _ _) = 1#1
      rw [BitVec.sle_eq_decide, toNat_small hk.le, show (0#32 : BitVec 32).toInt = 0 by decide, decide_eq_true (by omega)]
      rfl
    have b : IntOp.cmpi .sle (BitVec.ofNat 32 k) 99999#32 = 1#1 := by
      show BitVec.ofBool (BitVec.sle _ _) = 1#1
      rw [BitVec.sle_eq_decide, toNat_small hk.le, show (99999#32 : BitVec 32).toInt = 99999 by decide, decide_eq_true (by omega)]
      rfl
    rw [a, b]; rfl
  rw [e, Finset.fold_congr (fun j _ => e2 j)]
  rfl

theorem pickArr_at (x : IVec S64x100000 32) (w : IVec S64x1x1 32) (r : Fin 64) (b : Fin 100000) (h : w (ix3 r 0 0) = BitVec.ofNat 32 b.val) :
    pickArr x w (ix2 r 0) = x (ix2 r b) := by
  unfold pickArr
  show Scalar.select (insideArr w (ix2 r 0)) (Host.gather _ x w (ix2 r 0)) _ = _
  rw [insideArr_at w r b.val b.isLt h]
  show Host.gather _ x w (ix2 r 0) = _
  exact gather_cell _ rfl rfl rfl rfl rfl rfl x w r b h (by norm_num)

theorem normArr_at (y z : FVec Ideal S64x100000 .f32) (r : Fin 64) (j : Fin 100000) : row (normArr y z) r j = Ideal.div (row y r j) (z (ix2 r j)) := rfl

/-- The reference's token of a row. -/
theorem tokArr_at (p ps : FVec Ideal S64x100000 .f32) (u : FVec Ideal S64 .f32) (r : Fin 64) :
    tokArr p ps u (ix2 r 0) = BitVec.ofNat 32 (order (row p r) (sel (by norm_num) (cdf (row ps r)) (u (ix1 r)))).val := by
  unfold tokArr
  have hc : cntArr (cumArr (normArr ps (colArr (sumArr ps)))) (colArr u) (ix1 r) = BitVec.ofNat 32 (count fun k : Fin 100000 => cdf (row ps r) k < (u (ix1 r) : EReal)) := by
    rw [cntArr_at]
    have h1 : row (cumArr (normArr ps (colArr (sumArr ps)))) r = cdf (row ps r) := by
      funext k
      show cumArr _ (ix2 r k) = _
      rw [cumArr_at]
      have : row (normArr ps (colArr (sumArr ps))) r = fun i => Ideal.div (row ps r i) (∑ k, row ps r k) := by
        funext i
        have e := congrArg (Ideal.div (row ps r i)) ((colArr_at (sumArr ps) r i).trans (sumArr_at ps r))
        exact (normArr_at ps (colArr (sumArr ps)) r i).trans e
      unfold cdf
      exact congrArg (fun f => ∑ n ∈ Finset.range (k.val + 1), ext f n) this
    have h2 : row (colArr u) r = fun _ => (u (ix1 r) : EReal) := funext fun k => colArr_at u r k
    rw [h1, h2]
  have hs := clipArr_at _ r _ (count_le _) hc
  have hw := wrapArr_at _ r _ (by omega) hs
  rw [pickArr_at _ _ r (sel (by norm_num) (cdf (row ps r)) (u (ix1 r))) hw, argArr_at]

/-- The reference's run: its result is `tokArr` of its arguments, which it keeps. -/
theorem run_all (m : (ℓ : Loc nD τ sig) → Buf (Elt Ideal) ℓ) (ρ : Dev nD → PrngReg) :
    θ_run defs (onTc (τ := τ) (main (F := Ideal))) ⟨m, fun _ => 0, ρ⟩ (fun r => (∀ c : Dev nD,
      r.2.mem ((c.tc : Thread nD τ).loc main_v14)
          = tokArr (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨h, sem_eq_zero_of_no_sems (by decide) r.2⟩) (Value.run m ρ)

end Cert.Reference3Ideal.Hand

namespace Cert.Pre_sampled

open Idealize.ShloMosaic Idealize.ShloMosaic.Tactic
open Cert.Reference3Ideal.Hand (row sumArr_at)
open Cert.Reference2Ideal.Hand (lit0)
open Cert.Pre_finite_logits (litInf)

/-- The predicate's shape facts. -/
theorem facts : Facts where
  reducesTo_S64x100000_S64_d1 := by decide
  h_S_ := by decide
  bcast_S_S64x100000 := by decide
  reducesTo_S64x100000_S_d0_1 := by decide
  bcast_S_S64 := by decide
  reducesTo_S64_S_d0 := by decide

variable [Facts]

theorem ne_zero_of_une (y : FVec Ideal S64 .f32) (i : S64.Idx)
    (h : cmpf .une y (broadcastInDim S64 ![] Facts.bcast_S_S64 (constant (F := Ideal) S_ .f32 0x00000000#32)) i = 1#1) : (y i : EReal) ≠ 0 := fun hc => by
  have h0 : BitVec.ofBool (decide ¬ ((y i : EReal) = (Ideal.ofBits .f32 0x00000000#32 : EReal))) = 1#1 := h
  rw [hc, lit0, decide_eq_false (fun h => h rfl)] at h0
  exact absurd h0 (by decide)

/-- What the precondition says: no probability is negative, and each row's total is a number other than zero. -/
theorem sampled_of_fn (p ps : FVec Ideal S64x100000 .f32) (u : FVec Ideal S64 .f32) (h : fn (F := Ideal) p ps u = fun _ => 1#1) :
    (∀ i, (0 : EReal) ≤ p i) ∧ ∀ r : Fin 64, (∑ j : Fin 100000, row ps r j) ≠ 0 := by
  have hj := congrFun h (fun a => a.elim0)
  dsimp only [fn] at hj
  haveI : Subsingleton S_.Idx := ⟨fun a b => funext fun k => k.elim0⟩
  obtain ⟨h1, h2⟩ := IntOp.andi_eq_one.1 hj
  refine ⟨fun i => ?_, fun r => ?_⟩
  · have hi := Host.reduce_andi_all _ _ _ _ _ h1 i
    by_contra hc
    have h0 : BitVec.ofBool (decide ((Ideal.ofBits .f32 0x00000000#32 : EReal) ≤ p i)) = 1#1 := hi
    rw [lit0, decide_eq_false hc] at h0
    exact absurd h0 (by decide)
  · have hi2 := ne_zero_of_une _ _ (Host.reduce_andi_all _ _ _ _ _ h2 (ix1 r))
    have ht := sumArr_at ps r
    exact ht ▸ hi2

end Cert.Pre_sampled

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.K1Safe
public import proofs.«01_k».proof.Proof.K1Array
public import proofs.«01_k».proof.Proof.K1Ref
public import proofs.«01_k».proof.Proof.Gen.Kernel2
public import proofs.«01_k».proof.Proof.Gen.Kernel2Ideal
public import proofs.«01_k».proof.Proof.Gen.Reference2Ideal
public import proofs.«01_k».proof.Proof.K2Safe
public import proofs.«01_k».proof.Proof.K2Array
public import proofs.«01_k».proof.Proof.K2Ref
public import proofs.«01_k».proof.Proof.Gen.Kernel3
public import proofs.«01_k».proof.Proof.Gen.Kernel3Ideal
public import proofs.«01_k».proof.Proof.Gen.Reference3Ideal
public import proofs.«01_k».proof.Proof.K3Safe
public import proofs.«01_k».proof.Proof.K3Array
public import proofs.«01_k».proof.Proof.K3Pick
public import Idealize.ShloMosaic.Adequacy
public import Idealize.ShloMosaic.Init

@[expose] public section

noncomputable section

namespace Cert.Proof

open Idealize.ShloMosaic Idealize.ShloMosaic.TcCoe Idealize.SL.Sem

/-- The kernel's result and the reference's, from the same finite logits. -/
theorem value (x : FVec Ideal Cert.KernelIdeal.S64x100000 .f32) (hx : ∀ i, x i ≠ ⊥ ∧ x i ≠ ⊤) :
    KernelIdeal.Hand.outArr (KernelIdeal.Hand.probs x) = ReferenceIdeal.Hand.softmaxArr x := by
  funext i
  obtain ⟨r, j, rfl⟩ : ∃ (r : Fin 64) (j : Fin 100000), i = ix2 r j :=
    ⟨i 0, i 1, by funext a; match a with | ⟨0, _⟩ => rfl | ⟨1, _⟩ => rfl⟩
  have h1 := KernelIdeal.Hand.rprob_pad (KernelIdeal.Hand.row x r) (fun j => hx (ix2 r j)) ⟨j.val / 128, by omega⟩ ⟨j.val % 128, by omega⟩
    (show j.val % 128 + 128 * (j.val / 128) < 100000 by omega)
  have hj : (⟨j.val % 128 + 128 * (j.val / 128), by omega⟩ : Fin 100000) = j := Fin.ext (Nat.mod_add_div _ _)
  rw [KernelIdeal.Hand.outArr_at, ReferenceIdeal.Hand.softmaxArr_at]
  exact h1.trans (by
    show Ideal.div (KernelIdeal.Hand.sexp _ ⟨j.val % 128 + 128 * (j.val / 128), by omega⟩) _ = _
    rw [hj]; rfl)

theorem algebraic : Cert.algebraic_KernelIdeal_ReferenceIdeal_pre_finite_logits (hKernelIdeal := Cert.KernelIdeal.Gen.facts)
    (hReferenceIdeal := Cert.ReferenceIdeal.Gen.facts) (hPre_finite_logits := Cert.Pre_finite_logits.facts) := by
  intro m g m' g' hpre hag
  refine ⟨fun c => ReferenceIdeal.Hand.softmaxArr (m ((c.tc : Thread Cert.KernelIdeal.nD Cert.KernelIdeal.τ).loc Cert.KernelIdeal.main_arg0)),
    (θ_run _ _ _).mono (fun r h c => ⟨?_, ?_⟩) (θ_run_and (KernelIdeal.Hand.run_all m g) (KernelIdeal.Hand.frame_all m g)),
    (θ_run _ _ _).mono (fun r h c => ⟨?_, (h.1 c).2⟩) (ReferenceIdeal.Hand.run_all m' g')⟩
  · refine ((h.1.1 c).2 Cert.KernelIdeal.main_v4 (Pipeline.mem_restRefs_of Cert.KernelIdeal.main_v4 (by decide) (by decide))).trans ?_
    rw [KernelIdeal.Hand.tail_eq]
    exact value _ (Cert.Pre_finite_logits.finite_of_fn _ (hpre c))
  · exact h.2.1 c
  · exact (h.1 c).1.trans (congrArg ReferenceIdeal.Hand.softmaxArr (hag c))

/-- A row continued by zeros is the padded row laid flat. -/
theorem flat_pad (g : Fin 100000 → EReal) (n : ℕ) : Kernel2Ideal.Hand.flat (Kernel2Ideal.Hand.padRow g) n = Reference2Ideal.Hand.ext g n := by
  have e : 128 * (n / 128) + n % 128 = n := Nat.div_add_mod n 128
  unfold Kernel2Ideal.Hand.flat Reference2Ideal.Hand.ext Kernel2Ideal.Hand.padRow
  by_cases h : n < 100000
  · rw [dif_pos (by omega : n < 100352), dif_pos h, dif_pos (by show 128 * (n / 128) + n % 128 < 100000; omega)]
    exact congrArg g (Fin.ext e)
  · rw [dif_neg h]
    by_cases h' : n < 100352
    · rw [dif_pos h', dif_neg (by show ¬ 128 * (n / 128) + n % 128 < 100000; omega)]
    · rw [dif_neg h']

/-- The second kernel's result and the reference's, from the same probabilities. -/
theorem value2 (x : FVec Ideal Cert.Kernel2Ideal.S64x100000 .f32) :
    Kernel2Ideal.Hand.outArr (Kernel2Ideal.Hand.keptArr x) = Reference2Ideal.Hand.maskArr x := by
  funext i
  obtain ⟨r, j, rfl⟩ : ∃ (r : Fin 64) (j : Fin 100000), i = ix2 r j :=
    ⟨i 0, i 1, by funext a; match a with | ⟨0, _⟩ => rfl | ⟨1, _⟩ => rfl⟩
  have e : 128 * (j.val / 128) + j.val % 128 = j.val := Nat.div_add_mod j.val 128
  have hp : Kernel2Ideal.Hand.padRow (Kernel2Ideal.Hand.row x r) ⟨j.val % 128, by omega⟩ ⟨j.val / 128, by omega⟩ = Reference2Ideal.Hand.row x r j := by
    unfold Kernel2Ideal.Hand.padRow
    rw [dif_pos (by show 128 * (j.val / 128) + j.val % 128 < 100000; omega)]
    exact congrArg (Kernel2Ideal.Hand.row x r) (Fin.ext e)
  rw [Kernel2Ideal.Hand.outArr_at, Reference2Ideal.Hand.maskArr_at]
  show Kernel2Ideal.Hand.kept (Kernel2Ideal.Hand.padRow (Kernel2Ideal.Hand.row x r)) ⟨j.val % 128, _⟩ ⟨j.val / 128, _⟩ = _
  unfold Kernel2Ideal.Hand.kept
  rw [hp, e]
  simp only [flat_pad]
  rfl

theorem algebraic2 : Cert.algebraic_Kernel2Ideal_Reference2Ideal (hKernel2Ideal := Cert.Kernel2Ideal.Gen.facts)
    (hReference2Ideal := Cert.Reference2Ideal.Gen.facts) := by
  intro m g m' g' hpre hag
  refine ⟨fun c => Reference2Ideal.Hand.maskArr (m ((c.tc : Thread Cert.Kernel2Ideal.nD Cert.Kernel2Ideal.τ).loc Cert.Kernel2Ideal.main_arg0)),
    (θ_run _ _ _).mono (fun r h c => ⟨?_, ?_⟩) (θ_run_and (Kernel2Ideal.Hand.run_all m g) (Kernel2Ideal.Hand.frame_all m g)),
    (θ_run _ _ _).mono (fun r h c => ⟨?_, (h.1 c).2⟩) (Reference2Ideal.Hand.run_all m' g')⟩
  · refine ((h.1.1 c).2 Cert.Kernel2Ideal.main_v6 (Pipeline.mem_restRefs_of Cert.Kernel2Ideal.main_v6 (by decide) (by decide))).trans ?_
    rw [Kernel2Ideal.Hand.tail_eq]
    exact value2 _
  · exact h.2.1 c
  · exact (h.1 c).1.trans (congrArg Reference2Ideal.Hand.maskArr (hag c))

/-- The third kernel's result and the reference's, from the same probabilities, kept probabilities and draws. -/
theorem value3 (p ps : FVec Ideal Cert.Kernel3Ideal.S64x100000 .f32) (u : FVec Ideal Cert.Kernel3Ideal.S64 .f32) :
    Kernel3Ideal.Hand.tokens p ps u = Reference3Ideal.Hand.tokArr p ps u := by
  funext i
  obtain ⟨r, rfl⟩ : ∃ r : Fin 64, i = ix2 r 0 :=
    ⟨i 0, Kernel3Ideal.Hand.ix2_of_val i _ _ rfl (by have : (i 1).val < 1 := (i 1).isLt; show (i 1).val = 0; omega)⟩
  exact (Reference3Ideal.Hand.tokArr_at p ps u r).symm

theorem algebraic3 : Cert.algebraic_Kernel3Ideal_Reference3Ideal_pre_sampled (hKernel3Ideal := Cert.Kernel3Ideal.Gen.facts)
    (hReference3Ideal := Cert.Reference3Ideal.Gen.facts) (hPre_sampled := Cert.Pre_sampled.facts) := by
  intro m g m' g' hpre hag
  refine ⟨fun c => Reference3Ideal.Hand.tokArr (m ((c.tc : Thread Cert.Kernel3Ideal.nD Cert.Kernel3Ideal.τ).loc Cert.Kernel3Ideal.main_arg0))
      (m ((c.tc : Thread Cert.Kernel3Ideal.nD Cert.Kernel3Ideal.τ).loc Cert.Kernel3Ideal.main_arg1))
      (m ((c.tc : Thread Cert.Kernel3Ideal.nD Cert.Kernel3Ideal.τ).loc Cert.Kernel3Ideal.main_arg2)),
    (θ_run _ _ _).mono (fun r h c => ⟨?_, ?_⟩) (θ_run_and (Kernel3Ideal.Hand.run_all m g) (Kernel3Ideal.Hand.frame_all m g)),
    (θ_run _ _ _).mono (fun r h c => ⟨?_, (h.1 c).2⟩) (Reference3Ideal.Hand.run_all m' g')⟩
  · obtain ⟨hp, hs⟩ := @Cert.Pre_sampled.sampled_of_fn Cert.Pre_sampled.facts _ _ _ (hpre c)
    exact ((h.1.1 c).1 5).trans ((Kernel3Ideal.Hand.arr_eq m c hp hs).trans (value3 _ _ _))
  · exact h.2.1 c
  · obtain ⟨h0, h1, h2⟩ := hag c
    refine (h.1 c).1.trans ?_
    rw [h0, h1, h2]

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts, Cert.Pre_finite_logits.facts,
    Cert.Pre_sampled.facts,
    fun m g _ => Cert.Kernel.Hand.frame_all m g,
    fun m g _ => Cert.KernelIdeal.Hand.frame_all m g,
    fun m g _ => Cert.KernelIdeal.Hand.frame_all m g,
    fun m g _ => (θ_run _ _ _).mono (fun _ h => ⟨fun c => (h.1 c).2, h.2⟩) (Cert.ReferenceIdeal.Hand.run_all m g),
    fun m g _ => (θ_run _ _ _).mono (fun _ h => ⟨fun c => (h.1 c).2, h.2⟩) (Cert.ReferenceIdeal.Hand.run_all m g),
    fun m g _ => Cert.Kernel2.Hand.frame_all m g,
    fun m g _ => Cert.Kernel2Ideal.Hand.frame_all m g,
    fun m g _ => (θ_run _ _ _).mono (fun _ h => ⟨fun c => (h.1 c).2, h.2⟩) (Cert.Reference2Ideal.Hand.run_all m g),
    fun m g _ => Cert.Kernel3.Hand.frame_all m g,
    fun m g _ => Cert.Kernel3Ideal.Hand.frame_all m g,
    fun m g _ => Cert.Kernel3Ideal.Hand.frame_all m g,
    fun m g _ => (θ_run _ _ _).mono (fun _ h => ⟨fun c => (h.1 c).2, h.2⟩) (Cert.Reference3Ideal.Hand.run_all m g),
    fun m g _ => (θ_run _ _ _).mono (fun _ h => ⟨fun c => (h.1 c).2, h.2⟩) (Cert.Reference3Ideal.Hand.run_all m g),
    IdealRules.named_const.statement Cert.KernelIdeal.κ "neg" .f32 0xF149F2CA#32 ⊥ rfl,
    algebraic, trivial, algebraic2, trivial, algebraic3⟩

end Cert.Proof

end
